-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x6404x4096 : Shape := ⟨3, ![6, 6404, 4096]⟩
abbrev S6x6404x32 : Shape := ⟨3, ![6, 6404, 32]⟩
abbrev S8x4096x5x128 : Shape := ⟨4, ![8, 4096, 5, 128]⟩
abbrev S8x32x5 : Shape := ⟨3, ![8, 32, 5]⟩
abbrev S8x128 : Shape := ⟨2, ![8, 128]⟩
abbrev S8x5x4096x128 : Shape := ⟨4, ![8, 5, 4096, 128]⟩
abbrev S8x5x32 : Shape := ⟨3, ![8, 5, 32]⟩
abbrev S5x8x32 : Shape := ⟨3, ![5, 8, 32]⟩
abbrev S5x8x1x32 : Shape := ⟨4, ![5, 8, 1, 32]⟩
abbrev S6x6404x5x8x128 : Shape := ⟨5, ![6, 6404, 5, 8, 128]⟩
abbrev S6x5x6404x8 : Shape := ⟨4, ![6, 5, 6404, 8]⟩
abbrev S1x544x4096 : Shape := ⟨3, ![1, 544, 4096]⟩
abbrev S1x544x32 : Shape := ⟨3, ![1, 544, 32]⟩
abbrev S8x1x4096x128 : Shape := ⟨4, ![8, 1, 4096, 128]⟩
abbrev S1x8x1x32 : Shape := ⟨4, ![1, 8, 1, 32]⟩
abbrev S1x544x1x8x128 : Shape := ⟨5, ![1, 544, 1, 8, 128]⟩
abbrev S1x1x544x8 : Shape := ⟨4, ![1, 1, 544, 8]⟩
abbrev S544x4096 : Shape := ⟨2, ![544, 4096]⟩
abbrev S4096x1024 : Shape := ⟨2, ![4096, 1024]⟩
abbrev S544x1024 : Shape := ⟨2, ![544, 1024]⟩
abbrev S1x544x1 : Shape := ⟨3, ![1, 544, 1]⟩
abbrev S544x1 : Shape := ⟨2, ![544, 1]⟩
abbrev S544x128 : Shape := ⟨2, ![544, 128]⟩
abbrev S1x544x128 : Shape := ⟨3, ![1, 544, 128]⟩
abbrev S1x1x128x128 : Shape := ⟨4, ![1, 1, 128, 128]⟩
abbrev S128x128 : Shape := ⟨2, ![128, 128]⟩
abbrev S1x1x1x1 : Shape := ⟨4, ![1, 1, 1, 1]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S32x1x128 : Shape := ⟨3, ![32, 1, 128]⟩
abbrev S32x4x128 : Shape := ⟨3, ![32, 4, 128]⟩
abbrev S1x32x1x4x128 : Shape := ⟨5, ![1, 32, 1, 4, 128]⟩
abbrev S32x8 : Shape := ⟨2, ![32, 8]⟩
abbrev S1x1x32x8 : Shape := ⟨4, ![1, 1, 32, 8]⟩
abbrev S8x6x6404x5x128 : Shape := ⟨5, ![8, 6, 6404, 5, 128]⟩
abbrev S8x6x6404x5 : Shape := ⟨4, ![8, 6, 6404, 5]⟩

abbrev nBuf : Space → Nat
  | .hbm => 23
  | .vmem => 20
  | .smem => 4
  | _ => 0

abbrev bufTy : (tb : Table) → Fin (tcTables nBuf tb) → BufTy
  | .hbm, ⟨0, _⟩ => ⟨S6x6404x4096, .fp8e4m3⟩
  | .hbm, ⟨1, _⟩ => ⟨S6x6404x32, .f32⟩
  | .hbm, ⟨2, _⟩ => ⟨S8x4096x5x128, .fp8e4m3⟩
  | .hbm, ⟨3, _⟩ => ⟨S8x32x5, .f32⟩
  | .hbm, ⟨4, _⟩ => ⟨S8x4096x5x128, .fp8e4m3⟩
  | .hbm, ⟨5, _⟩ => ⟨S8x32x5, .f32⟩
  | .hbm, ⟨6, _⟩ => ⟨S8x128, .f32⟩
  | .hbm, ⟨7, _⟩ => ⟨S8x5x4096x128, .fp8e4m3⟩
  | .hbm, ⟨8, _⟩ => ⟨S8x5x4096x128, .fp8e4m3⟩
  | .hbm, ⟨9, _⟩ => ⟨S8x5x32, .f32⟩
  | .hbm, ⟨10, _⟩ => ⟨S8x5x32, .f32⟩
  | .hbm, ⟨11, _⟩ => ⟨S5x8x32, .f32⟩
  | .hbm, ⟨12, _⟩ => ⟨S5x8x1x32, .f32⟩
  | .hbm, ⟨13, _⟩ => ⟨S5x8x32, .f32⟩
  | .hbm, ⟨14, _⟩ => ⟨S5x8x1x32, .f32⟩
  | .hbm, ⟨15, _⟩ => ⟨S6x6404x5x8x128, .fp8e4m3⟩
  | .hbm, ⟨16, _⟩ => ⟨S6x5x6404x8, .f32⟩
  | .hbm, ⟨17, _⟩ => ⟨S6x6404x5x8x128, .fp8e4m3⟩
  | .hbm, ⟨18, _⟩ => ⟨S6x5x6404x8, .f32⟩
  | .hbm, ⟨19, _⟩ => ⟨S8x6x6404x5x128, .fp8e4m3⟩
  | .hbm, ⟨20, _⟩ => ⟨S8x6x6404x5x128, .fp8e4m3⟩
  | .hbm, ⟨21, _⟩ => ⟨S8x6x6404x5, .f32⟩
  | .hbm, ⟨22, _⟩ => ⟨S8x6x6404x5, .f32⟩
  | .local _ .vmem, ⟨0, _⟩ => ⟨S1x544x4096, .fp8e4m3⟩
  | .local _ .vmem, ⟨1, _⟩ => ⟨S1x544x4096, .fp8e4m3⟩
  | .local _ .vmem, ⟨2, _⟩ => ⟨S1x544x32, .f32⟩
  | .local _ .vmem, ⟨3, _⟩ => ⟨S1x544x32, .f32⟩
  | .local _ .vmem, ⟨4, _⟩ => ⟨S8x1x4096x128, .fp8e4m3⟩
  | .local _ .vmem, ⟨5, _⟩ => ⟨S8x1x4096x128, .fp8e4m3⟩
  | .local _ .vmem, ⟨6, _⟩ => ⟨S8x1x4096x128, .fp8e4m3⟩
  | .local _ .vmem, ⟨7, _⟩ => ⟨S8x1x4096x128, .fp8e4m3⟩
  | .local _ .vmem, ⟨8, _⟩ => ⟨S8x128, .f32⟩
  | .local _ .vmem, ⟨9, _⟩ => ⟨S1x544x1x8x128, .fp8e4m3⟩
  | .local _ .vmem, ⟨10, _⟩ => ⟨S1x544x1x8x128, .fp8e4m3⟩
  | .local _ .vmem, ⟨11, _⟩ => ⟨S1x1x544x8, .f32⟩
  | .local _ .vmem, ⟨12, _⟩ => ⟨S1x1x544x8, .f32⟩
  | .local _ .vmem, ⟨13, _⟩ => ⟨S1x544x1x8x128, .fp8e4m3⟩
  | .local _ .vmem, ⟨14, _⟩ => ⟨S1x544x1x8x128, .fp8e4m3⟩
  | .local _ .vmem, ⟨15, _⟩ => ⟨S1x1x544x8, .f32⟩
  | .local _ .vmem, ⟨16, _⟩ => ⟨S1x1x544x8, .f32⟩
  | .local _ .vmem, ⟨17, _⟩ => ⟨S544x4096, .bf16⟩
  | .local _ .vmem, ⟨18, _⟩ => ⟨S4096x1024, .bf16⟩
  | .local _ .vmem, ⟨19, _⟩ => ⟨S544x1024, .f32⟩
  | .local _ .smem, ⟨0, _⟩ => ⟨S1x8x1x32, .f32⟩
  | .local _ .smem, ⟨1, _⟩ => ⟨S1x8x1x32, .f32⟩
  | .local _ .smem, ⟨2, _⟩ => ⟨S1x8x1x32, .f32⟩
  | .local _ .smem, ⟨3, _⟩ => ⟨S1x8x1x32, .f32⟩
  | _, _ => ⟨S6x6404x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_stg3_0 : Ref sig .tc := ⟨.smem, 0, rfl⟩
abbrev cc0_stg3_1 : Ref sig .tc := ⟨.smem, 1, rfl⟩
abbrev cc0_stg5_0 : Ref sig .tc := ⟨.smem, 2, rfl⟩
abbrev cc0_stg5_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![6, 12, 5], ![false, false, false]⟩

@[reducible] def k0_t1_loop : Scf.Loop 32 :=
  let c0_i32_1 : BitVec 32 := 0#32
  let c32_i32 : BitVec 32 := 32#32
  let v3 : BitVec 32 := Scalar.addi c0_i32_1 c32_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg17 : BitVec 32 := Scf.iv c0_i32_1 c1_i32 k0_t1
  let c128_i32 : BitVec 32 := 128#32
  let v33 : BitVec 32 := Scalar.muli arg17 c128_i32
  v33
def k0_off1 (k0_t1 : Fin k0_t1_loop.trips) : Fin 4 → Nat :=
  let c0_82 : Index := 0#32
  let c0_83 : Index := 0#32
  let c0_i32_1 : BitVec 32 := 0#32
  let c1_i32 : BitVec 32 := 1#32
  let arg17 : BitVec 32 := Scf.iv c0_i32_1 c1_i32 k0_t1
  let c128_i32 : BitVec 32 := 128#32
  let v33 : BitVec 32 := Scalar.muli arg17 c128_i32
  let v34 : BitVec 32 := v33
  let v35 : Index := Scalar.indexCast v34
  let c0_84 : Index := 0#32
  ![0, 0, v35.toNat, 0]
def k0_off2 (k0_t1 : Fin k0_t1_loop.trips) : Fin 4 → Nat :=
  let c0_85 : Index := 0#32
  let c0_86 : Index := 0#32
  let c0_87 : Index := 0#32
  let c0_i32_1 : BitVec 32 := 0#32
  let c1_i32 : BitVec 32 := 1#32
  let arg17 : BitVec 32 := Scf.iv c0_i32_1 c1_i32 k0_t1
  let v39 : Index := Scalar.indexCast arg17
  ![0, 0, 0, v39.toNat]
def k0_off3 (k0_t1 : Fin k0_t1_loop.trips) : Fin 2 → Nat :=
  let c0_i32_1 : BitVec 32 := 0#32
  let c1_i32 : BitVec 32 := 1#32
  let arg17 : BitVec 32 := Scf.iv c0_i32_1 c1_i32 k0_t1
  let c128_i32 : BitVec 32 := 128#32
  let v33 : BitVec 32 := Scalar.muli arg17 c128_i32
  let v34 : BitVec 32 := v33
  let v44 : Index := Scalar.indexCast v34
  let c0_88 : Index := 0#32
  ![v44.toNat, 0]
@[reducible] def k0_t2_loop : Scf.Loop 32 :=
  let c0_i32_3 : BitVec 32 := 0#32
  let c32_i32_4 : BitVec 32 := 32#32
  let v4 : BitVec 32 := Scalar.addi c0_i32_3 c32_i32_4
  let c1_i32_5 : BitVec 32 := 1#32
  ⟨c0_i32_3, v4, c1_i32_5⟩
def k0_mult2 (k0_t2 : Fin k0_t2_loop.trips) : BitVec 32 :=
  let c0_i32_3 : BitVec 32 := 0#32
  let c1_i32_5 : BitVec 32 := 1#32
  let arg17 : BitVec 32 := Scf.iv c0_i32_3 c1_i32_5 k0_t2
  let c128_i32 : BitVec 32 := 128#32
  let v33 : BitVec 32 := Scalar.muli arg17 c128_i32
  v33
def k0_off4 (k0_t2 : Fin k0_t2_loop.trips) : Fin 4 → Nat :=
  let c1 : Index := 1#32
  let c0_82 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v33 : BitVec 32 := Scalar.muli arg17 c128_i32
  let v34 : BitVec 32 := v33
  let v35 : Index := Scalar.indexCast v34
  let c0_83 : Index := 0#32
  ![1, 0, v35.toNat, 0]
def k0_off5 (k0_t2 : Fin k0_t2_loop.trips) : Fin 4 → Nat :=
  let c0_84 : Index := 0#32
  let c1_85 : Index := 1#32
  let c0_86 : Index := 0#32
  let c0_i32_3 : BitVec 32 := 0#32
  let c1_i32_5 : BitVec 32 := 1#32
  let arg17 : BitVec 32 := Scf.iv c0_i32_3 c1_i32_5 k0_t2
  let v39 : Index := Scalar.indexCast arg17
  ![0, 1, 0, v39.toNat]
def k0_off6 (k0_t2 : Fin k0_t2_loop.trips) : Fin 2 → Nat :=
  let c0_i32_3 : BitVec 32 := 0#32
  let c1_i32_5 : BitVec 32 := 1#32
  let arg17 : BitVec 32 := Scf.iv c0_i32_3 c1_i32_5 k0_t2
  let c128_i32 : BitVec 32 := 128#32
  let v33 : BitVec 32 := Scalar.muli arg17 c128_i32
  let v34 : BitVec 32 := v33
  let v44 : Index := Scalar.indexCast v34
  let c128 : Index := 128#32
  ![v44.toNat, 128]
@[reducible] def k0_t3_loop : Scf.Loop 32 :=
  let c0_i32_7 : BitVec 32 := 0#32
  let c32_i32_8 : BitVec 32 := 32#32
  let v5 : BitVec 32 := Scalar.addi c0_i32_7 c32_i32_8
  let c1_i32_9 : BitVec 32 := 1#32
  ⟨c0_i32_7, v5, c1_i32_9⟩
def k0_mult3 (k0_t3 : Fin k0_t3_loop.trips) : BitVec 32 :=
  let c0_i32_7 : BitVec 32 := 0#32
  let c1_i32_9 : BitVec 32 := 1#32
  let arg17 : BitVec 32 := Scf.iv c0_i32_7 c1_i32_9 k0_t3
  let c128_i32 : BitVec 32 := 128#32
  let v33 : BitVec 32 := Scalar.muli arg17 c128_i32
  v33
def k0_off7 (k0_t3 : Fin k0_t3_loop.trips) : Fin 4 → Nat :=
  let c2 : Index := 2#32
  let c0_82 : Index := 0#32
  let c0_i32_7 : BitVec 32 := 0#32
  let c1_i32_9 : BitVec 32 := 1#32
  let arg17 : BitVec 32 := Scf.iv c0_i32_7 c1_i32_9 k0_t3
  let c128_i32 : BitVec 32 := 128#32
  let v33 : BitVec 32 := Scalar.muli arg17 c128_i32
  let v34 : BitVec 32 := v33
  let v35 : Index := Scalar.indexCast v34
  let c0_83 : Index := 0#32
  ![2, 0, v35.toNat, 0]
def k0_off8 (k0_t3 : Fin k0_t3_loop.trips) : Fin 4 → Nat :=
  let c0_84 : Index := 0#32
  let c2_85 : Index := 2#32
  let c0_86 : Index := 0#32
  let c0_i32_7 : BitVec 32 := 0#32
  let c1_i32_9 : BitVec 32 := 1#32
  let arg17 : BitVec 32 := Scf.iv c0_i32_7 c1_i32_9 k0_t3
  let v39 : Index := Scalar.indexCast arg17
  ![0, 2, 0, v39.toNat]
def k0_off9 (k0_t3 : Fin k0_t3_loop.trips) : Fin 2 → Nat :=
  let c0_i32_7 : BitVec 32 := 0#32
  let c1_i32_9 : BitVec 32 := 1#32
  let arg17 : BitVec 32 := Scf.iv c0_i32_7 c1_i32_9 k0_t3
  let c128_i32 : BitVec 32 := 128#32
  let v33 : BitVec 32 := Scalar.muli arg17 c128_i32
  let v34 : BitVec 32 := v33
  let v44 : Index := Scalar.indexCast v34
  let c256 : Index := 256#32
  ![v44.toNat, 256]
@[reducible] def k0_t4_loop : Scf.Loop 32 :=
  let c0_i32_11 : BitVec 32 := 0#32
  let c32_i32_12 : BitVec 32 := 32#32
  let v6 : BitVec 32 := Scalar.addi c0_i32_11 c32_i32_12
  let c1_i32_13 : BitVec 32 := 1#32
  ⟨c0_i32_11, v6, c1_i32_13⟩
def k0_mult4 (k0_t4 : Fin k0_t4_loop.trips) : BitVec 32 :=
  let c0_i32_11 : BitVec 32 := 0#32
  let c1_i32_13 : BitVec 32 := 1#32
  let arg17 : BitVec 32 := Scf.iv c0_i32_11 c1_i32_13 k0_t4
  let c128_i32 : BitVec 32 := 128#32
  let v33 : BitVec 32 := Scalar.muli arg17 c128_i32
  v33
def k0_off10 (k0_t4 : Fin k0_t4_loop.trips) : Fin 4 → Nat :=
  let c3 : Index := 3#32
  let c0_82 : Index := 0#32
  let c0_i32_11 : BitVec 32 := 0#32
  let c1_i32_13 : BitVec 32 := 1#32
  let arg17 : BitVec 32 := Scf.iv c0_i32_11 c1_i32_13 k0_t4
  let c128_i32 : BitVec 32 := 128#32
  let v33 : BitVec 32 := Scalar.muli arg17 c128_i32
  let v34 : BitVec 32 := v33
  let v35 : Index := Scalar.indexCast v34
  let c0_83 : Index := 0#32
  ![3, 0, v35.toNat, 0]
def k0_off11 (k0_t4 : Fin k0_t4_loop.trips) : Fin 4 → Nat :=
  let c0_84 : Index := 0#32
  let c3_85 : Index := 3#32
  let c0_86 : Index := 0#32
  let c0_i32_11 : BitVec 32 := 0#32
  let c1_i32_13 : BitVec 32 := 1#32
  let arg17 : BitVec 32 := Scf.iv c0_i32_11 c1_i32_13 k0_t4
  let v39 : Index := Scalar.indexCast arg17
  ![0, 3, 0, v39.toNat]
def k0_off12 (k0_t4 : Fin k0_t4_loop.trips) : Fin 2 → Nat :=
  let c0_i32_11 : BitVec 32 := 0#32
  let c1_i32_13 : BitVec 32 := 1#32
  let arg17 : BitVec 32 := Scf.iv c0_i32_11 c1_i32_13 k0_t4
  let c128_i32 : BitVec 32 := 128#32
  let v33 : BitVec 32 := Scalar.muli arg17 c128_i32
  let v34 : BitVec 32 := v33
  let v44 : Index := Scalar.indexCast v34
  let c384 : Index := 384#32
  ![v44.toNat, 384]
@[reducible] def k0_t5_loop : Scf.Loop 32 :=
  let c0_i32_15 : BitVec 32 := 0#32
  let c32_i32_16 : BitVec 32 := 32#32
  let v7 : BitVec 32 := Scalar.addi c0_i32_15 c32_i32_16
  let c1_i32_17 : BitVec 32 := 1#32
  ⟨c0_i32_15, v7, c1_i32_17⟩
def k0_mult5 (k0_t5 : Fin k0_t5_loop.trips) : BitVec 32 :=
  let c0_i32_15 : BitVec 32 := 0#32
  let c1_i32_17 : BitVec 32 := 1#32
  let arg17 : BitVec 32 := Scf.iv c0_i32_15 c1_i32_17 k0_t5
  let c128_i32 : BitVec 32 := 128#32
  let v33 : BitVec 32 := Scalar.muli arg17 c128_i32
  v33
def k0_off13 (k0_t5 : Fin k0_t5_loop.trips) : Fin 4 → Nat :=
  let c4 : Index := 4#32
  let c0_82 : Index := 0#32
  let c0_i32_15 : BitVec 32 := 0#32
  let c1_i32_17 : BitVec 32 := 1#32
  let arg17 : BitVec 32 := Scf.iv c0_i32_15 c1_i32_17 k0_t5
  let c128_i32 : BitVec 32 := 128#32
  let v33 : BitVec 32 := Scalar.muli arg17 c128_i32
  let v34 : BitVec 32 := v33
  let v35 : Index := Scalar.indexCast v34
  let c0_83 : Index := 0#32
  ![4, 0, v35.toNat, 0]
def k0_off14 (k0_t5 : Fin k0_t5_loop.trips) : Fin 4 → Nat :=
  let c0_84 : Index := 0#32
  let c4_85 : Index := 4#32
  let c0_86 : Index := 0#32
  let c0_i32_15 : BitVec 32 := 0#32
  let c1_i32_17 : BitVec 32 := 1#32
  let arg17 : BitVec 32 := Scf.iv c0_i32_15 c1_i32_17 k0_t5
  let v39 : Index := Scalar.indexCast arg17
  ![0, 4, 0, v39.toNat]
def k0_off15 (k0_t5 : Fin k0_t5_loop.trips) : Fin 2 → Nat :=
  let c0_i32_15 : BitVec 32 := 0#32
  let c1_i32_17 : BitVec 32 := 1#32
  let arg17 : BitVec 32 := Scf.iv c0_i32_15 c1_i32_17 k0_t5
  let c128_i32 : BitVec 32 := 128#32
  let v33 : BitVec 32 := Scalar.muli arg17 c128_i32
  let v34 : BitVec 32 := v33
  let v44 : Index := Scalar.indexCast v34
  let c512 : Index := 512#32
  ![v44.toNat, 512]
@[reducible] def k0_t6_loop : Scf.Loop 32 :=
  let c0_i32_19 : BitVec 32 := 0#32
  let c32_i32_20 : BitVec 32 := 32#32
  let v8 : BitVec 32 := Scalar.addi c0_i32_19 c32_i32_20
  let c1_i32_21 : BitVec 32 := 1#32
  ⟨c0_i32_19, v8, c1_i32_21⟩
def k0_mult6 (k0_t6 : Fin k0_t6_loop.trips) : BitVec 32 :=
  let c0_i32_19 : BitVec 32 := 0#32
  let c1_i32_21 : BitVec 32 := 1#32
  let arg17 : BitVec 32 := Scf.iv c0_i32_19 c1_i32_21 k0_t6
  let c128_i32 : BitVec 32 := 128#32
  let v33 : BitVec 32 := Scalar.muli arg17 c128_i32
  v33
def k0_off16 (k0_t6 : Fin k0_t6_loop.trips) : Fin 4 → Nat :=
  let c5 : Index := 5#32
  let c0_82 : Index := 0#32
  let c0_i32_19 : BitVec 32 := 0#32
  let c1_i32_21 : BitVec 32 := 1#32
  let arg17 : BitVec 32 := Scf.iv c0_i32_19 c1_i32_21 k0_t6
  let c128_i32 : BitVec 32 := 128#32
  let v33 : BitVec 32 := Scalar.muli arg17 c128_i32
  let v34 : BitVec 32 := v33
  let v35 : Index := Scalar.indexCast v34
  let c0_83 : Index := 0#32
  ![5, 0, v35.toNat, 0]
def k0_off17 (k0_t6 : Fin k0_t6_loop.trips) : Fin 4 → Nat :=
  let c0_84 : Index := 0#32
  let c5_85 : Index := 5#32
  let c0_86 : Index := 0#32
  let c0_i32_19 : BitVec 32 := 0#32
  let c1_i32_21 : BitVec 32 := 1#32
  let arg17 : BitVec 32 := Scf.iv c0_i32_19 c1_i32_21 k0_t6
  let v39 : Index := Scalar.indexCast arg17
  ![0, 5, 0, v39.toNat]
def k0_off18 (k0_t6 : Fin k0_t6_loop.trips) : Fin 2 → Nat :=
  let c0_i32_19 : BitVec 32 := 0#32
  let c1_i32_21 : BitVec 32 := 1#32
  let arg17 : BitVec 32 := Scf.iv c0_i32_19 c1_i32_21 k0_t6
  let c128_i32 : BitVec 32 := 128#32
  let v33 : BitVec 32 := Scalar.muli arg17 c128_i32
  let v34 : BitVec 32 := v33
  let v44 : Index := Scalar.indexCast v34
  let c640 : Index := 640#32
  ![v44.toNat, 640]
@[reducible] def k0_t7_loop : Scf.Loop 32 :=
  let c0_i32_23 : BitVec 32 := 0#32
  let c32_i32_24 : BitVec 32 := 32#32
  let v9 : BitVec 32 := Scalar.addi c0_i32_23 c32_i32_24
  let c1_i32_25 : BitVec 32 := 1#32
  ⟨c0_i32_23, v9, c1_i32_25⟩
def k0_mult7 (k0_t7 : Fin k0_t7_loop.trips) : BitVec 32 :=
  let c0_i32_23 : BitVec 32 := 0#32
  let c1_i32_25 : BitVec 32 := 1#32
  let arg17 : BitVec 32 := Scf.iv c0_i32_23 c1_i32_25 k0_t7
  let c128_i32 : BitVec 32 := 128#32
  let v33 : BitVec 32 := Scalar.muli arg17 c128_i32
  v33
def k0_off19 (k0_t7 : Fin k0_t7_loop.trips) : Fin 4 → Nat :=
  let c6 : Index := 6#32
  let c0_82 : Index := 0#32
  let c0_i32_23 : BitVec 32 := 0#32
  let c1_i32_25 : BitVec 32 := 1#32
  let arg17 : BitVec 32 := Scf.iv c0_i32_23 c1_i32_25 k0_t7
  let c128_i32 : BitVec 32 := 128#32
  let v33 : BitVec 32 := Scalar.muli arg17 c128_i32
  let v34 : BitVec 32 := v33
  let v35 : Index := Scalar.indexCast v34
  let c0_83 : Index := 0#32
  ![6, 0, v35.toNat, 0]
def k0_off20 (k0_t7 : Fin k0_t7_loop.trips) : Fin 4 → Nat :=
  let c0_84 : Index := 0#32
  let c6_85 : Index := 6#32
  let c0_86 : Index := 0#32
  let c0_i32_23 : BitVec 32 := 0#32
  let c1_i32_25 : BitVec 32 := 1#32
  let arg17 : BitVec 32 := Scf.iv c0_i32_23 c1_i32_25 k0_t7
  let v39 : Index := Scalar.indexCast arg17
  ![0, 6, 0, v39.toNat]
def k0_off21 (k0_t7 : Fin k0_t7_loop.trips) : Fin 2 → Nat :=
  let c0_i32_23 : BitVec 32 := 0#32
  let c1_i32_25 : BitVec 32 := 1#32
  let arg17 : BitVec 32 := Scf.iv c0_i32_23 c1_i32_25 k0_t7
  let c128_i32 : BitVec 32 := 128#32
  let v33 : BitVec 32 := Scalar.muli arg17 c128_i32
  let v34 : BitVec 32 := v33
  let v44 : Index := Scalar.indexCast v34
  let c768 : Index := 768#32
  ![v44.toNat, 768]
@[reducible] def k0_t8_loop : Scf.Loop 32 :=
  let c0_i32_27 : BitVec 32 := 0#32
  let c32_i32_28 : BitVec 32 := 32#32
  let v10 : BitVec 32 := Scalar.addi c0_i32_27 c32_i32_28
  let c1_i32_29 : BitVec 32 := 1#32
  ⟨c0_i32_27, v10, c1_i32_29⟩
def k0_mult8 (k0_t8 : Fin k0_t8_loop.trips) : BitVec 32 :=
  let c0_i32_27 : BitVec 32 := 0#32
  let c1_i32_29 : BitVec 32 := 1#32
  let arg17 : BitVec 32 := Scf.iv c0_i32_27 c1_i32_29 k0_t8
  let c128_i32 : BitVec 32 := 128#32
  let v33 : BitVec 32 := Scalar.muli arg17 c128_i32
  v33
def k0_off22 (k0_t8 : Fin k0_t8_loop.trips) : Fin 4 → Nat :=
  let c7 : Index := 7#32
  let c0_82 : Index := 0#32
  let c0_i32_27 : BitVec 32 := 0#32
  let c1_i32_29 : BitVec 32 := 1#32
  let arg17 : BitVec 32 := Scf.iv c0_i32_27 c1_i32_29 k0_t8
  let c128_i32 : BitVec 32 := 128#32
  let v33 : BitVec 32 := Scalar.muli arg17 c128_i32
  let v34 : BitVec 32 := v33
  let v35 : Index := Scalar.indexCast v34
  let c0_83 : Index := 0#32
  ![7, 0, v35.toNat, 0]
def k0_off23 (k0_t8 : Fin k0_t8_loop.trips) : Fin 4 → Nat :=
  let c0_84 : Index := 0#32
  let c7_85 : Index := 7#32
  let c0_86 : Index := 0#32
  let c0_i32_27 : BitVec 32 := 0#32
  let c1_i32_29 : BitVec 32 := 1#32
  let arg17 : BitVec 32 := Scf.iv c0_i32_27 c1_i32_29 k0_t8
  let v39 : Index := Scalar.indexCast arg17
  ![0, 7, 0, v39.toNat]
def k0_off24 (k0_t8 : Fin k0_t8_loop.trips) : Fin 2 → Nat :=
  let c0_i32_27 : BitVec 32 := 0#32
  let c1_i32_29 : BitVec 32 := 1#32
  let arg17 : BitVec 32 := Scf.iv c0_i32_27 c1_i32_29 k0_t8
  let c128_i32 : BitVec 32 := 128#32
  let v33 : BitVec 32 := Scalar.muli arg17 c128_i32
  let v34 : BitVec 32 := v33
  let v44 : Index := Scalar.indexCast v34
  let c896 : Index := 896#32
  ![v44.toNat, 896]
@[reducible] def k0_t9_loop : Scf.Loop 32 :=
  let c0_i32_36 : BitVec 32 := 0#32
  let c17_i32 : BitVec 32 := 17#32
  let v17 : BitVec 32 := Scalar.addi c0_i32_36 c17_i32
  let c1_i32_37 : BitVec 32 := 1#32
  ⟨c0_i32_36, v17, c1_i32_37⟩
def k0_mult9 (k0_t9 : Fin k0_t9_loop.trips) : BitVec 32 :=
  let c0_i32_36 : BitVec 32 := 0#32
  let c1_i32_37 : BitVec 32 := 1#32
  let arg17 : BitVec 32 := Scf.iv c0_i32_36 c1_i32_37 k0_t9
  let c32_i32_82 : BitVec 32 := 32#32
  let v33 : BitVec 32 := Scalar.muli arg17 c32_i32_82
  v33
def k0_off25 (k0_t9 : Fin k0_t9_loop.trips) : Fin 2 → Nat :=
  let c0_i32_36 : BitVec 32 := 0#32
  let c1_i32_37 : BitVec 32 := 1#32
  let arg17 : BitVec 32 := Scf.iv c0_i32_36 c1_i32_37 k0_t9
  let c32_i32_82 : BitVec 32 := 32#32
  let v33 : BitVec 32 := Scalar.muli arg17 c32_i32_82
  let v34 : BitVec 32 := v33
  let v35 : Index := Scalar.indexCast v34
  let c0_83 : Index := 0#32
  ![v35.toNat, 0]
def k0_off26 (k0_t9 : Fin k0_t9_loop.trips) : Fin 2 → Nat :=
  let c0_i32_36 : BitVec 32 := 0#32
  let c1_i32_37 : BitVec 32 := 1#32
  let arg17 : BitVec 32 := Scf.iv c0_i32_36 c1_i32_37 k0_t9
  let c32_i32_82 : BitVec 32 := 32#32
  let v33 : BitVec 32 := Scalar.muli arg17 c32_i32_82
  let v34 : BitVec 32 := v33
  let v118 : Index := Scalar.indexCast v34
  let c128 : Index := 128#32
  ![v118.toNat, 128]
def k0_off27 (k0_t9 : Fin k0_t9_loop.trips) : Fin 2 → Nat :=
  let c0_i32_36 : BitVec 32 := 0#32
  let c1_i32_37 : BitVec 32 := 1#32
  let arg17 : BitVec 32 := Scf.iv c0_i32_36 c1_i32_37 k0_t9
  let c32_i32_82 : BitVec 32 := 32#32
  let v33 : BitVec 32 := Scalar.muli arg17 c32_i32_82
  let v34 : BitVec 32 := v33
  let v201 : Index := Scalar.indexCast v34
  let c256 : Index := 256#32
  ![v201.toNat, 256]
def k0_off28 (k0_t9 : Fin k0_t9_loop.trips) : Fin 2 → Nat :=
  let c0_i32_36 : BitVec 32 := 0#32
  let c1_i32_37 : BitVec 32 := 1#32
  let arg17 : BitVec 32 := Scf.iv c0_i32_36 c1_i32_37 k0_t9
  let c32_i32_82 : BitVec 32 := 32#32
  let v33 : BitVec 32 := Scalar.muli arg17 c32_i32_82
  let v34 : BitVec 32 := v33
  let v284 : Index := Scalar.indexCast v34
  let c384 : Index := 384#32
  ![v284.toNat, 384]
def k0_off29 (k0_t9 : Fin k0_t9_loop.trips) : Fin 5 → Nat :=
  let c0_167 : Index := 0#32
  let c0_i32_36 : BitVec 32 := 0#32
  let c1_i32_37 : BitVec 32 := 1#32
  let arg17 : BitVec 32 := Scf.iv c0_i32_36 c1_i32_37 k0_t9
  let c32_i32_82 : BitVec 32 := 32#32
  let v33 : BitVec 32 := Scalar.muli arg17 c32_i32_82
  let v34 : BitVec 32 := v33
  let v372 : Index := Scalar.indexCast v34
  let c0_168 : Index := 0#32
  let c0_169 : Index := 0#32
  let c0_170 : Index := 0#32
  ![0, v372.toNat, 0, 0, 0]
def k0_off30 (k0_t9 : Fin k0_t9_loop.trips) : Fin 2 → Nat :=
  let c0_i32_36 : BitVec 32 := 0#32
  let c1_i32_37 : BitVec 32 := 1#32
  let arg17 : BitVec 32 := Scf.iv c0_i32_36 c1_i32_37 k0_t9
  let c32_i32_82 : BitVec 32 := 32#32
  let v33 : BitVec 32 := Scalar.muli arg17 c32_i32_82
  let v34 : BitVec 32 := v33
  let v376 : Index := Scalar.indexCast v34
  let c512 : Index := 512#32
  ![v376.toNat, 512]
def k0_off31 (k0_t9 : Fin k0_t9_loop.trips) : Fin 2 → Nat :=
  let c0_i32_36 : BitVec 32 := 0#32
  let c1_i32_37 : BitVec 32 := 1#32
  let arg17 : BitVec 32 := Scf.iv c0_i32_36 c1_i32_37 k0_t9
  let c32_i32_82 : BitVec 32 := 32#32
  let v33 : BitVec 32 := Scalar.muli arg17 c32_i32_82
  let v34 : BitVec 32 := v33
  let v459 : Index := Scalar.indexCast v34
  let c640 : Index := 640#32
  ![v459.toNat, 640]
def k0_off32 (k0_t9 : Fin k0_t9_loop.trips) : Fin 2 → Nat :=
  let c0_i32_36 : BitVec 32 := 0#32
  let c1_i32_37 : BitVec 32 := 1#32
  let arg17 : BitVec 32 := Scf.iv c0_i32_36 c1_i32_37 k0_t9
  let c32_i32_82 : BitVec 32 := 32#32
  let v33 : BitVec 32 := Scalar.muli arg17 c32_i32_82
  let v34 : BitVec 32 := v33
  let v542 : Index := Scalar.indexCast v34
  let c768 : Index := 768#32
  ![v542.toNat, 768]
def k0_off33 (k0_t9 : Fin k0_t9_loop.trips) : Fin 2 → Nat :=
  let c0_i32_36 : BitVec 32 := 0#32
  let c1_i32_37 : BitVec 32 := 1#32
  let arg17 : BitVec 32 := Scf.iv c0_i32_36 c1_i32_37 k0_t9
  let c32_i32_82 : BitVec 32 := 32#32
  let v33 : BitVec 32 := Scalar.muli arg17 c32_i32_82
  let v34 : BitVec 32 := v33
  let v625 : Index := Scalar.indexCast v34
  let c896 : Index := 896#32
  ![v625.toNat, 896]
def k0_off34 (k0_t9 : Fin k0_t9_loop.trips) : Fin 5 → Nat :=
  let c0_263 : Index := 0#32
  let c0_i32_36 : BitVec 32 := 0#32
  let c1_i32_37 : BitVec 32 := 1#32
  let arg17 : BitVec 32 := Scf.iv c0_i32_36 c1_i32_37 k0_t9
  let c32_i32_82 : BitVec 32 := 32#32
  let v33 : BitVec 32 := Scalar.muli arg17 c32_i32_82
  let v34 : BitVec 32 := v33
  let v713 : Index := Scalar.indexCast v34
  let c0_264 : Index := 0#32
  let c4_265 : Index := 4#32
  let c0_266 : Index := 0#32
  ![0, v713.toNat, 0, 4, 0]
def k0_off35 (k0_t9 : Fin k0_t9_loop.trips) : Fin 4 → Nat :=
  let c0_267 : Index := 0#32
  let c0_268 : Index := 0#32
  let c0_i32_36 : BitVec 32 := 0#32
  let c1_i32_37 : BitVec 32 := 1#32
  let arg17 : BitVec 32 := Scf.iv c0_i32_36 c1_i32_37 k0_t9
  let c32_i32_82 : BitVec 32 := 32#32
  let v33 : BitVec 32 := Scalar.muli arg17 c32_i32_82
  let v34 : BitVec 32 := v33
  let v718 : Index := Scalar.indexCast v34
  let c0_269 : Index := 0#32
  ![0, 0, v718.toNat, 0]
@[reducible] def k0_t10_loop : Scf.Loop 32 :=
  let c0_i32_39 : BitVec 32 := 0#32
  let c32_i32_40 : BitVec 32 := 32#32
  let v18 : BitVec 32 := Scalar.addi c0_i32_39 c32_i32_40
  let c1_i32_41 : BitVec 32 := 1#32
  ⟨c0_i32_39, v18, c1_i32_41⟩
def k0_mult10 (k0_t10 : Fin k0_t10_loop.trips) : BitVec 32 :=
  let c0_i32_39 : BitVec 32 := 0#32
  let c1_i32_41 : BitVec 32 := 1#32
  let arg17 : BitVec 32 := Scf.iv c0_i32_39 c1_i32_41 k0_t10
  let c128_i32 : BitVec 32 := 128#32
  let v33 : BitVec 32 := Scalar.muli arg17 c128_i32
  v33
def k0_off36 (k0_t10 : Fin k0_t10_loop.trips) : Fin 4 → Nat :=
  let c0_82 : Index := 0#32
  let c0_83 : Index := 0#32
  let c0_i32_39 : BitVec 32 := 0#32
  let c1_i32_41 : BitVec 32 := 1#32
  let arg17 : BitVec 32 := Scf.iv c0_i32_39 c1_i32_41 k0_t10
  let c128_i32 : BitVec 32 := 128#32
  let v33 : BitVec 32 := Scalar.muli arg17 c128_i32
  let v34 : BitVec 32 := v33
  let v35 : Index := Scalar.indexCast v34
  let c0_84 : Index := 0#32
  ![0, 0, v35.toNat, 0]
def k0_off37 (k0_t10 : Fin k0_t10_loop.trips) : Fin 4 → Nat :=
  let c0_85 : Index := 0#32
  let c0_86 : Index := 0#32
  let c0_87 : Index := 0#32
  let c0_i32_39 : BitVec 32 := 0#32
  let c1_i32_41 : BitVec 32 := 1#32
  let arg17 : BitVec 32 := Scf.iv c0_i32_39 c1_i32_41 k0_t10
  let v39 : Index := Scalar.indexCast arg17
  ![0, 0, 0, v39.toNat]
def k0_off38 (k0_t10 : Fin k0_t10_loop.trips) : Fin 2 → Nat :=
  let c0_i32_39 : BitVec 32 := 0#32
  let c1_i32_41 : BitVec 32 := 1#32
  let arg17 : BitVec 32 := Scf.iv c0_i32_39 c1_i32_41 k0_t10
  let c128_i32 : BitVec 32 := 128#32
  let v33 : BitVec 32 := Scalar.muli arg17 c128_i32
  let v34 : BitVec 32 := v33
  let v44 : Index := Scalar.indexCast v34
  let c0_88 : Index := 0#32
  ![v44.toNat, 0]
@[reducible] def k0_t11_loop : Scf.Loop 32 :=
  let c0_i32_43 : BitVec 32 := 0#32
  let c32_i32_44 : BitVec 32 := 32#32
  let v19 : BitVec 32 := Scalar.addi c0_i32_43 c32_i32_44
  let c1_i32_45 : BitVec 32 := 1#32
  ⟨c0_i32_43, v19, c1_i32_45⟩
def k0_mult11 (k0_t11 : Fin k0_t11_loop.trips) : BitVec 32 :=
  let c0_i32_43 : BitVec 32 := 0#32
  let c1_i32_45 : BitVec 32 := 1#32
  let arg17 : BitVec 32 := Scf.iv c0_i32_43 c1_i32_45 k0_t11
  let c128_i32 : BitVec 32 := 128#32
  let v33 : BitVec 32 := Scalar.muli arg17 c128_i32
  v33
def k0_off39 (k0_t11 : Fin k0_t11_loop.trips) : Fin 4 → Nat :=
  let c1 : Index := 1#32
  let c0_82 : Index := 0#32
  let c0_i32_43 : BitVec 32 := 0#32
  let c1_i32_45 : BitVec 32 := 1#32
  let arg17 : BitVec 32 := Scf.iv c0_i32_43 c1_i32_45 k0_t11
  let c128_i32 : BitVec 32 := 128#32
  let v33 : BitVec 32 := Scalar.muli arg17 c128_i32
  let v34 : BitVec 32 := v33
  let v35 : Index := Scalar.indexCast v34
  let c0_83 : Index := 0#32
  ![1, 0, v35.toNat, 0]
def k0_off40 (k0_t11 : Fin k0_t11_loop.trips) : Fin 4 → Nat :=
  let c0_84 : Index := 0#32
  let c1_85 : Index := 1#32
  let c0_86 : Index := 0#32
  let c0_i32_43 : BitVec 32 := 0#32
  let c1_i32_45 : BitVec 32 := 1#32
  let arg17 : BitVec 32 := Scf.iv c0_i32_43 c1_i32_45 k0_t11
  let v39 : Index := Scalar.indexCast arg17
  ![0, 1, 0, v39.toNat]
def k0_off41 (k0_t11 : Fin k0_t11_loop.trips) : Fin 2 → Nat :=
  let c0_i32_43 : BitVec 32 := 0#32
  let c1_i32_45 : BitVec 32 := 1#32
  let arg17 : BitVec 32 := Scf.iv c0_i32_43 c1_i32_45 k0_t11
  let c128_i32 : BitVec 32 := 128#32
  let v33 : BitVec 32 := Scalar.muli arg17 c128_i32
  let v34 : BitVec 32 := v33
  let v44 : Index := Scalar.indexCast v34
  let c128 : Index := 128#32
  ![v44.toNat, 128]
@[reducible] def k0_t12_loop : Scf.Loop 32 :=
  let c0_i32_47 : BitVec 32 := 0#32
  let c32_i32_48 : BitVec 32 := 32#32
  let v20 : BitVec 32 := Scalar.addi c0_i32_47 c32_i32_48
  let c1_i32_49 : BitVec 32 := 1#32
  ⟨c0_i32_47, v20, c1_i32_49⟩
def k0_mult12 (k0_t12 : Fin k0_t12_loop.trips) : BitVec 32 :=
  let c0_i32_47 : BitVec 32 := 0#32
  let c1_i32_49 : BitVec 32 := 1#32
  let arg17 : BitVec 32 := Scf.iv c0_i32_47 c1_i32_49 k0_t12
  let c128_i32 : BitVec 32 := 128#32
  let v33 : BitVec 32 := Scalar.muli arg17 c128_i32
  v33
def k0_off42 (k0_t12 : Fin k0_t12_loop.trips) : Fin 4 → Nat :=
  let c2 : Index := 2#32
  let c0_82 : Index := 0#32
  let c0_i32_47 : BitVec 32 := 0#32
  let c1_i32_49 : BitVec 32 := 1#32
  let arg17 : BitVec 32 := Scf.iv c0_i32_47 c1_i32_49 k0_t12
  let c128_i32 : BitVec 32 := 128#32
  let v33 : BitVec 32 := Scalar.muli arg17 c128_i32
  let v34 : BitVec 32 := v33
  let v35 : Index := Scalar.indexCast v34
  let c0_83 : Index := 0#32
  ![2, 0, v35.toNat, 0]
def k0_off43 (k0_t12 : Fin k0_t12_loop.trips) : Fin 4 → Nat :=
  let c0_84 : Index := 0#32
  let c2_85 : Index := 2#32
  let c0_86 : Index := 0#32
  let c0_i32_47 : BitVec 32 := 0#32
  let c1_i32_49 : BitVec 32 := 1#32
  let arg17 : BitVec 32 := Scf.iv c0_i32_47 c1_i32_49 k0_t12
  let v39 : Index := Scalar.indexCast arg17
  ![0, 2, 0, v39.toNat]
def k0_off44 (k0_t12 : Fin k0_t12_loop.trips) : Fin 2 → Nat :=
  let c0_i32_47 : BitVec 32 := 0#32
  let c1_i32_49 : BitVec 32 := 1#32
  let arg17 : BitVec 32 := Scf.iv c0_i32_47 c1_i32_49 k0_t12
  let c128_i32 : BitVec 32 := 128#32
  let v33 : BitVec 32 := Scalar.muli arg17 c128_i32
  let v34 : BitVec 32 := v33
  let v44 : Index := Scalar.indexCast v34
  let c256 : Index := 256#32
  ![v44.toNat, 256]
@[reducible] def k0_t13_loop : Scf.Loop 32 :=
  let c0_i32_51 : BitVec 32 := 0#32
  let c32_i32_52 : BitVec 32 := 32#32
  let v21 : BitVec 32 := Scalar.addi c0_i32_51 c32_i32_52
  let c1_i32_53 : BitVec 32 := 1#32
  ⟨c0_i32_51, v21, c1_i32_53⟩
def k0_mult13 (k0_t13 : Fin k0_t13_loop.trips) : BitVec 32 :=
  let c0_i32_51 : BitVec 32 := 0#32
  let c1_i32_53 : BitVec 32 := 1#32
  let arg17 : BitVec 32 := Scf.iv c0_i32_51 c1_i32_53 k0_t13
  let c128_i32 : BitVec 32 := 128#32
  let v33 : BitVec 32 := Scalar.muli arg17 c128_i32
  v33
def k0_off45 (k0_t13 : Fin k0_t13_loop.trips) : Fin 4 → Nat :=
  let c3 : Index := 3#32
  let c0_82 : Index := 0#32
  let c0_i32_51 : BitVec 32 := 0#32
  let c1_i32_53 : BitVec 32 := 1#32
  let arg17 : BitVec 32 := Scf.iv c0_i32_51 c1_i32_53 k0_t13
  let c128_i32 : BitVec 32 := 128#32
  let v33 : BitVec 32 := Scalar.muli arg17 c128_i32
  let v34 : BitVec 32 := v33
  let v35 : Index := Scalar.indexCast v34
  let c0_83 : Index := 0#32
  ![3, 0, v35.toNat, 0]
def k0_off46 (k0_t13 : Fin k0_t13_loop.trips) : Fin 4 → Nat :=
  let c0_84 : Index := 0#32
  let c3_85 : Index := 3#32
  let c0_86 : Index := 0#32
  let c0_i32_51 : BitVec 32 := 0#32
  let c1_i32_53 : BitVec 32 := 1#32
  let arg17 : BitVec 32 := Scf.iv c0_i32_51 c1_i32_53 k0_t13
  let v39 : Index := Scalar.indexCast arg17
  ![0, 3, 0, v39.toNat]
def k0_off47 (k0_t13 : Fin k0_t13_loop.trips) : Fin 2 → Nat :=
  let c0_i32_51 : BitVec 32 := 0#32
  let c1_i32_53 : BitVec 32 := 1#32
  let arg17 : BitVec 32 := Scf.iv c0_i32_51 c1_i32_53 k0_t13
  let c128_i32 : BitVec 32 := 128#32
  let v33 : BitVec 32 := Scalar.muli arg17 c128_i32
  let v34 : BitVec 32 := v33
  let v44 : Index := Scalar.indexCast v34
  let c384 : Index := 384#32
  ![v44.toNat, 384]
@[reducible] def k0_t14_loop : Scf.Loop 32 :=
  let c0_i32_55 : BitVec 32 := 0#32
  let c32_i32_56 : BitVec 32 := 32#32
  let v22 : BitVec 32 := Scalar.addi c0_i32_55 c32_i32_56
  let c1_i32_57 : BitVec 32 := 1#32
  ⟨c0_i32_55, v22, c1_i32_57⟩
def k0_mult14 (k0_t14 : Fin k0_t14_loop.trips) : BitVec 32 :=
  let c0_i32_55 : BitVec 32 := 0#32
  let c1_i32_57 : BitVec 32 := 1#32
  let arg17 : BitVec 32 := Scf.iv c0_i32_55 c1_i32_57 k0_t14
  let c128_i32 : BitVec 32 := 128#32
  let v33 : BitVec 32 := Scalar.muli arg17 c128_i32
  v33
def k0_off48 (k0_t14 : Fin k0_t14_loop.trips) : Fin 4 → Nat :=
  let c4 : Index := 4#32
  let c0_82 : Index := 0#32
  let c0_i32_55 : BitVec 32 := 0#32
  let c1_i32_57 : BitVec 32 := 1#32
  let arg17 : BitVec 32 := Scf.iv c0_i32_55 c1_i32_57 k0_t14
  let c128_i32 : BitVec 32 := 128#32
  let v33 : BitVec 32 := Scalar.muli arg17 c128_i32
  let v34 : BitVec 32 := v33
  let v35 : Index := Scalar.indexCast v34
  let c0_83 : Index := 0#32
  ![4, 0, v35.toNat, 0]
def k0_off49 (k0_t14 : Fin k0_t14_loop.trips) : Fin 4 → Nat :=
  let c0_84 : Index := 0#32
  let c4_85 : Index := 4#32
  let c0_86 : Index := 0#32
  let c0_i32_55 : BitVec 32 := 0#32
  let c1_i32_57 : BitVec 32 := 1#32
  let arg17 : BitVec 32 := Scf.iv c0_i32_55 c1_i32_57 k0_t14
  let v39 : Index := Scalar.indexCast arg17
  ![0, 4, 0, v39.toNat]
def k0_off50 (k0_t14 : Fin k0_t14_loop.trips) : Fin 2 → Nat :=
  let c0_i32_55 : BitVec 32 := 0#32
  let c1_i32_57 : BitVec 32 := 1#32
  let arg17 : BitVec 32 := Scf.iv c0_i32_55 c1_i32_57 k0_t14
  let c128_i32 : BitVec 32 := 128#32
  let v33 : BitVec 32 := Scalar.muli arg17 c128_i32
  let v34 : BitVec 32 := v33
  let v44 : Index := Scalar.indexCast v34
  let c512 : Index := 512#32
  ![v44.toNat, 512]
@[reducible] def k0_t15_loop : Scf.Loop 32 :=
  let c0_i32_59 : BitVec 32 := 0#32
  let c32_i32_60 : BitVec 32 := 32#32
  let v23 : BitVec 32 := Scalar.addi c0_i32_59 c32_i32_60
  let c1_i32_61 : BitVec 32 := 1#32
  ⟨c0_i32_59, v23, c1_i32_61⟩
def k0_mult15 (k0_t15 : Fin k0_t15_loop.trips) : BitVec 32 :=
  let c0_i32_59 : BitVec 32 := 0#32
  let c1_i32_61 : BitVec 32 := 1#32
  let arg17 : BitVec 32 := Scf.iv c0_i32_59 c1_i32_61 k0_t15
  let c128_i32 : BitVec 32 := 128#32
  let v33 : BitVec 32 := Scalar.muli arg17 c128_i32
  v33
def k0_off51 (k0_t15 : Fin k0_t15_loop.trips) : Fin 4 → Nat :=
  let c5 : Index := 5#32
  let c0_82 : Index := 0#32
  let c0_i32_59 : BitVec 32 := 0#32
  let c1_i32_61 : BitVec 32 := 1#32
  let arg17 : BitVec 32 := Scf.iv c0_i32_59 c1_i32_61 k0_t15
  let c128_i32 : BitVec 32 := 128#32
  let v33 : BitVec 32 := Scalar.muli arg17 c128_i32
  let v34 : BitVec 32 := v33
  let v35 : Index := Scalar.indexCast v34
  let c0_83 : Index := 0#32
  ![5, 0, v35.toNat, 0]
def k0_off52 (k0_t15 : Fin k0_t15_loop.trips) : Fin 4 → Nat :=
  let c0_84 : Index := 0#32
  let c5_85 : Index := 5#32
  let c0_86 : Index := 0#32
  let c0_i32_59 : BitVec 32 := 0#32
  let c1_i32_61 : BitVec 32 := 1#32
  let arg17 : BitVec 32 := Scf.iv c0_i32_59 c1_i32_61 k0_t15
  let v39 : Index := Scalar.indexCast arg17
  ![0, 5, 0, v39.toNat]
def k0_off53 (k0_t15 : Fin k0_t15_loop.trips) : Fin 2 → Nat :=
  let c0_i32_59 : BitVec 32 := 0#32
  let c1_i32_61 : BitVec 32 := 1#32
  let arg17 : BitVec 32 := Scf.iv c0_i32_59 c1_i32_61 k0_t15
  let c128_i32 : BitVec 32 := 128#32
  let v33 : BitVec 32 := Scalar.muli arg17 c128_i32
  let v34 : BitVec 32 := v33
  let v44 : Index := Scalar.indexCast v34
  let c640 : Index := 640#32
  ![v44.toNat, 640]
@[reducible] def k0_t16_loop : Scf.Loop 32 :=
  let c0_i32_63 : BitVec 32 := 0#32
  let c32_i32_64 : BitVec 32 := 32#32
  let v24 : BitVec 32 := Scalar.addi c0_i32_63 c32_i32_64
  let c1_i32_65 : BitVec 32 := 1#32
  ⟨c0_i32_63, v24, c1_i32_65⟩
def k0_mult16 (k0_t16 : Fin k0_t16_loop.trips) : BitVec 32 :=
  let c0_i32_63 : BitVec 32 := 0#32
  let c1_i32_65 : BitVec 32 := 1#32
  let arg17 : BitVec 32 := Scf.iv c0_i32_63 c1_i32_65 k0_t16
  let c128_i32 : BitVec 32 := 128#32
  let v33 : BitVec 32 := Scalar.muli arg17 c128_i32
  v33
def k0_off54 (k0_t16 : Fin k0_t16_loop.trips) : Fin 4 → Nat :=
  let c6 : Index := 6#32
  let c0_82 : Index := 0#32
  let c0_i32_63 : BitVec 32 := 0#32
  let c1_i32_65 : BitVec 32 := 1#32
  let arg17 : BitVec 32 := Scf.iv c0_i32_63 c1_i32_65 k0_t16
  let c128_i32 : BitVec 32 := 128#32
  let v33 : BitVec 32 := Scalar.muli arg17 c128_i32
  let v34 : BitVec 32 := v33
  let v35 : Index := Scalar.indexCast v34
  let c0_83 : Index := 0#32
  ![6, 0, v35.toNat, 0]
def k0_off55 (k0_t16 : Fin k0_t16_loop.trips) : Fin 4 → Nat :=
  let c0_84 : Index := 0#32
  let c6_85 : Index := 6#32
  let c0_86 : Index := 0#32
  let c0_i32_63 : BitVec 32 := 0#32
  let c1_i32_65 : BitVec 32 := 1#32
  let arg17 : BitVec 32 := Scf.iv c0_i32_63 c1_i32_65 k0_t16
  let v39 : Index := Scalar.indexCast arg17
  ![0, 6, 0, v39.toNat]
def k0_off56 (k0_t16 : Fin k0_t16_loop.trips) : Fin 2 → Nat :=
  let c0_i32_63 : BitVec 32 := 0#32
  let c1_i32_65 : BitVec 32 := 1#32
  let arg17 : BitVec 32 := Scf.iv c0_i32_63 c1_i32_65 k0_t16
  let c128_i32 : BitVec 32 := 128#32
  let v33 : BitVec 32 := Scalar.muli arg17 c128_i32
  let v34 : BitVec 32 := v33
  let v44 : Index := Scalar.indexCast v34
  let c768 : Index := 768#32
  ![v44.toNat, 768]
@[reducible] def k0_t17_loop : Scf.Loop 32 :=
  let c0_i32_67 : BitVec 32 := 0#32
  let c32_i32_68 : BitVec 32 := 32#32
  let v25 : BitVec 32 := Scalar.addi c0_i32_67 c32_i32_68
  let c1_i32_69 : BitVec 32 := 1#32
  ⟨c0_i32_67, v25, c1_i32_69⟩
def k0_mult17 (k0_t17 : Fin k0_t17_loop.trips) : BitVec 32 :=
  let c0_i32_67 : BitVec 32 := 0#32
  let c1_i32_69 : BitVec 32 := 1#32
  let arg17 : BitVec 32 := Scf.iv c0_i32_67 c1_i32_69 k0_t17
  let c128_i32 : BitVec 32 := 128#32
  let v33 : BitVec 32 := Scalar.muli arg17 c128_i32
  v33
def k0_off57 (k0_t17 : Fin k0_t17_loop.trips) : Fin 4 → Nat :=
  let c7 : Index := 7#32
  let c0_82 : Index := 0#32
  let c0_i32_67 : BitVec 32 := 0#32
  let c1_i32_69 : BitVec 32 := 1#32
  let arg17 : BitVec 32 := Scf.iv c0_i32_67 c1_i32_69 k0_t17
  let c128_i32 : BitVec 32 := 128#32
  let v33 : BitVec 32 := Scalar.muli arg17 c128_i32
  let v34 : BitVec 32 := v33
  let v35 : Index := Scalar.indexCast v34
  let c0_83 : Index := 0#32
  ![7, 0, v35.toNat, 0]
def k0_off58 (k0_t17 : Fin k0_t17_loop.trips) : Fin 4 → Nat :=
  let c0_84 : Index := 0#32
  let c7_85 : Index := 7#32
  let c0_86 : Index := 0#32
  let c0_i32_67 : BitVec 32 := 0#32
  let c1_i32_69 : BitVec 32 := 1#32
  let arg17 : BitVec 32 := Scf.iv c0_i32_67 c1_i32_69 k0_t17
  let v39 : Index := Scalar.indexCast arg17
  ![0, 7, 0, v39.toNat]
def k0_off59 (k0_t17 : Fin k0_t17_loop.trips) : Fin 2 → Nat :=
  let c0_i32_67 : BitVec 32 := 0#32
  let c1_i32_69 : BitVec 32 := 1#32
  let arg17 : BitVec 32 := Scf.iv c0_i32_67 c1_i32_69 k0_t17
  let c128_i32 : BitVec 32 := 128#32
  let v33 : BitVec 32 := Scalar.muli arg17 c128_i32
  let v34 : BitVec 32 := v33
  let v44 : Index := Scalar.indexCast v34
  let c896 : Index := 896#32
  ![v44.toNat, 896]
@[reducible] def k0_t18_loop : Scf.Loop 32 :=
  let c0_i32_78 : BitVec 32 := 0#32
  let c17_i32_79 : BitVec 32 := 17#32
  let v32 : BitVec 32 := Scalar.addi c0_i32_78 c17_i32_79
  let c1_i32_80 : BitVec 32 := 1#32
  ⟨c0_i32_78, v32, c1_i32_80⟩
def k0_mult18 (k0_t18 : Fin k0_t18_loop.trips) : BitVec 32 :=
  let c0_i32_78 : BitVec 32 := 0#32
  let c1_i32_80 : BitVec 32 := 1#32
  let arg17 : BitVec 32 := Scf.iv c0_i32_78 c1_i32_80 k0_t18
  let c32_i32_82 : BitVec 32 := 32#32
  let v33 : BitVec 32 := Scalar.muli arg17 c32_i32_82
  v33
def k0_off60 (k0_t18 : Fin k0_t18_loop.trips) : Fin 2 → Nat :=
  let c0_i32_78 : BitVec 32 := 0#32
  let c1_i32_80 : BitVec 32 := 1#32
  let arg17 : BitVec 32 := Scf.iv c0_i32_78 c1_i32_80 k0_t18
  let c32_i32_82 : BitVec 32 := 32#32
  let v33 : BitVec 32 := Scalar.muli arg17 c32_i32_82
  let v34 : BitVec 32 := v33
  let v35 : Index := Scalar.indexCast v34
  let c0_83 : Index := 0#32
  ![v35.toNat, 0]
def k0_off61 (k0_t18 : Fin k0_t18_loop.trips) : Fin 2 → Nat :=
  let c0_i32_78 : BitVec 32 := 0#32
  let c1_i32_80 : BitVec 32 := 1#32
  let arg17 : BitVec 32 := Scf.iv c0_i32_78 c1_i32_80 k0_t18
  let c32_i32_82 : BitVec 32 := 32#32
  let v33 : BitVec 32 := Scalar.muli arg17 c32_i32_82
  let v34 : BitVec 32 := v33
  let v105 : Index := Scalar.indexCast v34
  let c128 : Index := 128#32
  ![v105.toNat, 128]
def k0_off62 (k0_t18 : Fin k0_t18_loop.trips) : Fin 2 → Nat :=
  let c0_i32_78 : BitVec 32 := 0#32
  let c1_i32_80 : BitVec 32 := 1#32
  let arg17 : BitVec 32 := Scf.iv c0_i32_78 c1_i32_80 k0_t18
  let c32_i32_82 : BitVec 32 := 32#32
  let v33 : BitVec 32 := Scalar.muli arg17 c32_i32_82
  let v34 : BitVec 32 := v33
  let v175 : Index := Scalar.indexCast v34
  let c256 : Index := 256#32
  ![v175.toNat, 256]
def k0_off63 (k0_t18 : Fin k0_t18_loop.trips) : Fin 2 → Nat :=
  let c0_i32_78 : BitVec 32 := 0#32
  let c1_i32_80 : BitVec 32 := 1#32
  let arg17 : BitVec 32 := Scf.iv c0_i32_78 c1_i32_80 k0_t18
  let c32_i32_82 : BitVec 32 := 32#32
  let v33 : BitVec 32 := Scalar.muli arg17 c32_i32_82
  let v34 : BitVec 32 := v33
  let v245 : Index := Scalar.indexCast v34
  let c384 : Index := 384#32
  ![v245.toNat, 384]
def k0_off64 (k0_t18 : Fin k0_t18_loop.trips) : Fin 5 → Nat :=
  let c0_150 : Index := 0#32
  let c0_i32_78 : BitVec 32 := 0#32
  let c1_i32_80 : BitVec 32 := 1#32
  let arg17 : BitVec 32 := Scf.iv c0_i32_78 c1_i32_80 k0_t18
  let c32_i32_82 : BitVec 32 := 32#32
  let v33 : BitVec 32 := Scalar.muli arg17 c32_i32_82
  let v34 : BitVec 32 := v33
  let v320 : Index := Scalar.indexCast v34
  let c0_151 : Index := 0#32
  let c0_152 : Index := 0#32
  let c0_153 : Index := 0#32
  ![0, v320.toNat, 0, 0, 0]
def k0_off65 (k0_t18 : Fin k0_t18_loop.trips) : Fin 2 → Nat :=
  let c0_i32_78 : BitVec 32 := 0#32
  let c1_i32_80 : BitVec 32 := 1#32
  let arg17 : BitVec 32 := Scf.iv c0_i32_78 c1_i32_80 k0_t18
  let c32_i32_82 : BitVec 32 := 32#32
  let v33 : BitVec 32 := Scalar.muli arg17 c32_i32_82
  let v34 : BitVec 32 := v33
  let v324 : Index := Scalar.indexCast v34
  let c512 : Index := 512#32
  ![v324.toNat, 512]
def k0_off66 (k0_t18 : Fin k0_t18_loop.trips) : Fin 2 → Nat :=
  let c0_i32_78 : BitVec 32 := 0#32
  let c1_i32_80 : BitVec 32 := 1#32
  let arg17 : BitVec 32 := Scf.iv c0_i32_78 c1_i32_80 k0_t18
  let c32_i32_82 : BitVec 32 := 32#32
  let v33 : BitVec 32 := Scalar.muli arg17 c32_i32_82
  let v34 : BitVec 32 := v33
  let v394 : Index := Scalar.indexCast v34
  let c640 : Index := 640#32
  ![v394.toNat, 640]
def k0_off67 (k0_t18 : Fin k0_t18_loop.trips) : Fin 2 → Nat :=
  let c0_i32_78 : BitVec 32 := 0#32
  let c1_i32_80 : BitVec 32 := 1#32
  let arg17 : BitVec 32 := Scf.iv c0_i32_78 c1_i32_80 k0_t18
  let c32_i32_82 : BitVec 32 := 32#32
  let v33 : BitVec 32 := Scalar.muli arg17 c32_i32_82
  let v34 : BitVec 32 := v33
  let v464 : Index := Scalar.indexCast v34
  let c768 : Index := 768#32
  ![v464.toNat, 768]
def k0_off68 (k0_t18 : Fin k0_t18_loop.trips) : Fin 2 → Nat :=
  let c0_i32_78 : BitVec 32 := 0#32
  let c1_i32_80 : BitVec 32 := 1#32
  let arg17 : BitVec 32 := Scf.iv c0_i32_78 c1_i32_80 k0_t18
  let c32_i32_82 : BitVec 32 := 32#32
  let v33 : BitVec 32 := Scalar.muli arg17 c32_i32_82
  let v34 : BitVec 32 := v33
  let v534 : Index := Scalar.indexCast v34
  let c896 : Index := 896#32
  ![v534.toNat, 896]
def k0_off69 (k0_t18 : Fin k0_t18_loop.trips) : Fin 5 → Nat :=
  let c0_230 : Index := 0#32
  let c0_i32_78 : BitVec 32 := 0#32
  let c1_i32_80 : BitVec 32 := 1#32
  let arg17 : BitVec 32 := Scf.iv c0_i32_78 c1_i32_80 k0_t18
  let c32_i32_82 : BitVec 32 := 32#32
  let v33 : BitVec 32 := Scalar.muli arg17 c32_i32_82
  let v34 : BitVec 32 := v33
  let v609 : Index := Scalar.indexCast v34
  let c0_231 : Index := 0#32
  let c4 : Index := 4#32
  let c0_232 : Index := 0#32
  ![0, v609.toNat, 0, 4, 0]
def k0_off70 (k0_t18 : Fin k0_t18_loop.trips) : Fin 4 → Nat :=
  let c0_233 : Index := 0#32
  let c0_234 : Index := 0#32
  let c0_i32_78 : BitVec 32 := 0#32
  let c1_i32_80 : BitVec 32 := 1#32
  let arg17 : BitVec 32 := Scf.iv c0_i32_78 c1_i32_80 k0_t18
  let c32_i32_82 : BitVec 32 := 32#32
  let v33 : BitVec 32 := Scalar.muli arg17 c32_i32_82
  let v34 : BitVec 32 := v33
  let v614 : Index := Scalar.indexCast v34
  let c0_235 : Index := 0#32
  ![0, 0, v614.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg2.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg2.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg2.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg2.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x544x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x544x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8x1x4096x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .smem S1x8x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S8x1x4096x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .smem S1x8x1x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x544x1x8x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x544x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x544x1x8x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x544x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S6x6404x4096 : Shape := ⟨3, ![6, 6404, 4096]⟩
abbrev S6x6404x32 : Shape := ⟨3, ![6, 6404, 32]⟩
abbrev S8x4096x5x128 : Shape := ⟨4, ![8, 4096, 5, 128]⟩
abbrev S8x32x5 : Shape := ⟨3, ![8, 32, 5]⟩
abbrev S8x128 : Shape := ⟨2, ![8, 128]⟩
abbrev S6x6404x32x128 : Shape := ⟨4, ![6, 6404, 32, 128]⟩
abbrev S6x6404x32x1 : Shape := ⟨4, ![6, 6404, 32, 1]⟩
abbrev S8x32x128x5x128 : Shape := ⟨5, ![8, 32, 128, 5, 128]⟩
abbrev S8x32x1x5x1 : Shape := ⟨5, ![8, 32, 1, 5, 1]⟩
abbrev S8x5x128x6x6404 : Shape := ⟨5, ![8, 5, 128, 6, 6404]⟩
abbrev S8x6x6404x5x128 : Shape := ⟨5, ![8, 6, 6404, 5, 128]⟩
abbrev S_ : Shape := ⟨0, ![]⟩
abbrev S8x6x6404x5 : Shape := ⟨4, ![8, 6, 6404, 5]⟩
abbrev S8x6x6404x5x1 : Shape := ⟨5, ![8, 6, 6404, 5, 1]⟩
abbrev S8x1x1x1x128 : Shape := ⟨5, ![8, 1, 1, 1, 128]⟩
abbrev S252 : Shape := ⟨1, ![252]⟩
abbrev S1x1x1x1x252 : Shape := ⟨5, ![1, 1, 1, 1, 252]⟩
abbrev S8x6x6404x5x252 : Shape := ⟨5, ![8, 6, 6404, 5, 252]⟩

abbrev nBuf : Space → Nat
  | .hbm => 150
  | .vmem => 6
  | .smem => 0
  | _ => 0

abbrev hbmTy0_0 (i : Nat) : BufTy := match i % 128 with
  | 0 => ⟨S6x6404x4096, .fp8e4m3⟩
  | 1 => ⟨S6x6404x32, .f32⟩
  | 2 => ⟨S8x4096x5x128, .fp8e4m3⟩
  | 3 => ⟨S8x32x5, .f32⟩
  | 4 => ⟨S8x4096x5x128, .fp8e4m3⟩
  | 5 => ⟨S8x32x5, .f32⟩
  | 6 => ⟨S8x128, .f32⟩
  | 7 => ⟨S6x6404x4096, .bf16⟩
  | 8 => ⟨S8x4096x5x128, .bf16⟩
  | 9 => ⟨S8x4096x5x128, .bf16⟩
  | 10 => ⟨S6x6404x32x128, .bf16⟩
  | 11 => ⟨S6x6404x32, .bf16⟩
  | 12 => ⟨S6x6404x32x1, .bf16⟩
  | 13 => ⟨S6x6404x32x128, .bf16⟩
  | 14 => ⟨S6x6404x32x128, .bf16⟩
  | 15 => ⟨S6x6404x4096, .bf16⟩
  | 16 => ⟨S8x32x128x5x128, .bf16⟩
  | 17 => ⟨S8x32x5, .bf16⟩
  | 18 => ⟨S8x32x1x5x1, .bf16⟩
  | 19 => ⟨S8x32x128x5x128, .bf16⟩
  | 20 => ⟨S8x32x128x5x128, .bf16⟩
  | 21 => ⟨S8x4096x5x128, .bf16⟩
  | 22 => ⟨S8x5x128x6x6404, .f32⟩
  | 23 => ⟨S8x6x6404x5x128, .f32⟩
  | 24 => ⟨S8x32x128x5x128, .bf16⟩
  | 25 => ⟨S8x32x5, .bf16⟩
  | 26 => ⟨S8x32x1x5x1, .bf16⟩
  | 27 => ⟨S8x32x128x5x128, .bf16⟩
  | 28 => ⟨S8x32x128x5x128, .bf16⟩
  | 29 => ⟨S8x4096x5x128, .bf16⟩
  | 30 => ⟨S8x5x128x6x6404, .f32⟩
  | 31 => ⟨S8x6x6404x5x128, .f32⟩
  | 32 => ⟨S8x6x6404x5x128, .f32⟩
  | 33 => ⟨S_, .f32⟩
  | 34 => ⟨S8x6x6404x5, .f32⟩
  | 35 => ⟨S8x6x6404x5x1, .f32⟩
  | 36 => ⟨S_, .f32⟩
  | 37 => ⟨S8x6x6404x5x1, .f32⟩
  | 38 => ⟨S8x6x6404x5x1, .f32⟩
  | 39 => ⟨S_, .f32⟩
  | 40 => ⟨S8x6x6404x5x1, .f32⟩
  | 41 => ⟨S8x6x6404x5x1, .f32⟩
  | 42 => ⟨S8x6x6404x5x1, .f32⟩
  | 43 => ⟨S8x6x6404x5x128, .f32⟩
  | 44 => ⟨S8x6x6404x5x128, .f32⟩
  | 45 => ⟨S8x1x1x1x128, .f32⟩
  | 46 => ⟨S8x6x6404x5x128, .f32⟩
  | 47 => ⟨S8x6x6404x5x128, .f32⟩
  | 48 => ⟨S8x6x6404x5x128, .f32⟩
  | 49 => ⟨S_, .f32⟩
  | 50 => ⟨S8x6x6404x5, .f32⟩
  | 51 => ⟨S_, .f32⟩
  | 52 => ⟨S8x6x6404x5, .f32⟩
  | 53 => ⟨S8x6x6404x5, .f32⟩
  | 54 => ⟨S252, .i32⟩
  | 55 => ⟨S_, .i32⟩
  | 56 => ⟨S252, .i32⟩
  | 57 => ⟨S252, .i32⟩
  | 58 => ⟨S252, .f32⟩
  | 59 => ⟨S_, .f32⟩
  | 60 => ⟨S252, .f32⟩
  | 61 => ⟨S252, .f32⟩
  | 62 => ⟨S8x6x6404x5x1, .f32⟩
  | 63 => ⟨S1x1x1x1x252, .f32⟩
  | 64 => ⟨S8x6x6404x5x252, .f32⟩
  | 65 => ⟨S8x6x6404x5x252, .f32⟩
  | 66 => ⟨S8x6x6404x5x252, .i1⟩
  | 67 => ⟨S_, .f32⟩
  | 68 => ⟨S_, .f32⟩
  | 69 => ⟨S8x6x6404x5x252, .f32⟩
  | 70 => ⟨S8x6x6404x5x252, .f32⟩
  | 71 => ⟨S8x6x6404x5x252, .f32⟩
  | 72 => ⟨S_, .f32⟩
  | 73 => ⟨S8x6x6404x5, .f32⟩
  | 74 => ⟨S_, .f32⟩
  | 75 => ⟨S8x6x6404x5, .f32⟩
  | 76 => ⟨S8x6x6404x5, .i1⟩
  | 77 => ⟨S_, .f32⟩
  | 78 => ⟨S8x6x6404x5, .f32⟩
  | 79 => ⟨S8x6x6404x5, .f32⟩
  | 80 => ⟨S_, .f32⟩
  | 81 => ⟨S_, .f32⟩
  | 82 => ⟨S8x6x6404x5, .f32⟩
  | 83 => ⟨S8x6x6404x5, .f32⟩
  | 84 => ⟨S_, .f32⟩
  | 85 => ⟨S8x6x6404x5, .f32⟩
  | 86 => ⟨S8x6x6404x5, .f32⟩
  | 87 => ⟨S8x6x6404x5x1, .f32⟩
  | 88 => ⟨S8x6x6404x5x128, .f32⟩
  | 89 => ⟨S8x6x6404x5x128, .f32⟩
  | 90 => ⟨S_, .f32⟩
  | 91 => ⟨S_, .f32⟩
  | 92 => ⟨S_, .f32⟩
  | 93 => ⟨S8x6x6404x5x128, .f32⟩
  | 94 => ⟨S8x6x6404x5x128, .f32⟩
  | 95 => ⟨S_, .f32⟩
  | 96 => ⟨S8x6x6404x5x128, .f32⟩
  | 97 => ⟨S8x6x6404x5x128, .f32⟩
  | 98 => ⟨S8x6x6404x5x128, .fp8e4m3⟩
  | 99 => ⟨S8x6x6404x5x128, .f32⟩
  | 100 => ⟨S_, .f32⟩
  | 101 => ⟨S8x6x6404x5, .f32⟩
  | 102 => ⟨S_, .f32⟩
  | 103 => ⟨S8x6x6404x5, .f32⟩
  | 104 => ⟨S8x6x6404x5, .f32⟩
  | 105 => ⟨S252, .i32⟩
  | 106 => ⟨S_, .i32⟩
  | 107 => ⟨S252, .i32⟩
  | 108 => ⟨S252, .i32⟩
  | 109 => ⟨S252, .f32⟩
  | 110 => ⟨S_, .f32⟩
  | 111 => ⟨S252, .f32⟩
  | 112 => ⟨S252, .f32⟩
  | 113 => ⟨S8x6x6404x5x1, .f32⟩
  | 114 => ⟨S1x1x1x1x252, .f32⟩
  | 115 => ⟨S8x6x6404x5x252, .f32⟩
  | 116 => ⟨S8x6x6404x5x252, .f32⟩
  | 117 => ⟨S8x6x6404x5x252, .i1⟩
  | 118 => ⟨S_, .f32⟩
  | 119 => ⟨S_, .f32⟩
  | 120 => ⟨S8x6x6404x5x252, .f32⟩
  | 121 => ⟨S8x6x6404x5x252, .f32⟩
  | 122 => ⟨S8x6x6404x5x252, .f32⟩
  | 123 => ⟨S_, .f32⟩
  | 124 => ⟨S8x6x6404x5, .f32⟩
  | 125 => ⟨S_, .f32⟩
  | 126 => ⟨S8x6x6404x5, .f32⟩
  | 127 => ⟨S8x6x6404x5, .i1⟩
  | _ => ⟨S6x6404x4096, .fp8e4m3⟩

abbrev hbmTy0_1 (i : Nat) : BufTy := match i % 128 with
  | 0 => ⟨S_, .f32⟩
  | 1 => ⟨S8x6x6404x5, .f32⟩
  | 2 => ⟨S8x6x6404x5, .f32⟩
  | 3 => ⟨S_, .f32⟩
  | 4 => ⟨S_, .f32⟩
  | 5 => ⟨S8x6x6404x5, .f32⟩
  | 6 => ⟨S8x6x6404x5, .f32⟩
  | 7 => ⟨S_, .f32⟩
  | 8 => ⟨S8x6x6404x5, .f32⟩
  | 9 => ⟨S8x6x6404x5, .f32⟩
  | 10 => ⟨S8x6x6404x5x1, .f32⟩
  | 11 => ⟨S8x6x6404x5x128, .f32⟩
  | 12 => ⟨S8x6x6404x5x128, .f32⟩
  | 13 => ⟨S_, .f32⟩
  | 14 => ⟨S_, .f32⟩
  | 15 => ⟨S_, .f32⟩
  | 16 => ⟨S8x6x6404x5x128, .f32⟩
  | 17 => ⟨S8x6x6404x5x128, .f32⟩
  | 18 => ⟨S_, .f32⟩
  | 19 => ⟨S8x6x6404x5x128, .f32⟩
  | 20 => ⟨S8x6x6404x5x128, .f32⟩
  | 21 => ⟨S8x6x6404x5x128, .fp8e4m3⟩
  | _ => ⟨S6x6404x4096, .fp8e4m3⟩

abbrev hbmTy (i : Nat) : BufTy := match i / 128 with
  | 0 => hbmTy0_0 i
  | 1 => hbmTy0_1 i
  | _ => ⟨S6x6404x4096, .fp8e4m3⟩

abbrev bufTy : (tb : Table) → Fin (tcTables nBuf tb) → BufTy
  | .hbm, ⟨i, _⟩ => hbmTy i
  | .local _ .vmem, ⟨0, _⟩ => ⟨S6x6404x4096, .fp8e4m3⟩
  | .local _ .vmem, ⟨1, _⟩ => ⟨S8x4096x5x128, .fp8e4m3⟩
  | .local _ .vmem, ⟨2, _⟩ => ⟨S8x4096x5x128, .fp8e4m3⟩
  | .local _ .vmem, ⟨3, _⟩ => ⟨S6x6404x4096, .bf16⟩
  | .local _ .vmem, ⟨4, _⟩ => ⟨S8x4096x5x128, .bf16⟩
  | .local _ .vmem, ⟨5, _⟩ => ⟨S8x4096x5x128, .bf16⟩
  | _, _ => ⟨S6x6404x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v51 : Ref sig .tc := ⟨.hbm, 71, rfl⟩
abbrev main_cst_6 : Ref sig .tc := ⟨.hbm, 72, rfl⟩
abbrev main_v52 : Ref sig .tc := ⟨.hbm, 73, rfl⟩
abbrev main_cst_7 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_call1_v0 : Ref sig .tc := ⟨.hbm, 81, rfl⟩
abbrev main_call1_v1 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_13 : Ref sig .tc := ⟨.hbm, 100, rfl⟩
abbrev main_v66 : Ref sig .tc := ⟨.hbm, 101, rfl⟩
abbrev main_cst_14 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c_15 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_16 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_17 : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_v80 : Ref sig .tc := ⟨.hbm, 122, rfl⟩
abbrev main_cst_18 : Ref sig .tc := ⟨.hbm, 123, rfl⟩
abbrev main_v81 : Ref sig .tc := ⟨.hbm, 124, rfl⟩
abbrev main_cst_19 : Ref sig .tc := ⟨.hbm, 125, rfl⟩
abbrev main_v82 : Ref sig .tc := ⟨.hbm, 126, rfl⟩
abbrev main_v83 : Ref sig .tc := ⟨.hbm, 127, rfl⟩
abbrev main_cst_20 : Ref sig .tc := ⟨.hbm, 128, rfl⟩
abbrev main_v84 : Ref sig .tc := ⟨.hbm, 129, rfl⟩
abbrev main_v85 : Ref sig .tc := ⟨.hbm, 130, rfl⟩
abbrev main_cst_21 : Ref sig .tc := ⟨.hbm, 131, rfl⟩
abbrev main_call4_v0 : Ref sig .tc := ⟨.hbm, 132, rfl⟩
abbrev main_call4_v1 : Ref sig .tc := ⟨.hbm, 133, rfl⟩
abbrev main_v86 : Ref sig .tc := ⟨.hbm, 134, rfl⟩
abbrev main_cst_22 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_23 : Ref sig .tc := ⟨.hbm, 141, rfl⟩
abbrev main_cst_24 : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_v92 : Ref sig .tc := ⟨.hbm, 148, rfl⟩
abbrev main_v93 : Ref sig .tc := ⟨.hbm, 149, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x6404x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x5x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x5x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x6404x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x5x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4096x5x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelNames.lean ====
/-
  Names shared by the proof about one grid point of the kernel: the branch condition (the first head of a row
  block), the staging buffers and scratch buffers the body is handed, and the buffers written after the region.
-/
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v10, main_v11, main_v12, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 5) — by arithmetic of the point. -/
theorem hcond0_0 : ∀ t : Fin cfg0.N, cond0_0 (grid0.coords t) ↔ t.val % 5 = 0 :=
  (fun t => by
    have ht : t.val < 360 := Nat.lt_of_lt_of_eq t.isLt N_0
    have e0 : (grid0.coords t 0).val = t.val / 60 % 6 := Pipeline.Grid.coords_val t 0 (by decide) rfl
    have e1 : (grid0.coords t 1).val = t.val / 5 % 12 := Pipeline.Grid.coords_val t 1 (by decide) rfl
    have e2 : (grid0.coords t 2).val = t.val / 1 % 5 := Pipeline.Grid.coords_val t 2 (by decide) rfl
    simp only [cond0_0, e0, e1, e2]
    word_cmp
   : ∀ t : Fin grid0.N, cond0_0 (grid0.coords t) ↔ t.val % 5 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x544x4096 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x544x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1x4096x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1x8x1x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1x4096x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1x8x1x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x544x1x8x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x544x8 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x544x1x8x128 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x544x8 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S544x4096 .bf16 := Memref.whole cc0_scratch0
abbrev scM0_1 : Memref sig .tc .vmem S4096x1024 .bf16 := Memref.whole cc0_scratch1
abbrev scM0_2 : Memref sig .tc .vmem S544x1024 .f32 := Memref.whole cc0_scratch2
/-- The scratch `arg14` the kernel carries between points, as a view: what it holds is stated through it. -/
abbrev VS0_0 : View sig .tc .vmem S544x4096 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.KernelRunA.lean ====
/-
  The body at a grid point that is the first head of its row block: the row block is dequantised first.
  It runs to its end from any contents of its buffers and leaves its seven inputs as they were.
-/
module

public import proofs.«01_k».proof.Proof.KernelNames

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2252000 in
/-- The body runs, leaves its inputs as they were, and its outputs and scratch buffers at some contents. -/
theorem body_runs_A (c : Dev nD) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (hc0 : cond0_0 i)
    (x0 : Vec F S1x544x4096 .fp8e4m3) (x1 : Vec F S1x544x32 .f32) (x2 : Vec F S8x1x4096x128 .fp8e4m3) (x3 : Vec F S1x8x1x32 .f32) (x4 : Vec F S8x1x4096x128 .fp8e4m3) (x5 : Vec F S1x8x1x32 .f32) (x6 : Vec F S8x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  simp only [k0_part39_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part40_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.Kernel.Gen

end
-- ==== Proof.KernelRunB.lean ====
/-
  The body at a grid point that is not the first head of its row block: the dequantised rows are found in the scratch buffer.
  It runs to its end from any contents of its buffers and leaves its seven inputs as they were.
-/
module

public import proofs.«01_k».proof.Proof.KernelRunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2252000 in
/-- The body runs, leaves its inputs as they were, and its outputs and scratch buffers at some contents. -/
theorem body_runs_B (c : Dev nD) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (hc0 : ¬cond0_0 i)
    (x0 : Vec F S1x544x4096 .fp8e4m3) (x1 : Vec F S1x544x32 .f32) (x2 : Vec F S8x1x4096x128 .fp8e4m3) (x3 : Vec F S1x8x1x32 .f32) (x4 : Vec F S8x1x4096x128 .fp8e4m3) (x5 : Vec F S1x8x1x32 .f32) (x6 : Vec F S8x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  simp only [k0_part39_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part40_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.Kernel.Gen

end
-- ==== Proof.KernelFrame.lean ====
/-
  The frame of the kernel: at every grid point the body runs (`body_runs_A`, `body_runs_B`), so that the program
  terminates from any memory and leaves its arguments as they were. What the outputs hold is not stated here.
-/
module

public import proofs.«01_k».proof.Proof.KernelRunB
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePostR.arr_in h c 0 rfl).trans ((hA c 0).trans (V_main_arg0 m c)),
      (Pipeline.RDat.FramePostR.arr_in h c 1 rfl).trans ((hA c 1).trans (V_main_arg1 m c)),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      (Pipeline.RDat.FramePostR.arr_in h c 6 rfl).trans ((hA c 6).trans (V_main_arg6 m c))⟩) h

/-- The windows of which nothing is stated: the four outputs. -/
def forgets : Fin 11 → Bool := fun w => w.val == 7 || w.val == 8 || w.val == 9 || w.val == 10

/-- The proof data: the arrays as the region finds them; each input's staging buffer holding its block after the
    body as before it; of the outputs and the scratch buffers nothing. -/
def dats (_ : Fin 1) (c : Dev nD) : Dat τ (Elt F) Unit ℕ (UR sig nD τ) ℕ cfg0 c where
  A w := V m c (Pipeline.arrRef spec0 w)
  after w t := match w with
    | ⟨0, h⟩ => (cfg0.win ⟨0, h⟩).fill (cfg0.grid.coords t) (Pipeline.Dat.unnamed (cfg := cfg0) ⟨0, h⟩ t) (iblk m c ⟨0, h⟩ t)
    | ⟨1, h⟩ => (cfg0.win ⟨1, h⟩).fill (cfg0.grid.coords t) (Pipeline.Dat.unnamed (cfg := cfg0) ⟨1, h⟩ t) (iblk m c ⟨1, h⟩ t)
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- The moved part of what the body leaves in a clipped input's buffer is the block. -/
theorem cut_after_0 (c : Dev nD) (t : Fin cfg0.N) :
    (cfg0.win 0).cut (cfg0.grid.coords t) ((dats m 0 c).after 0 t) = iblk m c 0 t := by
  dsimp only [dats]; exact (cfg0.win 0).cut_fill _ _ _
theorem cut_after_1 (c : Dev nD) (t : Fin cfg0.N) :
    (cfg0.win 1).cut (cfg0.grid.coords t) ((dats m 0 c).after 1 t) = iblk m c 1 t := by
  dsimp only [dats]; exact (cfg0.win 1).cut_fill _ _ _
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- A clipped input's buffer holds its block inside the array and anything past it. -/
theorem before0_0 (c : Dev nD) (t : Fin cfg0.N) (d) :
    (dats m 0 c).before 0 t d = (cfg0.win 0).fill (cfg0.grid.coords t) d (iblk m c 0 t) :=
  ((dats m 0 c).before_in_eq_fetched 0 rfl (fun _ => rfl)
    (fun t t' h => funext fun a => congrArg (fun f => Pipeline.Clip.of (f a) (win0_0.size a) (win0_0.shape.size a)) h)
    (fun t => (cut_after_0 m c t).trans (by unfold Dat.blockOf iblk; rw [A_eq])) t d).trans
    (by unfold Dat.fetched Dat.blockOf iblk; rw [A_eq])
theorem before0_1 (c : Dev nD) (t : Fin cfg0.N) (d) :
    (dats m 0 c).before 1 t d = (cfg0.win 1).fill (cfg0.grid.coords t) d (iblk m c 1 t) :=
  ((dats m 0 c).before_in_eq_fetched 1 rfl (fun _ => rfl)
    (fun t t' h => funext fun a => congrArg (fun f => Pipeline.Clip.of (f a) (win0_1.size a) (win0_1.shape.size a)) h)
    (fun t => (cut_after_1 m c t).trans (by unfold Dat.blockOf iblk; rw [A_eq])) t d).trans
    (by unfold Dat.fetched Dat.blockOf iblk; rw [A_eq])
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare ((cfg0.win 0).fill (cfg0.grid.coords t) d ((cfg0.win 0).cut (cfg0.grid.coords t) ((dats m 0 c).after 0 t))))
    ∗ (∃ d, owns (c : Thread nD τ) (ms0_1 t) fullShare ((cfg0.win 1).fill (cfg0.grid.coords t) d ((cfg0.win 1).cut (cfg0.grid.coords t) ((dats m 0 c).after 1 t))))
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 9600000 in
/-- The body at any point: from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_2, after0_3, after0_4, after0_5, after0_6,
    show (dats m 0 c).Φ t.succ = Pipeline.ΦA spec0 c from rfl, show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  by_cases h0 : cond0_0 (grid0.coords t)
  · iapply (body_runs_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) h0 _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, H8, H9, H10, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexists d0; rw [cut_after_0 m c t]; iexact H0
    isplitl [H1]; · iexists d1; rw [cut_after_1 m c t]; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iapply (body_runs_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) h0 _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, H8, H9, H10, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexists d0; rw [cut_after_0 m c t]; iexact H0
    isplitl [H1]; · iexists d1; rw [cut_after_1 m c t]; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligationLoose (dats (F := F) m 0 c) (defs₀ (F := F)) Variants.none () Set.univ forgets := fun t => by
  rw [bigSep_W0, bigSep_W0, defs₀_row]
  exact triple_restated (sound_body m c t) rfl .rfl fun _ => .rfl

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets) T0 (V m)) r ∧ r.2.sem = fun _ => 0) :=
  Pipeline.θ_run_frame_around_T_track_forget (Q' := _) cfgs (dats m) (0 : Fin 1) launch0 defs₀ Variants.none forgets T0 m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 7, 8, 9, 10) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_ofR m ρ (fun c => (dats m 0 c).toRForget forgets) (A_eq m) (run_main m ρ)

/-- The frame: the program terminates, its arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Gen

end
-- ==== Proof.IdealNames.lean ====
/-
  Names shared by the proof about one grid point of the kernel: the branch condition (the first head of a row
  block), the staging buffers and scratch buffers the body is handed, and the buffers written after the region.
-/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v10, main_v11, main_v12, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 5) — by arithmetic of the point. -/
theorem hcond0_0 : ∀ t : Fin cfg0.N, cond0_0 (grid0.coords t) ↔ t.val % 5 = 0 :=
  (fun t => by
    have ht : t.val < 360 := Nat.lt_of_lt_of_eq t.isLt N_0
    have e0 : (grid0.coords t 0).val = t.val / 60 % 6 := Pipeline.Grid.coords_val t 0 (by decide) rfl
    have e1 : (grid0.coords t 1).val = t.val / 5 % 12 := Pipeline.Grid.coords_val t 1 (by decide) rfl
    have e2 : (grid0.coords t 2).val = t.val / 1 % 5 := Pipeline.Grid.coords_val t 2 (by decide) rfl
    simp only [cond0_0, e0, e1, e2]
    word_cmp
   : ∀ t : Fin grid0.N, cond0_0 (grid0.coords t) ↔ t.val % 5 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x544x4096 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x544x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1x4096x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1x8x1x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1x4096x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1x8x1x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x544x1x8x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x544x8 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x544x1x8x128 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x544x8 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S544x4096 .bf16 := Memref.whole cc0_scratch0
abbrev scM0_1 : Memref sig .tc .vmem S4096x1024 .bf16 := Memref.whole cc0_scratch1
abbrev scM0_2 : Memref sig .tc .vmem S544x1024 .f32 := Memref.whole cc0_scratch2
/-- The scratch `arg14` the kernel carries between points, as a view: what it holds is stated through it. -/
abbrev VS0_0 : View sig .tc .vmem S544x4096 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.IdealRunA.lean ====
/-
  The body at a grid point that is the first head of its row block: the row block is dequantised first.
  It runs to its end from any contents of its buffers and leaves its seven inputs as they were.
-/
module

public import proofs.«01_k».proof.Proof.IdealNames

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2252000 in
/-- The body runs, leaves its inputs as they were, and its outputs and scratch buffers at some contents. -/
theorem body_runs_A (c : Dev nD) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (hc0 : cond0_0 i)
    (x0 : Vec F S1x544x4096 .fp8e4m3) (x1 : Vec F S1x544x32 .f32) (x2 : Vec F S8x1x4096x128 .fp8e4m3) (x3 : Vec F S1x8x1x32 .f32) (x4 : Vec F S8x1x4096x128 .fp8e4m3) (x5 : Vec F S1x8x1x32 .f32) (x6 : Vec F S8x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  simp only [k0_part39_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part40_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.KernelIdeal.Gen

end
-- ==== Proof.IdealRunB.lean ====
/-
  The body at a grid point that is not the first head of its row block: the dequantised rows are found in the scratch buffer.
  It runs to its end from any contents of its buffers and leaves its seven inputs as they were.
-/
module

public import proofs.«01_k».proof.Proof.IdealRunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2252000 in
/-- The body runs, leaves its inputs as they were, and its outputs and scratch buffers at some contents. -/
theorem body_runs_B (c : Dev nD) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (hc0 : ¬cond0_0 i)
    (x0 : Vec F S1x544x4096 .fp8e4m3) (x1 : Vec F S1x544x32 .f32) (x2 : Vec F S8x1x4096x128 .fp8e4m3) (x3 : Vec F S1x8x1x32 .f32) (x4 : Vec F S8x1x4096x128 .fp8e4m3) (x5 : Vec F S1x8x1x32 .f32) (x6 : Vec F S8x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  simp only [k0_part39_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part40_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.KernelIdeal.Gen

end
-- ==== Proof.IdealFrame.lean ====
/-
  The frame of the kernel: at every grid point the body runs (`body_runs_A`, `body_runs_B`), so that the program
  terminates from any memory and leaves its arguments as they were. What the outputs hold is not stated here.
-/
module

public import proofs.«01_k».proof.Proof.IdealRunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePostR.arr_in h c 0 rfl).trans ((hA c 0).trans (V_main_arg0 m c)),
      (Pipeline.RDat.FramePostR.arr_in h c 1 rfl).trans ((hA c 1).trans (V_main_arg1 m c)),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      (Pipeline.RDat.FramePostR.arr_in h c 6 rfl).trans ((hA c 6).trans (V_main_arg6 m c))⟩) h

/-- The windows of which nothing is stated: the four outputs. -/
def forgets : Fin 11 → Bool := fun w => w.val == 7 || w.val == 8 || w.val == 9 || w.val == 10

/-- The proof data: the arrays as the region finds them; each input's staging buffer holding its block after the
    body as before it; of the outputs and the scratch buffers nothing. -/
def dats (_ : Fin 1) (c : Dev nD) : Dat τ (Elt F) Unit ℕ (UR sig nD τ) ℕ cfg0 c where
  A w := V m c (Pipeline.arrRef spec0 w)
  after w t := match w with
    | ⟨0, h⟩ => (cfg0.win ⟨0, h⟩).fill (cfg0.grid.coords t) (Pipeline.Dat.unnamed (cfg := cfg0) ⟨0, h⟩ t) (iblk m c ⟨0, h⟩ t)
    | ⟨1, h⟩ => (cfg0.win ⟨1, h⟩).fill (cfg0.grid.coords t) (Pipeline.Dat.unnamed (cfg := cfg0) ⟨1, h⟩ t) (iblk m c ⟨1, h⟩ t)
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- The moved part of what the body leaves in a clipped input's buffer is the block. -/
theorem cut_after_0 (c : Dev nD) (t : Fin cfg0.N) :
    (cfg0.win 0).cut (cfg0.grid.coords t) ((dats m 0 c).after 0 t) = iblk m c 0 t := by
  dsimp only [dats]; exact (cfg0.win 0).cut_fill _ _ _
theorem cut_after_1 (c : Dev nD) (t : Fin cfg0.N) :
    (cfg0.win 1).cut (cfg0.grid.coords t) ((dats m 0 c).after 1 t) = iblk m c 1 t := by
  dsimp only [dats]; exact (cfg0.win 1).cut_fill _ _ _
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- A clipped input's buffer holds its block inside the array and anything past it. -/
theorem before0_0 (c : Dev nD) (t : Fin cfg0.N) (d) :
    (dats m 0 c).before 0 t d = (cfg0.win 0).fill (cfg0.grid.coords t) d (iblk m c 0 t) :=
  ((dats m 0 c).before_in_eq_fetched 0 rfl (fun _ => rfl)
    (fun t t' h => funext fun a => congrArg (fun f => Pipeline.Clip.of (f a) (win0_0.size a) (win0_0.shape.size a)) h)
    (fun t => (cut_after_0 m c t).trans (by unfold Dat.blockOf iblk; rw [A_eq])) t d).trans
    (by unfold Dat.fetched Dat.blockOf iblk; rw [A_eq])
theorem before0_1 (c : Dev nD) (t : Fin cfg0.N) (d) :
    (dats m 0 c).before 1 t d = (cfg0.win 1).fill (cfg0.grid.coords t) d (iblk m c 1 t) :=
  ((dats m 0 c).before_in_eq_fetched 1 rfl (fun _ => rfl)
    (fun t t' h => funext fun a => congrArg (fun f => Pipeline.Clip.of (f a) (win0_1.size a) (win0_1.shape.size a)) h)
    (fun t => (cut_after_1 m c t).trans (by unfold Dat.blockOf iblk; rw [A_eq])) t d).trans
    (by unfold Dat.fetched Dat.blockOf iblk; rw [A_eq])
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare ((cfg0.win 0).fill (cfg0.grid.coords t) d ((cfg0.win 0).cut (cfg0.grid.coords t) ((dats m 0 c).after 0 t))))
    ∗ (∃ d, owns (c : Thread nD τ) (ms0_1 t) fullShare ((cfg0.win 1).fill (cfg0.grid.coords t) d ((cfg0.win 1).cut (cfg0.grid.coords t) ((dats m 0 c).after 1 t))))
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 9600000 in
/-- The body at any point: from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_2, after0_3, after0_4, after0_5, after0_6,
    show (dats m 0 c).Φ t.succ = Pipeline.ΦA spec0 c from rfl, show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  by_cases h0 : cond0_0 (grid0.coords t)
  · iapply (body_runs_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) h0 _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, H8, H9, H10, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexists d0; rw [cut_after_0 m c t]; iexact H0
    isplitl [H1]; · iexists d1; rw [cut_after_1 m c t]; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iapply (body_runs_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) h0 _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, H8, H9, H10, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexists d0; rw [cut_after_0 m c t]; iexact H0
    isplitl [H1]; · iexists d1; rw [cut_after_1 m c t]; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligationLoose (dats (F := F) m 0 c) (defs₀ (F := F)) Variants.none () Set.univ forgets := fun t => by
  rw [bigSep_W0, bigSep_W0, defs₀_row]
  exact triple_restated (sound_body m c t) rfl .rfl fun _ => .rfl

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets) T0 (V m)) r ∧ r.2.sem = fun _ => 0) :=
  Pipeline.θ_run_frame_around_T_track_forget (Q' := _) cfgs (dats m) (0 : Fin 1) launch0 defs₀ Variants.none forgets T0 m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 7, 8, 9, 10) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_ofR m ρ (fun c => (dats m 0 c).toRForget forgets) (A_eq m) (run_main m ρ)

/-- The frame: the program terminates, its arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.IdealVec.lean ====
/-
  What one trip of the two quantising loops stores, as functions of the rows it reads: the whole-vector forms of the
  normalisation (`normV`), of the scale (`scaleV`) and of the codes (`codesV`) of 32 rows of one head.
-/
module

public import proofs.«01_k».proof.Proof.IdealNames

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.SL.Sem

variable {F : FTy → Type} [FloatOps F]

/-- 32 rows of one layer's keys, normalised: divided by the root of their mean square (plus epsilon) and multiplied by the gain. -/
def normV (y : FVec F S32x128 .f32) (g : FVec F S1x128 .f32) : FVec F S32x128 .f32 :=
  mulf (mulf y (broadcastTo S32x128 (rsqrt (addf (divf (shapeCast S32x1
    (multiReduction .add [1] S32 (mulf y y) 0x00000000#32 reduces_S32x128_S32 (.inl rfl) rfl) shapeCasts_S32_S32x1)
    (broadcast S32x1 (Scalar.ofBits .f32 0x43000000#32))) (broadcast S32x1 (Scalar.ofBits .f32 0x3727C5AC#32))))
    broadcasts_S32x1_S32x128)) (broadcastTo S32x128 g broadcasts_S1x128_S32x128)

/-- The largest absolute value of each row over 448. -/
def absMaxV (y : FVec F S32x128 .f32) : FVec F S32x1 .f32 :=
  mulf (shapeCast S32x1 (multiReduction .maximumf [1] S32 (absf y) 0xFF800000#32 reduces_S32x128_S32 (.inl rfl) rfl)
    shapeCasts_S32_S32x1) (broadcast S32x1 (Scalar.ofBits .f32 0x3B124925#32))

/-- A row's value as the search compares it: at most 2^125. -/
def satV (a : FVec F S32x1 .f32) : FVec F S32x1 .f32 :=
  addf (minimumf a (broadcast S32x1 (Scalar.ofBits .f32 0x7E000000#32))) (mulf a (broadcast S32x1 (Scalar.ofBits .f32 0x00000000#32)))

/-- One step of the search: the bit `c` is kept where the float of the bits so far with it is at most the row's value. -/
def stepV (a : FVec F S32x1 .f32) (c : BitVec 32) (e : IVec S32x1 32) : IVec S32x1 32 :=
  select (cmpf .olt a (bitcastToFloat .f32 (addi e (broadcast S32x1 c)))) e (addi e (broadcast S32x1 c))

/-- The first three steps of the search. -/
def searchHiV (a : FVec F S32x1 .f32) : IVec S32x1 32 :=
  stepV a 268435456#32 (stepV a 536870912#32 (stepV a 1073741824#32 (broadcast S32x1 0#32)))

/-- The eight steps of the search. -/
def searchV (a : FVec F S32x1 .f32) : IVec S32x1 32 :=
  stepV a 8388608#32 (stepV a 16777216#32 (stepV a 33554432#32 (stepV a 67108864#32 (stepV a 134217728#32 (searchHiV a)))))

/-- The exponent bits of each row, a zero field replaced by 126. -/
def bitsV (y : FVec F S32x128 .f32) : IVec S32x1 32 :=
  select (cmpi .eq (searchV (satV (absMaxV y))) (broadcast S32x1 0#32)) (broadcast S32x1 1056964608#32) (searchV (satV (absMaxV y)))

/-- The scale of each row. -/
def scaleV (y : FVec F S32x128 .f32) : FVec F S32x1 .f32 :=
  bitcastToFloat .f32 (addi (bitsV y) (broadcast S32x1 8388608#32))

/-- The codes of each row. -/
def codesV (y : FVec F S32x128 .f32) : FVec F S32x128 .fp8e4m3 :=
  truncf .fp8e4m3 (minimumf (broadcast S32x128 (Scalar.ofBits .f32 0x43E00000#32)) (maximumf (broadcast S32x128 (Scalar.ofBits .f32 0xC3E00000#32))
    (mulf y (broadcastTo S32x128 (bitcastToFloat .f32 (subi (broadcast S32x1 2122317824#32) (bitsV y))) broadcasts_S32x1_S32x128)))) bitsLt_fp8e4m3_f32

/-- The codes of four layers, side by side. -/
def codes4V (c0 c1 c2 c3 : FVec F S32x128 .fp8e4m3) : FVec F S1x32x1x4x128 .fp8e4m3 :=
  shapeCast S1x32x1x4x128 (concatenate S32x4x128 1 [⟨S32x1x128, shapeCast S32x1x128 c0 shapeCasts_S32x128_S32x1x128⟩,
    ⟨S32x1x128, shapeCast S32x1x128 c1 shapeCasts_S32x128_S32x1x128⟩, ⟨S32x1x128, shapeCast S32x1x128 c2 shapeCasts_S32x128_S32x1x128⟩,
    ⟨S32x1x128, shapeCast S32x1x128 c3 shapeCasts_S32x128_S32x1x128⟩] concatenates_S32x1x128_S32x1x128_S32x1x128_S32x1x128_S32x4x128_d1)
    shapeCasts_S32x4x128_S1x32x1x4x128

/-- The scales of eight layers, side by side. -/
def scales8V (s0 s1 s2 s3 s4 s5 s6 s7 : FVec F S32x1 .f32) : FVec F S1x1x32x8 .f32 :=
  shapeCast S1x1x32x8 (concatenate S32x8 1 [⟨S32x1, s0⟩, ⟨S32x1, s1⟩, ⟨S32x1, s2⟩, ⟨S32x1, s3⟩, ⟨S32x1, s4⟩, ⟨S32x1, s5⟩, ⟨S32x1, s6⟩, ⟨S32x1, s7⟩]
    concatenates_S32x1_S32x1_S32x1_S32x1_S32x1_S32x1_S32x1_S32x1_S32x8_d1) shapeCasts_S32x8_S1x1x32x8

set_option maxHeartbeats 4000000 in
/-- What a trip of the key loop stores: the codes of layers 4 to 7, those of layers 0 to 3, and the scales of all eight. -/
theorem tripL_k0_t9_eq (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (v11 : Vec F S544x4096 .bf16) (X_arg9 : BufTy.Contents (Elt F) arg9.view.ty) (X_arg16 : BufTy.Contents (Elt F) arg16.view.ty) (k : Fin k0_t9_loop.trips) :
    tripL_k0_t9 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v11 X_arg9 X_arg16 k = ([⟨Rect.unit (s := S1x544x1x8x128) (k0_off34 k) S1x32x1x4x128.size (k0_off34_inb k),
        codes4V (codesV (normV (arg16.view.readAt (Elt F) (Rect.unit (s := S544x1024) (k0_off30 k) S32x128.size (k0_off30_inb k)).toLoadRect X_arg16) (arg9.view.readAt (Elt F) (Rect.unit (s := S8x128) ![4, 0] S1x128.size inb_S8x128_S1x128_4_0).toLoadRect X_arg9))) (codesV (normV (arg16.view.readAt (Elt F) (Rect.unit (s := S544x1024) (k0_off31 k) S32x128.size (k0_off31_inb k)).toLoadRect X_arg16) (arg9.view.readAt (Elt F) (Rect.unit (s := S8x128) ![5, 0] S1x128.size inb_S8x128_S1x128_5_0).toLoadRect X_arg9))) (codesV (normV (arg16.view.readAt (Elt F) (Rect.unit (s := S544x1024) (k0_off32 k) S32x128.size (k0_off32_inb k)).toLoadRect X_arg16) (arg9.view.readAt (Elt F) (Rect.unit (s := S8x128) ![6, 0] S1x128.size inb_S8x128_S1x128_6_0).toLoadRect X_arg9))) (codesV (normV (arg16.view.readAt (Elt F) (Rect.unit (s := S544x1024) (k0_off33 k) S32x128.size (k0_off33_inb k)).toLoadRect X_arg16) (arg9.view.readAt (Elt F) (Rect.unit (s := S8x128) ![7, 0] S1x128.size inb_S8x128_S1x128_7_0).toLoadRect X_arg9)))⟩,
      ⟨Rect.unit (s := S1x544x1x8x128) (k0_off29 k) S1x32x1x4x128.size (k0_off29_inb k),
        codes4V (codesV (normV (arg16.view.readAt (Elt F) (Rect.unit (s := S544x1024) (k0_off25 k) S32x128.size (k0_off25_inb k)).toLoadRect X_arg16) (arg9.view.readAt (Elt F) (Rect.unit (s := S8x128) ![0, 0] S1x128.size inb_S8x128_S1x128_0_0).toLoadRect X_arg9))) (codesV (normV (arg16.view.readAt (Elt F) (Rect.unit (s := S544x1024) (k0_off26 k) S32x128.size (k0_off26_inb k)).toLoadRect X_arg16) (arg9.view.readAt (Elt F) (Rect.unit (s := S8x128) ![1, 0] S1x128.size inb_S8x128_S1x128_1_0).toLoadRect X_arg9))) (codesV (normV (arg16.view.readAt (Elt F) (Rect.unit (s := S544x1024) (k0_off27 k) S32x128.size (k0_off27_inb k)).toLoadRect X_arg16) (arg9.view.readAt (Elt F) (Rect.unit (s := S8x128) ![2, 0] S1x128.size inb_S8x128_S1x128_2_0).toLoadRect X_arg9))) (codesV (normV (arg16.view.readAt (Elt F) (Rect.unit (s := S544x1024) (k0_off28 k) S32x128.size (k0_off28_inb k)).toLoadRect X_arg16) (arg9.view.readAt (Elt F) (Rect.unit (s := S8x128) ![3, 0] S1x128.size inb_S8x128_S1x128_3_0).toLoadRect X_arg9)))⟩],
      [⟨Rect.unit (s := S1x1x544x8) (k0_off35 k) S1x1x32x8.size (k0_off35_inb k),
        scales8V (scaleV (normV (arg16.view.readAt (Elt F) (Rect.unit (s := S544x1024) (k0_off25 k) S32x128.size (k0_off25_inb k)).toLoadRect X_arg16) (arg9.view.readAt (Elt F) (Rect.unit (s := S8x128) ![0, 0] S1x128.size inb_S8x128_S1x128_0_0).toLoadRect X_arg9))) (scaleV (normV (arg16.view.readAt (Elt F) (Rect.unit (s := S544x1024) (k0_off26 k) S32x128.size (k0_off26_inb k)).toLoadRect X_arg16) (arg9.view.readAt (Elt F) (Rect.unit (s := S8x128) ![1, 0] S1x128.size inb_S8x128_S1x128_1_0).toLoadRect X_arg9))) (scaleV (normV (arg16.view.readAt (Elt F) (Rect.unit (s := S544x1024) (k0_off27 k) S32x128.size (k0_off27_inb k)).toLoadRect X_arg16) (arg9.view.readAt (Elt F) (Rect.unit (s := S8x128) ![2, 0] S1x128.size inb_S8x128_S1x128_2_0).toLoadRect X_arg9))) (scaleV (normV (arg16.view.readAt (Elt F) (Rect.unit (s := S544x1024) (k0_off28 k) S32x128.size (k0_off28_inb k)).toLoadRect X_arg16) (arg9.view.readAt (Elt F) (Rect.unit (s := S8x128) ![3, 0] S1x128.size inb_S8x128_S1x128_3_0).toLoadRect X_arg9))) (scaleV (normV (arg16.view.readAt (Elt F) (Rect.unit (s := S544x1024) (k0_off30 k) S32x128.size (k0_off30_inb k)).toLoadRect X_arg16) (arg9.view.readAt (Elt F) (Rect.unit (s := S8x128) ![4, 0] S1x128.size inb_S8x128_S1x128_4_0).toLoadRect X_arg9))) (scaleV (normV (arg16.view.readAt (Elt F) (Rect.unit (s := S544x1024) (k0_off31 k) S32x128.size (k0_off31_inb k)).toLoadRect X_arg16) (arg9.view.readAt (Elt F) (Rect.unit (s := S8x128) ![5, 0] S1x128.size inb_S8x128_S1x128_5_0).toLoadRect X_arg9))) (scaleV (normV (arg16.view.readAt (Elt F) (Rect.unit (s := S544x1024) (k0_off32 k) S32x128.size (k0_off32_inb k)).toLoadRect X_arg16) (arg9.view.readAt (Elt F) (Rect.unit (s := S8x128) ![6, 0] S1x128.size inb_S8x128_S1x128_6_0).toLoadRect X_arg9))) (scaleV (normV (arg16.view.readAt (Elt F) (Rect.unit (s := S544x1024) (k0_off33 k) S32x128.size (k0_off33_inb k)).toLoadRect X_arg16) (arg9.view.readAt (Elt F) (Rect.unit (s := S8x128) ![7, 0] S1x128.size inb_S8x128_S1x128_7_0).toLoadRect X_arg9)))⟩]) := by
  unfold tripL_k0_t9 trip_k0_t9; rfl

set_option maxHeartbeats 4000000 in
/-- What a trip of the value loop stores: the codes of layers 4 to 7, those of layers 0 to 3, and the scales of all eight. -/
theorem tripL_k0_t18_eq (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (X_arg16 : BufTy.Contents (Elt F) arg16.view.ty) (k : Fin k0_t18_loop.trips) :
    tripL_k0_t18 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg16 k = ([⟨Rect.unit (s := S1x544x1x8x128) (k0_off69 k) S1x32x1x4x128.size (k0_off69_inb k),
        codes4V (codesV (arg16.view.readAt (Elt F) (Rect.unit (s := S544x1024) (k0_off65 k) S32x128.size (k0_off65_inb k)).toLoadRect X_arg16)) (codesV (arg16.view.readAt (Elt F) (Rect.unit (s := S544x1024) (k0_off66 k) S32x128.size (k0_off66_inb k)).toLoadRect X_arg16)) (codesV (arg16.view.readAt (Elt F) (Rect.unit (s := S544x1024) (k0_off67 k) S32x128.size (k0_off67_inb k)).toLoadRect X_arg16)) (codesV (arg16.view.readAt (Elt F) (Rect.unit (s := S544x1024) (k0_off68 k) S32x128.size (k0_off68_inb k)).toLoadRect X_arg16))⟩,
      ⟨Rect.unit (s := S1x544x1x8x128) (k0_off64 k) S1x32x1x4x128.size (k0_off64_inb k),
        codes4V (codesV (arg16.view.readAt (Elt F) (Rect.unit (s := S544x1024) (k0_off60 k) S32x128.size (k0_off60_inb k)).toLoadRect X_arg16)) (codesV (arg16.view.readAt (Elt F) (Rect.unit (s := S544x1024) (k0_off61 k) S32x128.size (k0_off61_inb k)).toLoadRect X_arg16)) (codesV (arg16.view.readAt (Elt F) (Rect.unit (s := S544x1024) (k0_off62 k) S32x128.size (k0_off62_inb k)).toLoadRect X_arg16)) (codesV (arg16.view.readAt (Elt F) (Rect.unit (s := S544x1024) (k0_off63 k) S32x128.size (k0_off63_inb k)).toLoadRect X_arg16))⟩],
      [⟨Rect.unit (s := S1x1x544x8) (k0_off70 k) S1x1x32x8.size (k0_off70_inb k),
        scales8V (scaleV (arg16.view.readAt (Elt F) (Rect.unit (s := S544x1024) (k0_off60 k) S32x128.size (k0_off60_inb k)).toLoadRect X_arg16)) (scaleV (arg16.view.readAt (Elt F) (Rect.unit (s := S544x1024) (k0_off61 k) S32x128.size (k0_off61_inb k)).toLoadRect X_arg16)) (scaleV (arg16.view.readAt (Elt F) (Rect.unit (s := S544x1024) (k0_off62 k) S32x128.size (k0_off62_inb k)).toLoadRect X_arg16)) (scaleV (arg16.view.readAt (Elt F) (Rect.unit (s := S544x1024) (k0_off63 k) S32x128.size (k0_off63_inb k)).toLoadRect X_arg16)) (scaleV (arg16.view.readAt (Elt F) (Rect.unit (s := S544x1024) (k0_off65 k) S32x128.size (k0_off65_inb k)).toLoadRect X_arg16)) (scaleV (arg16.view.readAt (Elt F) (Rect.unit (s := S544x1024) (k0_off66 k) S32x128.size (k0_off66_inb k)).toLoadRect X_arg16)) (scaleV (arg16.view.readAt (Elt F) (Rect.unit (s := S544x1024) (k0_off67 k) S32x128.size (k0_off67_inb k)).toLoadRect X_arg16)) (scaleV (arg16.view.readAt (Elt F) (Rect.unit (s := S544x1024) (k0_off68 k) S32x128.size (k0_off68_inb k)).toLoadRect X_arg16))⟩]) := by
  unfold tripL_k0_t18 trip_k0_t18; rfl

end Cert.KernelIdeal.Gen

end
-- ==== Proof.Quant.lean ====
/-
  The quantiser of one row over the extended reals: the kernel finds the exponent of a row's largest value by a search
  over exponent bits, the reference takes the largest power of two that is not above it. The two give one scale.
-/
module

public import Idealize.ShloMosaic.Lib.Pointwise
public import Idealize.ShloMosaic.Lib.IdealHost

@[expose] public section

noncomputable section

namespace Cert.Quant

open Idealize.ShloMosaic

/-- The 32-bit pattern with exponent field `n` and nothing else. -/
@[irreducible] def bits (n : ℕ) : BitVec 32 := BitVec.ofNat 32 (8388608 * n)

theorem toNat_bits (n : ℕ) (h : n ≤ 255) : (bits n).toNat = 8388608 * n := by
  unfold bits
  rw [BitVec.toNat_ofNat]; omega

theorem bits_add (m n : ℕ) (h : m + n ≤ 255) : IntOp.addi (bits m) (bits n) = bits (m + n) := by
  apply BitVec.eq_of_toNat_eq
  unfold IntOp.addi
  rw [BitVec.toNat_add, toNat_bits m (by omega), toNat_bits n (by omega), toNat_bits _ h]; omega

theorem bits_sub (m n : ℕ) (h : n ≤ m) (h' : m ≤ 255) : IntOp.subi (bits m) (bits n) = bits (m - n) := by
  apply BitVec.eq_of_toNat_eq
  unfold IntOp.subi
  rw [BitVec.toNat_sub, toNat_bits m (by omega), toNat_bits n (by omega), toNat_bits _ (by omega)]; omega

/-- A pattern by its number. -/
theorem eq_bits (n : ℕ) (c : BitVec 32) (h : n ≤ 255) (hc : c.toNat = 8388608 * n) : c = bits n := by
  apply BitVec.eq_of_toNat_eq
  rw [hc, toNat_bits n h]

/-- The extended real whose f32 pattern has exponent field `n` and nothing else. -/
def T (n : ℕ) : EReal := Ideal.ofBits .f32 (bits n)

/-- A pattern read as an f32, by its fields. -/
theorem ieee_eq (b : BitVec 32) (n : ℕ) (hx : (BitVec.extractLsb' 23 8 b).toNat = n) (hf : (BitVec.extractLsb' 0 23 b).toNat = 0)
    (hs : (BitVec.extractLsb' (8 + 23) 1 b == 1#1) = false) (h1 : 1 ≤ n) (h2 : n ≤ 254) :
    Ideal.ieee 8 23 b = (((2 : ℝ) ^ ((n : ℤ) - 127) : ℝ) : EReal) := by
  unfold Ideal.ieee
  simp only [hx, hf, hs]
  rw [if_neg (by omega), if_neg (by omega)]
  congr 1
  simp only [Bool.false_eq_true, if_false, one_mul]
  rw [show ((n : ℤ) - 127) = 23 + ((n : ℤ) - (2 ^ (8 - 1) - 1) - (23 : ℕ)) by norm_num, zpow_add₀ (by norm_num)]
  norm_num

/-- The value of `T`: a power of two. -/
theorem T_eq (n : ℕ) (h1 : 1 ≤ n) (h2 : n ≤ 254) : T n = (((2 : ℝ) ^ ((n : ℤ) - 127) : ℝ) : EReal) := by
  have hb := toNat_bits n (by omega)
  unfold T
  generalize bits n = b at hb
  have hx : (BitVec.extractLsb' 23 8 b).toNat = n := by
    simp only [BitVec.extractLsb'_toNat, Nat.shiftRight_eq_div_pow, hb]; omega
  have hf : (BitVec.extractLsb' 0 23 b).toNat = 0 := by
    simp only [BitVec.extractLsb'_toNat, Nat.shiftRight_eq_div_pow, hb]; omega
  have hs : (BitVec.extractLsb' (8 + 23) 1 b == 1#1) = false := by
    rw [beq_eq_false_iff_ne]
    intro h
    have h' := congrArg BitVec.toNat h
    simp only [BitVec.extractLsb'_toNat, Nat.shiftRight_eq_div_pow, hb, BitVec.toNat_ofNat] at h'
    omega
  exact ieee_eq b n hx hf hs h1 h2

/-- The pattern with every exponent bit is the positive infinity. -/
theorem T_top : T 255 = ⊤ := by
  unfold T
  rw [← eq_bits 255 2139095040#32 (by omega) (by decide)]
  simp [Ideal.ofBits, Ideal.ieee]

theorem T_pos (n : ℕ) (h1 : 1 ≤ n) (h2 : n ≤ 255) : 0 < T n := by
  rcases Nat.lt_or_ge n 255 with h | h
  · rw [T_eq n h1 (by omega)]; exact EReal.coe_pos.mpr (by positivity)
  · rw [show n = 255 by omega, T_top]; exact EReal.zero_lt_top

theorem T_lt {m n : ℕ} (h1 : 1 ≤ m) (h : m < n) (h2 : n ≤ 255) : T m < T n := by
  rcases Nat.lt_or_ge n 255 with h' | h'
  · rw [T_eq m h1 (by omega), T_eq n (by omega) (by omega)]
    exact EReal.coe_lt_coe_iff.mpr (zpow_lt_zpow_right₀ (by norm_num) (by omega))
  · rw [show n = 255 by omega, T_top, T_eq m h1 (by omega)]
    exact EReal.coe_lt_top _

theorem T_le {m n : ℕ} (h1 : 1 ≤ m) (h : m ≤ n) (h2 : n ≤ 255) : T m ≤ T n := by
  rcases Nat.lt_or_ge m n with h' | h'
  · exact (T_lt h1 h' h2).le
  · rw [show m = n by omega]

/-- A row's value as the search compares it. -/
def sat (a : EReal) : EReal := min a (Ideal.ofBits .f32 2113929216#32) + a * Ideal.ofBits .f32 0#32

theorem sat_eq (a : EReal) : sat a = min a (T 252) := by
  have h0 : Ideal.ofBits .f32 0#32 = 0 := by simp [Ideal.ofBits, Ideal.ieee]
  unfold sat
  rw [h0, mul_zero, add_zero, eq_bits 252 2113929216#32 (by omega) (by decide)]; rfl

/-- One step of the search. -/
def step (a : EReal) (c n : BitVec 32) : BitVec 32 :=
  if a < Ideal.ofBits .f32 (IntOp.addi n c) then n else IntOp.addi n c

/-- The eight steps of the search. -/
def search (a : EReal) : BitVec 32 :=
  step a 8388608#32 (step a 16777216#32 (step a 33554432#32 (step a 67108864#32 (step a 134217728#32
    (step a 268435456#32 (step a 536870912#32 (step a 1073741824#32 0#32)))))))

/-- The exponent field, a zero one replaced by 126. -/
def field (a : EReal) : BitVec 32 :=
  if search (sat a) = 0#32 then 1056964608#32 else search (sat a)

/-- The state of the search: the field found so far is `E`, and the value lies under the field `E + w`. -/
def Found (a : EReal) (w : ℕ) (n : BitVec 32) : Prop :=
  ∃ E : ℕ, n = bits E ∧ E + w ≤ 256 ∧ (E = 0 ∨ T E ≤ a) ∧ (E + w = 256 ∨ a < T (E + w))

theorem Found.step {a : EReal} {w : ℕ} {n : BitVec 32} (c : BitVec 32) (hw : 1 ≤ w) (hc : c = bits w)
    (h : Found a (2 * w) n) : Found a w (step a c n) := by
  obtain ⟨E, rfl, hE, hl, hh⟩ := h
  have e : IntOp.addi (bits E) c = bits (E + w) := by
    rw [hc, bits_add _ _ (by omega)]
  unfold Quant.step
  rw [e]
  split
  · next hlt => exact ⟨E, rfl, by omega, hl, .inr hlt⟩
  · next hge =>
    refine ⟨E + w, rfl, by omega, .inr (not_lt.mp hge), ?_⟩
    rw [show E + w + w = E + 2 * w by omega]; exact hh

theorem search_found (a : EReal) : Found a 1 (search a) := by
  have h0 : Found a 256 0#32 := ⟨0, eq_bits 0 _ (by omega) rfl, by omega, .inl rfl, .inl rfl⟩
  unfold search
  refine Found.step (w := 1) _ (by omega) (eq_bits _ _ (by omega) (by decide)) ?_
  refine Found.step (w := 2) _ (by omega) (eq_bits _ _ (by omega) (by decide)) ?_
  refine Found.step (w := 4) _ (by omega) (eq_bits _ _ (by omega) (by decide)) ?_
  refine Found.step (w := 8) _ (by omega) (eq_bits _ _ (by omega) (by decide)) ?_
  refine Found.step (w := 16) _ (by omega) (eq_bits _ _ (by omega) (by decide)) ?_
  refine Found.step (w := 32) _ (by omega) (eq_bits _ _ (by omega) (by decide)) ?_
  refine Found.step (w := 64) _ (by omega) (eq_bits _ _ (by omega) (by decide)) ?_
  exact Found.step (w := 128) _ (by omega) (eq_bits _ _ (by omega) (by decide)) h0

/-- The largest power of two not above `a`, of those from 2^-126 to 2^125; zero if there is none. -/
def below (a : EReal) : EReal :=
  Finset.univ.fold max ⊥ (fun k : Fin 252 => if T (k.val + 1) ≤ a then T (k.val + 1) else 0)

/-- What the search finds: a field `E` whose power of two is `below a`, no field at all if `below a` is zero. -/
theorem search_spec (a : EReal) : ∃ E : ℕ, E ≤ 252 ∧ search (sat a) = bits E ∧
    (E = 0 → below a = 0) ∧ (1 ≤ E → below a = T E) := by
  obtain ⟨E, hE, hw, hl, hh⟩ := search_found (sat a)
  rw [sat_eq] at hl hh
  have hE252 : E ≤ 252 := by
    by_contra hc
    rcases hl with h | h
    · omega
    · exact absurd (le_trans h (min_le_right _ _)) (not_le.mpr (T_lt (by omega) (by omega) (by omega)))
  have hlt : min a (T 252) < T (E + 1) := by
    rcases hh with h | h
    · omega
    · exact h
  have hk : ∀ k : Fin 252, T (k.val + 1) ≤ a → k.val + 1 ≤ E := by
    intro k hk
    by_contra hc
    have h1 : T (k.val + 1) ≤ min a (T 252) := le_min hk (T_le (by omega) (by omega) (by omega))
    exact absurd (lt_of_le_of_lt h1 hlt) (not_lt.mpr (T_le (by omega) (by omega) (by omega)))
  refine ⟨E, hE252, by rw [← hE], ?_, ?_⟩
  · intro h0
    unfold below
    refine le_antisymm (Finset.fold_max_le _ |>.mpr ⟨bot_le, fun k _ => ?_⟩)
      (Finset.le_fold_max _ |>.mpr (.inr ⟨0, Finset.mem_univ _, ?_⟩))
    · rw [if_neg (fun h => by have := hk k h; omega)]
    · rw [if_neg (fun h => by have := hk 0 h; omega)]
  · intro h1
    have hTa : T E ≤ a := by
      rcases hl with h | h
      · omega
      · exact le_trans h (min_le_left _ _)
    unfold below
    refine le_antisymm (Finset.fold_max_le _ |>.mpr ⟨bot_le, fun k _ => ?_⟩)
      (Finset.le_fold_max _ |>.mpr (.inr ⟨⟨E - 1, by omega⟩, Finset.mem_univ _, ?_⟩))
    · split
      · next h => exact T_le (by omega) (hk k h) (by omega)
      · exact (T_pos E h1 (by omega)).le
    · simp only [Nat.sub_add_cancel h1]
      rw [if_pos hTa]

/-- The scale the reference states. -/
def scaleR (a : EReal) : EReal := if below a = 0 then 1 else 2 * below a

/-- The field lies in 1 to 252, and the scale has the next one. -/
theorem field_spec (a : EReal) : ∃ E : ℕ, 1 ≤ E ∧ E ≤ 252 ∧ field a = bits E ∧
    scaleR a = T (E + 1) := by
  obtain ⟨E, hE, hs, h0, h1⟩ := search_spec a
  unfold field scaleR
  rcases Nat.eq_zero_or_pos E with h | h
  · subst h
    refine ⟨126, by omega, by omega, ?_, ?_⟩
    · rw [hs, if_pos (eq_bits 0 _ (by omega) rfl).symm]; exact eq_bits _ _ (by omega) (by decide)
    · rw [if_pos (h0 rfl), T_eq _ (by omega) (by omega)]; norm_num
  · refine ⟨E, h, hE, ?_, ?_⟩
    · rw [hs, if_neg]
      intro hc
      have := congrArg BitVec.toNat hc
      rw [toNat_bits E (by omega)] at this
      simp only [BitVec.toNat_ofNat] at this
      omega
    · rw [h1 h, if_neg (T_pos E h (by omega)).ne', T_eq _ h (by omega), T_eq _ (by omega) (by omega)]
      rw [show (2 : EReal) = ((2 : ℝ) : EReal) by norm_cast, ← EReal.coe_mul]
      congr 1
      rw [show (((E + 1 : ℕ) : ℤ) - 127) = 1 + ((E : ℤ) - 127) by push_cast; ring, zpow_add₀ (by norm_num), zpow_one]

/-- The kernel's scale is the reference's. -/
theorem scale_eq (a : EReal) : Ideal.ofBits .f32 (IntOp.addi (field a) 8388608#32) = scaleR a := by
  obtain ⟨E, h1, h2, hf, hs⟩ := field_spec a
  rw [hf, hs]
  rw [eq_bits 1 8388608#32 (by omega) (by decide), bits_add _ _ (by omega)]
  rfl

/-- The kernel multiplies by the reciprocal of that scale. -/
theorem inv_eq (a : EReal) : Ideal.ofBits .f32 (IntOp.subi 2122317824#32 (field a)) = Ideal.div 1 (scaleR a) := by
  obtain ⟨E, h1, h2, hf, hs⟩ := field_spec a
  rw [hf, hs]
  rw [eq_bits 253 2122317824#32 (by omega) (by decide), bits_sub _ _ (by omega) (by omega)]
  change T (253 - E) = _
  rw [T_eq _ (by omega) (by omega), T_eq _ (by omega) (by omega), Ideal.div, if_neg, one_mul, ← EReal.coe_inv, ← zpow_neg]
  · congr 2
    push_cast [Nat.cast_sub (show E ≤ 253 by omega)]; ring
  · exact (EReal.coe_pos.mpr (by positivity)).ne'

/-- The largest absolute value of a row over 448. -/
def amp (y : Fin 128 → EReal) : EReal :=
  Finset.fold max (Ideal.ofBits .f32 4286578688#32) (fun x => FloatOps.absf (F := Ideal) (φ := .f32) (y x)) Finset.univ * Ideal.ofBits .f32 991054117#32

/-- The scale of a row. -/
def rowScale (y : Fin 128 → EReal) : EReal := scaleR (amp y)

/-- The codes of a row: its values over the scale, between -448 and 448. -/
def rowCode (y : Fin 128 → EReal) (e : Fin 128) : EReal :=
  min (Ideal.ofBits .f32 1138753536#32) (max (Ideal.ofBits .f32 3286237184#32) (y e * Ideal.div 1 (rowScale y)))

/-- A row over the root of its mean square (plus epsilon), times the gain. -/
def rowNorm (y g : Fin 128 → EReal) (e : Fin 128) : EReal :=
  y e * Ideal.rsqrt (Ideal.div (∑ x, y x * y x) (Ideal.ofBits .f32 1124073472#32) + Ideal.ofBits .f32 925353388#32) * g e

end Cert.Quant

end
-- ==== Proof.IdealRow.lean ====
/-
  The vector forms of the quantiser over the extended reals, read at one row.
-/
module

public import proofs.«01_k».proof.Proof.IdealVec
public import proofs.«01_k».proof.Proof.Quant

@[expose] public section

set_option maxRecDepth 16384

noncomputable section

namespace Cert.KernelIdeal.Gen

open Idealize.ShloMosaic Idealize.ShloMosaic.TcCoe Idealize.ShloMosaic.Tactic
open Cert.Quant

/-- Row `r` of the normalised rows. -/
theorem normV_apply (y : FVec Ideal S32x128 .f32) (g : FVec Ideal S1x128 .f32) (r : Fin 32) (e : Fin 128) :
    normV y g (ix2 r e) = rowNorm (fun x => y (ix2 r x)) (fun x => g (ix2 0 x)) e := by
  unfold normV rowNorm; pointwise

/-- Row `r`'s largest absolute value over 448. -/
theorem absMaxV_apply (y : FVec Ideal S32x128 .f32) (r : Fin 32) : absMaxV y (ix2 r 0) = amp (fun x => y (ix2 r x)) := by
  unfold absMaxV amp; pointwise

theorem satV_apply (a : FVec Ideal S32x1 .f32) (r : Fin 32) : satV a (ix2 r 0) = sat (a (ix2 r 0)) := by
  unfold satV sat; pointwise

theorem stepV_apply (a : FVec Ideal S32x1 .f32) (c : BitVec 32) (n : IVec S32x1 32) (r : Fin 32) :
    stepV a c n (ix2 r 0) = step (a (ix2 r 0)) c (n (ix2 r 0)) := by
  unfold stepV step; pointwise

/-- Row `r`'s exponent field. -/
theorem bitsV_apply (y : FVec Ideal S32x128 .f32) (r : Fin 32) : bitsV y (ix2 r 0) = field (amp (fun x => y (ix2 r x))) := by
  have h : searchV (satV (absMaxV y)) (ix2 r 0) = search (sat (amp (fun x => y (ix2 r x)))) := by
    unfold searchV searchHiV search
    simp only [stepV_apply, satV_apply, absMaxV_apply]
    rfl
  unfold bitsV field
  pointwise
  rw [h]
  unfold Scalar.select IntOp.cmpi
  generalize search (sat (amp fun x => y (ix2 r x))) = n
  by_cases hn : n = 0#32
  · simp [hn]
  · have hb : (n == 0#32) = false := beq_eq_false_iff_ne.mpr hn
    simp [hn, hb]

/-- Row `r`'s scale. -/
theorem scaleV_apply (y : FVec Ideal S32x128 .f32) (r : Fin 32) : scaleV y (ix2 r 0) = rowScale (fun x => y (ix2 r x)) := by
  unfold scaleV rowScale
  rw [← scale_eq, ← bitsV_apply]
  pointwise

/-- Row `r`'s codes. -/
theorem codesV_apply (y : FVec Ideal S32x128 .f32) (r : Fin 32) (e : Fin 128) :
    codesV y (ix2 r e) = rowCode (fun x => y (ix2 r x)) e := by
  unfold codesV rowCode rowScale
  rw [← inv_eq, ← bitsV_apply]
  pointwise

/-- The codes of four layers side by side, by layer. -/
theorem codes4V_apply (c : Fin 4 → FVec Ideal S32x128 .fp8e4m3) (j : S1x32x1x4x128.Idx) :
    codes4V (c 0) (c 1) (c 2) (c 3) j = c (j 3) (ix2 (j 1) (j 4)) := by
  unfold codes4V
  pointwise
  generalize (j 3 : Fin 4) = l
  fin_cases l <;> simp

/-- The scales of eight layers side by side, by layer. -/
theorem scales8V_apply (s : Fin 8 → FVec Ideal S32x1 .f32) (j : S1x1x32x8.Idx) :
    scales8V (s 0) (s 1) (s 2) (s 3) (s 4) (s 5) (s 6) (s 7) j = s (j 3) (ix2 (j 2) 0) := by
  unfold scales8V
  pointwise
  generalize (j 3 : Fin 8) = l
  fin_cases l <;> simp

end Cert.KernelIdeal.Gen

end
-- ==== Proof.Fills.lean ====
/-
  Reading a buffer back after many stores.  `Fills G S L` says that every store of the list `L` writes a block of the one
  array `G`, and that together they reach every index in `S`; such an index then reads `G`, whatever was there before.
-/
module

public import Idealize.ShloMosaic.Lib.WritesUnit
public import Idealize.ShloMosaic.Lib.Writes
public import Idealize.ShloMosaic.Lib.VecWindow

@[expose] public section

namespace Cert.Fill

open Idealize.ShloMosaic Idealize.SL.Sem

variable {Val : EltTy → Type} {s : Shape} {e : EltTy}

/-- Every piece of `L` is a block of `G`, and every index of `S` lies in one of them. -/
def Fills (G : s.Idx → Val e) (S : s.Idx → Prop) (L : List (View.Piece Val s e)) : Prop :=
  (∀ p ∈ L, ∀ x : p.1.shape.Idx, p.2 x = G (p.1.emb x)) ∧ ∀ y, S y → ∃ p ∈ L, y ∈ p.1.set

/-- No store fills nothing. -/
theorem Fills.nil (G : s.Idx → Val e) : Fills G (fun _ => False) [] :=
  ⟨fun _ h => absurd h List.not_mem_nil, fun _ h => h.elim⟩

/-- A smaller set of indices is filled too. -/
theorem Fills.mono {G : s.Idx → Val e} {S S' : s.Idx → Prop} {L : List (View.Piece Val s e)} (h : Fills G S L) (hs : ∀ y, S' y → S y) :
    Fills G S' L := ⟨h.1, fun y hy => h.2 y (hs y hy)⟩

/-- Two lists of stores one after the other fill both sets. -/
theorem Fills.append {G : s.Idx → Val e} {S S' : s.Idx → Prop} {L L' : List (View.Piece Val s e)} (h : Fills G S L) (h' : Fills G S' L') :
    Fills G (fun y => S y ∨ S' y) (L ++ L') :=
  ⟨fun p hp => (List.mem_append.mp hp).elim (h.1 p) (h'.1 p), fun y hy => hy.elim
    (fun hy => let ⟨p, hp, hm⟩ := h.2 y hy; ⟨p, List.mem_append_left _ hp, hm⟩)
    (fun hy => let ⟨p, hp, hm⟩ := h'.2 y hy; ⟨p, List.mem_append_right _ hp, hm⟩)⟩

/-- One more store in front. -/
theorem Fills.cons {G : s.Idx → Val e} {S : s.Idx → Prop} {L : List (View.Piece Val s e)} {off size : Fin s.rank → ℕ}
    {inb : ∀ a, off a + size a ≤ s.size a} {w : (Rect.unit off size inb).shape.Idx → Val e}
    (hw : ∀ x, w x = G ((Rect.unit off size inb).emb x)) (h : Fills G S L) :
    Fills G (fun y => (∀ a, off a ≤ (y a).val ∧ (y a).val < off a + size a) ∨ S y) (⟨Rect.unit off size inb, w⟩ :: L) :=
  ⟨fun p hp => by
    rcases List.mem_cons.mp hp with rfl | hp
    · exact hw
    · exact h.1 p hp, fun y hy => hy.elim
    (fun hy => ⟨⟨Rect.unit off size inb, w⟩, List.mem_cons_self, (Rect.mem_set_unit (off := off) (size := size) (inb := inb)).mpr hy⟩)
    (fun hy => let ⟨p, hp, hm⟩ := h.2 y hy; ⟨p, List.mem_cons_of_mem _ hp, hm⟩)⟩

/-- The stores of the first `n` trips of a loop (the last trip's first) fill what the trips fill. -/
theorem Fills.loop {G : s.Idx → Val e} {N : ℕ} {S : Fin N → s.Idx → Prop} (pb : ℕ → List (View.Piece Val s e))
    (tr : Fin N → List (View.Piece Val s e)) (h0 : pb 0 = []) (hs : ∀ k : Fin N, pb (k.val + 1) = tr k ++ pb k.val)
    (h : ∀ k, Fills G (S k) (tr k)) : ∀ n, n ≤ N → Fills G (fun y => ∃ k : Fin N, k.val < n ∧ S k y) (pb n)
  | 0, _ => by rw [h0]; exact (Fills.nil G).mono fun y ⟨k, hk, _⟩ => absurd hk (Nat.not_lt_zero _)
  | n + 1, hn => by
    have := hs ⟨n, hn⟩
    rw [this]
    refine ((h ⟨n, hn⟩).append (Fills.loop pb tr h0 hs h n (Nat.le_of_succ_le hn))).mono fun y ⟨k, hk, hy⟩ => ?_
    rcases Nat.lt_succ_iff_lt_or_eq.mp hk with hlt | heq
    · exact .inr ⟨k, hlt, hy⟩
    · left
      have : k = ⟨n, hn⟩ := Fin.ext heq
      rw [← this]; exact hy

/-- A filled index reads `G`, whatever the buffer held before. -/
theorem Fills.read {sig : RefSig} {κ : Kind} {sp : Space} (v : View sig κ sp s e) (f : v.ty.Contents Val) {G : s.Idx → Val e}
    {S : s.Idx → Prop} {y : s.Idx} (hy : S y) : ∀ {L : List (View.Piece Val s e)}, Fills G S L → v.read Val (v.writes Val f L) y = G y :=
  fun {L} h => View.read_writes_apply_of_pieces v f G L h.1 y (h.2 y hy)

/-- A buffer filled everywhere reads `G`. -/
theorem Fills.read_all {sig : RefSig} {κ : Kind} {sp : Space} (v : View sig κ sp s e) (f : v.ty.Contents Val) {G : s.Idx → Val e}
    {S : s.Idx → Prop} (hS : ∀ y, S y) {L : List (View.Piece Val s e)} (h : Fills G S L) : v.read Val (v.writes Val f L) = G :=
  funext fun y => h.read v f (hS y)

/-- The same where older stores `L₀` lie underneath. -/
theorem Fills.read_append {sig : RefSig} {κ : Kind} {sp : Space} (v : View sig κ sp s e) (f : v.ty.Contents Val) {G : s.Idx → Val e}
    {S : s.Idx → Prop} (hS : ∀ y, S y) {L L₀ : List (View.Piece Val s e)} (h : Fills G S L) : v.read Val (v.writes Val f (L ++ L₀)) = G := by
  rw [View.writes_append]; exact h.read_all v _ hS

end Cert.Fill
-- ==== Proof.IdealGroup.lean ====
/-
  What the two quantising loops leave in the output blocks, over the extended reals: of each of the 544 rows and each of
  the eight layers, the codes and the scale of 128 columns of the accumulator.
-/
module

public import proofs.«01_k».proof.Proof.IdealRow
public import proofs.«01_k».proof.Proof.Fills

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.SL.Sem
open Cert.Quant Cert.Fill

/-- A coordinate of an index of a unit-stride block. -/
theorem emb_unit_val {s : Shape} (off size : Fin s.rank → ℕ) (inb : ∀ a, off a + size a ≤ s.size a) (j : (Rect.unit off size inb).shape.Idx)
    (a : Fin s.rank) : ((Rect.unit off size inb).emb j a).val = off a + (j a).val := by
  have e : ((Rect.unit off size inb).emb j a).val = off a + 1 * (j a).val := rfl
  rw [e, Nat.one_mul]

/-- Row `r` of layer `l` in the accumulator. -/
def headA (A : S544x1024.Idx → EReal) (r : Fin 544) (l : Fin 8) (e : Fin 128) : EReal := A (ix2 r ⟨128 * l.val + e.val, by omega⟩)

/-- Row `r` of layer `l` in the accumulator, normalised with the layer's gain. -/
def headN (A : S544x1024.Idx → EReal) (g : S8x128.Idx → EReal) (r : Fin 544) (l : Fin 8) (e : Fin 128) : EReal :=
  rowNorm (headA A r l) (fun x => g (ix2 l x)) e

/-- The block of codes of the rows `h`. -/
def outC (h : Fin 544 → Fin 8 → Fin 128 → EReal) : S1x544x1x8x128.Idx → EReal := fun y => rowCode (h (y 1) (y 3)) (y 4)

/-- The block of scales of the rows `h`. -/
def outS (h : Fin 544 → Fin 8 → Fin 128 → EReal) : S1x1x544x8.Idx → EReal := fun y => rowScale (h (y 2) (y 3))

/-- Loading 32 rows of one layer of the accumulator. -/
theorem read_rows {κ : Kind} {sp : Space} (v : View sig κ sp S544x1024 .f32) (f : v.ty.Contents (Elt Ideal)) {off : Fin 2 → ℕ}
    (inb : ∀ a, off a + S32x128.size a ≤ S544x1024.size a) (k l C : ℕ) (hk : k < 17) (hl : l < 8) (hC : C = 128 * l)
    (h : off = ![32 * k, C]) (r : Fin 32) (e : Fin 128) :
    v.readAt (Elt Ideal) (Rect.unit (s := S544x1024) off S32x128.size inb).toLoadRect f (ix2 r e)
      = headA (v.read (Elt Ideal) f) ⟨32 * k + r.val, by omega⟩ ⟨l, hl⟩ e := by
  subst hC h
  unfold headA
  change v.read (Elt Ideal) f ((Rect.unit (s := S544x1024) _ S32x128.size inb).emb (ix2 r e)) = _
  congr 1
  funext a
  apply Fin.ext
  rw [emb_unit_val]
  fin_cases a <;> rfl

/-- Loading the gain of one layer. -/
theorem read_gain {κ : Kind} {sp : Space} (v : View sig κ sp S8x128 .f32) (f : v.ty.Contents (Elt Ideal)) {l : ℕ} (hl : l < 8)
    (inb : ∀ a, (![l, 0] : Fin 2 → ℕ) a + S1x128.size a ≤ S8x128.size a) (e : Fin 128) :
    v.readAt (Elt Ideal) (Rect.unit (s := S8x128) ![l, 0] S1x128.size inb).toLoadRect f (ix2 0 e)
      = v.read (Elt Ideal) f (ix2 ⟨l, hl⟩ e) := by
  change v.read (Elt Ideal) f ((Rect.unit (s := S8x128) _ S1x128.size inb).emb (ix2 0 e)) = _
  congr 1
  funext a
  apply Fin.ext
  rw [emb_unit_val]
  fin_cases a
  · rfl
  · exact Nat.zero_add _

/-- 32 normalised rows of one layer. -/
theorem norm_rows {κ κ' : Kind} {sp sp' : Space} (v : View sig κ sp S544x1024 .f32) (f : v.ty.Contents (Elt Ideal))
    (v' : View sig κ' sp' S8x128 .f32) (f' : v'.ty.Contents (Elt Ideal)) {off : Fin 2 → ℕ}
    (inb : ∀ a, off a + S32x128.size a ≤ S544x1024.size a) (k l C : ℕ) (hk : k < 17) (hl : l < 8) (hC : C = 128 * l)
    (h : off = ![32 * k, C]) (inb' : ∀ a, (![l, 0] : Fin 2 → ℕ) a + S1x128.size a ≤ S8x128.size a) (r : Fin 32) (e : Fin 128) :
    normV (F := Ideal) (v.readAt (Elt Ideal) (Rect.unit (s := S544x1024) off S32x128.size inb).toLoadRect f)
        (v'.readAt (Elt Ideal) (Rect.unit (s := S8x128) ![l, 0] S1x128.size inb').toLoadRect f') (ix2 r e)
      = headN (v.read (Elt Ideal) f) (v'.read (Elt Ideal) f') ⟨32 * k + r.val, by omega⟩ ⟨l, hl⟩ e := by
  rw [normV_apply]
  unfold headN
  congr 1
  · funext x; exact read_rows v f inb k l C hk hl hC h r x
  · funext x; exact read_gain v' f' hl inb' x

/-- A store of the codes of 32 rows of four layers is a block of the codes of all rows. -/
theorem piece_codes {off : Fin 5 → ℕ} (inb : ∀ a, off a + S1x32x1x4x128.size a ≤ S1x544x1x8x128.size a) (k L : ℕ) (hk : k < 17)
    (hL : L + 4 ≤ 8) (hoff : off = ![0, 32 * k, 0, L, 0]) (B : Fin 4 → FVec Ideal S32x128 .f32) (h : Fin 544 → Fin 8 → Fin 128 → EReal)
    (hB : ∀ l r e, B l (ix2 r e) = h ⟨32 * k + r.val, by omega⟩ ⟨L + l.val, by omega⟩ e)
    (x : (Rect.unit (s := S1x544x1x8x128) off S1x32x1x4x128.size inb).shape.Idx) :
    codes4V (codesV (B 0)) (codesV (B 1)) (codesV (B 2)) (codesV (B 3)) x
      = outC h ((Rect.unit (s := S1x544x1x8x128) off S1x32x1x4x128.size inb).emb x) := by
  subst hoff
  refine (codes4V_apply (fun l => codesV (B l)) x).trans ?_
  refine (codesV_apply (B (x 3)) (x 1) (x 4)).trans ?_
  unfold outC
  have e1 : (fun e => B (x 3) (ix2 (x 1) e)) = h ((Rect.unit (s := S1x544x1x8x128) _ S1x32x1x4x128.size inb).emb x 1)
      ((Rect.unit (s := S1x544x1x8x128) _ S1x32x1x4x128.size inb).emb x 3) := by
    funext e
    refine (hB (x 3) (x 1) e).trans ?_
    refine congrFun (congrArg₂ h (Fin.ext ?_) (Fin.ext ?_)) e
    · rw [emb_unit_val]; rfl
    · rw [emb_unit_val]; rfl
  rw [e1]
  congr 1
  apply Fin.ext; rw [emb_unit_val]; exact (Nat.zero_add _).symm

/-- A store of the scales of 32 rows is a block of the scales of all rows. -/
theorem piece_scales {off : Fin 4 → ℕ} (inb : ∀ a, off a + S1x1x32x8.size a ≤ S1x1x544x8.size a) (k : ℕ) (hk : k < 17)
    (hoff : off = ![0, 0, 32 * k, 0]) (B : Fin 8 → FVec Ideal S32x128 .f32) (h : Fin 544 → Fin 8 → Fin 128 → EReal)
    (hB : ∀ l r e, B l (ix2 r e) = h ⟨32 * k + r.val, by omega⟩ l e)
    (x : (Rect.unit (s := S1x1x544x8) off S1x1x32x8.size inb).shape.Idx) :
    scales8V (scaleV (B 0)) (scaleV (B 1)) (scaleV (B 2)) (scaleV (B 3)) (scaleV (B 4)) (scaleV (B 5)) (scaleV (B 6)) (scaleV (B 7)) x
      = outS h ((Rect.unit (s := S1x1x544x8) off S1x1x32x8.size inb).emb x) := by
  subst hoff
  refine (scales8V_apply (fun l => scaleV (B l)) x).trans ?_
  refine (scaleV_apply (B (x 3)) (x 2)).trans ?_
  unfold outS
  congr 1
  funext e
  refine (hB (x 3) (x 2) e).trans ?_
  refine congrFun (congrArg₂ h (Fin.ext ?_) (Fin.ext ?_)) e
  · rw [emb_unit_val]; rfl
  · rw [emb_unit_val]; exact (Nat.zero_add _).symm

set_option maxHeartbeats 4000000 in
/-- The code block after all trips of the key loop. -/
theorem fills_codes_t9 (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (v11 : Vec Ideal S544x4096 .bf16) (X_arg9 : BufTy.Contents (Elt Ideal) arg9.view.ty) (X_arg16 : BufTy.Contents (Elt Ideal) arg16.view.ty) :
    Fills (Val := Elt Ideal) (outC (headN (arg16.view.read (Elt Ideal) X_arg16) (arg9.view.read (Elt Ideal) X_arg9))) (fun _ => True) (pb_k0_t9 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v11 X_arg9 X_arg16 (Scf.trips k0_t9_loop.lb k0_t9_loop.ub k0_t9_loop.st)).1 := by
  refine (Fills.loop (N := k0_t9_loop.trips) (G := (outC (headN (arg16.view.read (Elt Ideal) X_arg16) (arg9.view.read (Elt Ideal) X_arg9)) : S1x544x1x8x128.Idx → Elt Ideal .fp8e4m3))
    (S := fun k y => 32 * k.val ≤ (y 1).val ∧ (y 1).val < 32 * k.val + 32)
    (fun j => (pb_k0_t9 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v11 X_arg9 X_arg16 j).1) (fun k => (tripL_k0_t9 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v11 X_arg9 X_arg16 k).1) rfl
    (fun k => by rw [pb_k0_t9_succ]) (fun k => ?_) _ (le_refl _)).mono fun y _ => ?_
  · rw [tripL_k0_t9_eq]
    refine ((Fills.nil _).cons (inb := k0_off29_inb k) (fun x => piece_codes (k0_off29_inb k) k.val 0 k.isLt (by omega) (k0_off29_eq k)
      ![(normV (arg16.view.readAt (Elt Ideal) (Rect.unit (s := S544x1024) (k0_off25 k) S32x128.size (k0_off25_inb k)).toLoadRect X_arg16) (arg9.view.readAt (Elt Ideal) (Rect.unit (s := S8x128) ![0, 0] S1x128.size inb_S8x128_S1x128_0_0).toLoadRect X_arg9)), (normV (arg16.view.readAt (Elt Ideal) (Rect.unit (s := S544x1024) (k0_off26 k) S32x128.size (k0_off26_inb k)).toLoadRect X_arg16) (arg9.view.readAt (Elt Ideal) (Rect.unit (s := S8x128) ![1, 0] S1x128.size inb_S8x128_S1x128_1_0).toLoadRect X_arg9)), (normV (arg16.view.readAt (Elt Ideal) (Rect.unit (s := S544x1024) (k0_off27 k) S32x128.size (k0_off27_inb k)).toLoadRect X_arg16) (arg9.view.readAt (Elt Ideal) (Rect.unit (s := S8x128) ![2, 0] S1x128.size inb_S8x128_S1x128_2_0).toLoadRect X_arg9)), (normV (arg16.view.readAt (Elt Ideal) (Rect.unit (s := S544x1024) (k0_off28 k) S32x128.size (k0_off28_inb k)).toLoadRect X_arg16) (arg9.view.readAt (Elt Ideal) (Rect.unit (s := S8x128) ![3, 0] S1x128.size inb_S8x128_S1x128_3_0).toLoadRect X_arg9))] (headN (arg16.view.read (Elt Ideal) X_arg16) (arg9.view.read (Elt Ideal) X_arg9)) (fun l r e => by
      fin_cases l
      · exact norm_rows arg16.view X_arg16 arg9.view X_arg9 (k0_off25_inb k) k.val 0 _ k.isLt (by omega) rfl (k0_off25_eq k) inb_S8x128_S1x128_0_0 r e
      · exact norm_rows arg16.view X_arg16 arg9.view X_arg9 (k0_off26_inb k) k.val 1 _ k.isLt (by omega) rfl (k0_off26_eq k) inb_S8x128_S1x128_1_0 r e
      · exact norm_rows arg16.view X_arg16 arg9.view X_arg9 (k0_off27_inb k) k.val 2 _ k.isLt (by omega) rfl (k0_off27_eq k) inb_S8x128_S1x128_2_0 r e
      · exact norm_rows arg16.view X_arg16 arg9.view X_arg9 (k0_off28_inb k) k.val 3 _ k.isLt (by omega) rfl (k0_off28_eq k) inb_S8x128_S1x128_3_0 r e) x)
      |>.cons (inb := k0_off34_inb k) (fun x => piece_codes (k0_off34_inb k) k.val 4 k.isLt (by omega) (k0_off34_eq k)
      ![(normV (arg16.view.readAt (Elt Ideal) (Rect.unit (s := S544x1024) (k0_off30 k) S32x128.size (k0_off30_inb k)).toLoadRect X_arg16) (arg9.view.readAt (Elt Ideal) (Rect.unit (s := S8x128) ![4, 0] S1x128.size inb_S8x128_S1x128_4_0).toLoadRect X_arg9)), (normV (arg16.view.readAt (Elt Ideal) (Rect.unit (s := S544x1024) (k0_off31 k) S32x128.size (k0_off31_inb k)).toLoadRect X_arg16) (arg9.view.readAt (Elt Ideal) (Rect.unit (s := S8x128) ![5, 0] S1x128.size inb_S8x128_S1x128_5_0).toLoadRect X_arg9)), (normV (arg16.view.readAt (Elt Ideal) (Rect.unit (s := S544x1024) (k0_off32 k) S32x128.size (k0_off32_inb k)).toLoadRect X_arg16) (arg9.view.readAt (Elt Ideal) (Rect.unit (s := S8x128) ![6, 0] S1x128.size inb_S8x128_S1x128_6_0).toLoadRect X_arg9)), (normV (arg16.view.readAt (Elt Ideal) (Rect.unit (s := S544x1024) (k0_off33 k) S32x128.size (k0_off33_inb k)).toLoadRect X_arg16) (arg9.view.readAt (Elt Ideal) (Rect.unit (s := S8x128) ![7, 0] S1x128.size inb_S8x128_S1x128_7_0).toLoadRect X_arg9))] (headN (arg16.view.read (Elt Ideal) X_arg16) (arg9.view.read (Elt Ideal) X_arg9)) (fun l r e => by
      fin_cases l
      · exact norm_rows arg16.view X_arg16 arg9.view X_arg9 (k0_off30_inb k) k.val 4 _ k.isLt (by omega) rfl (k0_off30_eq k) inb_S8x128_S1x128_4_0 r e
      · exact norm_rows arg16.view X_arg16 arg9.view X_arg9 (k0_off31_inb k) k.val 5 _ k.isLt (by omega) rfl (k0_off31_eq k) inb_S8x128_S1x128_5_0 r e
      · exact norm_rows arg16.view X_arg16 arg9.view X_arg9 (k0_off32_inb k) k.val 6 _ k.isLt (by omega) rfl (k0_off32_eq k) inb_S8x128_S1x128_6_0 r e
      · exact norm_rows arg16.view X_arg16 arg9.view X_arg9 (k0_off33_inb k) k.val 7 _ k.isLt (by omega) rfl (k0_off33_eq k) inb_S8x128_S1x128_7_0 r e) x)).mono fun y hy => ?_
    have h0 : (y 0).val < 1 := (y 0).isLt
    have h2 : (y 2).val < 1 := (y 2).isLt
    have h3 : (y 3).val < 8 := (y 3).isLt
    have h4 : (y 4).val < 128 := (y 4).isLt
    by_cases hl : (y 3).val < 4
    · refine .inr (.inl fun a => ?_)
      rw [k0_off29_eq]
      fin_cases a
      · exact ⟨Nat.zero_le _, by simpa using h0⟩
      · exact hy
      · exact ⟨Nat.zero_le _, by simpa using h2⟩
      · exact ⟨Nat.zero_le _, by simpa using hl⟩
      · exact ⟨Nat.zero_le _, by simpa using h4⟩
    · refine .inl fun a => ?_
      rw [k0_off34_eq]
      fin_cases a
      · exact ⟨Nat.zero_le _, by simpa using h0⟩
      · exact hy
      · exact ⟨Nat.zero_le _, by simpa using h2⟩
      · exact ⟨not_lt.mp hl, h3⟩
      · exact ⟨Nat.zero_le _, by simpa using h4⟩
  · have h1 : (y 1).val < 544 := (y 1).isLt
    exact ⟨⟨(y 1).val / 32, show (y 1).val / 32 < 17 by omega⟩, show (y 1).val / 32 < 17 by omega,
      show 32 * ((y 1).val / 32) ≤ (y 1).val by omega, show (y 1).val < 32 * ((y 1).val / 32) + 32 by omega⟩

set_option maxHeartbeats 4000000 in
/-- The scale block after all trips of the key loop. -/
theorem fills_scales_t9 (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (v11 : Vec Ideal S544x4096 .bf16) (X_arg9 : BufTy.Contents (Elt Ideal) arg9.view.ty) (X_arg16 : BufTy.Contents (Elt Ideal) arg16.view.ty) :
    Fills (Val := Elt Ideal) (outS (headN (arg16.view.read (Elt Ideal) X_arg16) (arg9.view.read (Elt Ideal) X_arg9))) (fun _ => True) (pb_k0_t9 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v11 X_arg9 X_arg16 (Scf.trips k0_t9_loop.lb k0_t9_loop.ub k0_t9_loop.st)).2 := by
  refine (Fills.loop (N := k0_t9_loop.trips) (G := (outS (headN (arg16.view.read (Elt Ideal) X_arg16) (arg9.view.read (Elt Ideal) X_arg9)) : S1x1x544x8.Idx → Elt Ideal .f32))
    (S := fun k y => 32 * k.val ≤ (y 2).val ∧ (y 2).val < 32 * k.val + 32)
    (fun j => (pb_k0_t9 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v11 X_arg9 X_arg16 j).2) (fun k => (tripL_k0_t9 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v11 X_arg9 X_arg16 k).2) rfl
    (fun k => by rw [pb_k0_t9_succ]) (fun k => ?_) _ (le_refl _)).mono fun y _ => ?_
  · rw [tripL_k0_t9_eq]
    refine ((Fills.nil _).cons (inb := k0_off35_inb k) (fun x => piece_scales (k0_off35_inb k) k.val k.isLt (k0_off35_eq k)
      ![(normV (arg16.view.readAt (Elt Ideal) (Rect.unit (s := S544x1024) (k0_off25 k) S32x128.size (k0_off25_inb k)).toLoadRect X_arg16) (arg9.view.readAt (Elt Ideal) (Rect.unit (s := S8x128) ![0, 0] S1x128.size inb_S8x128_S1x128_0_0).toLoadRect X_arg9)), (normV (arg16.view.readAt (Elt Ideal) (Rect.unit (s := S544x1024) (k0_off26 k) S32x128.size (k0_off26_inb k)).toLoadRect X_arg16) (arg9.view.readAt (Elt Ideal) (Rect.unit (s := S8x128) ![1, 0] S1x128.size inb_S8x128_S1x128_1_0).toLoadRect X_arg9)), (normV (arg16.view.readAt (Elt Ideal) (Rect.unit (s := S544x1024) (k0_off27 k) S32x128.size (k0_off27_inb k)).toLoadRect X_arg16) (arg9.view.readAt (Elt Ideal) (Rect.unit (s := S8x128) ![2, 0] S1x128.size inb_S8x128_S1x128_2_0).toLoadRect X_arg9)), (normV (arg16.view.readAt (Elt Ideal) (Rect.unit (s := S544x1024) (k0_off28 k) S32x128.size (k0_off28_inb k)).toLoadRect X_arg16) (arg9.view.readAt (Elt Ideal) (Rect.unit (s := S8x128) ![3, 0] S1x128.size inb_S8x128_S1x128_3_0).toLoadRect X_arg9)), (normV (arg16.view.readAt (Elt Ideal) (Rect.unit (s := S544x1024) (k0_off30 k) S32x128.size (k0_off30_inb k)).toLoadRect X_arg16) (arg9.view.readAt (Elt Ideal) (Rect.unit (s := S8x128) ![4, 0] S1x128.size inb_S8x128_S1x128_4_0).toLoadRect X_arg9)), (normV (arg16.view.readAt (Elt Ideal) (Rect.unit (s := S544x1024) (k0_off31 k) S32x128.size (k0_off31_inb k)).toLoadRect X_arg16) (arg9.view.readAt (Elt Ideal) (Rect.unit (s := S8x128) ![5, 0] S1x128.size inb_S8x128_S1x128_5_0).toLoadRect X_arg9)), (normV (arg16.view.readAt (Elt Ideal) (Rect.unit (s := S544x1024) (k0_off32 k) S32x128.size (k0_off32_inb k)).toLoadRect X_arg16) (arg9.view.readAt (Elt Ideal) (Rect.unit (s := S8x128) ![6, 0] S1x128.size inb_S8x128_S1x128_6_0).toLoadRect X_arg9)), (normV (arg16.view.readAt (Elt Ideal) (Rect.unit (s := S544x1024) (k0_off33 k) S32x128.size (k0_off33_inb k)).toLoadRect X_arg16) (arg9.view.readAt (Elt Ideal) (Rect.unit (s := S8x128) ![7, 0] S1x128.size inb_S8x128_S1x128_7_0).toLoadRect X_arg9))] (headN (arg16.view.read (Elt Ideal) X_arg16) (arg9.view.read (Elt Ideal) X_arg9)) (fun l r e => by
      fin_cases l
      · exact norm_rows arg16.view X_arg16 arg9.view X_arg9 (k0_off25_inb k) k.val 0 _ k.isLt (by omega) rfl (k0_off25_eq k) inb_S8x128_S1x128_0_0 r e
      · exact norm_rows arg16.view X_arg16 arg9.view X_arg9 (k0_off26_inb k) k.val 1 _ k.isLt (by omega) rfl (k0_off26_eq k) inb_S8x128_S1x128_1_0 r e
      · exact norm_rows arg16.view X_arg16 arg9.view X_arg9 (k0_off27_inb k) k.val 2 _ k.isLt (by omega) rfl (k0_off27_eq k) inb_S8x128_S1x128_2_0 r e
      · exact norm_rows arg16.view X_arg16 arg9.view X_arg9 (k0_off28_inb k) k.val 3 _ k.isLt (by omega) rfl (k0_off28_eq k) inb_S8x128_S1x128_3_0 r e
      · exact norm_rows arg16.view X_arg16 arg9.view X_arg9 (k0_off30_inb k) k.val 4 _ k.isLt (by omega) rfl (k0_off30_eq k) inb_S8x128_S1x128_4_0 r e
      · exact norm_rows arg16.view X_arg16 arg9.view X_arg9 (k0_off31_inb k) k.val 5 _ k.isLt (by omega) rfl (k0_off31_eq k) inb_S8x128_S1x128_5_0 r e
      · exact norm_rows arg16.view X_arg16 arg9.view X_arg9 (k0_off32_inb k) k.val 6 _ k.isLt (by omega) rfl (k0_off32_eq k) inb_S8x128_S1x128_6_0 r e
      · exact norm_rows arg16.view X_arg16 arg9.view X_arg9 (k0_off33_inb k) k.val 7 _ k.isLt (by omega) rfl (k0_off33_eq k) inb_S8x128_S1x128_7_0 r e) x)).mono fun y hy => ?_
    have h0 : (y 0).val < 1 := (y 0).isLt
    have h1 : (y 1).val < 1 := (y 1).isLt
    have h3 : (y 3).val < 8 := (y 3).isLt
    refine .inl fun a => ?_
    rw [k0_off35_eq]
    fin_cases a
    · exact ⟨Nat.zero_le _, by simpa using h0⟩
    · exact ⟨Nat.zero_le _, by simpa using h1⟩
    · exact hy
    · exact ⟨Nat.zero_le _, by simpa using h3⟩
  · have h1 : (y 2).val < 544 := (y 2).isLt
    exact ⟨⟨(y 2).val / 32, show (y 2).val / 32 < 17 by omega⟩, show (y 2).val / 32 < 17 by omega,
      show 32 * ((y 2).val / 32) ≤ (y 2).val by omega, show (y 2).val < 32 * ((y 2).val / 32) + 32 by omega⟩

set_option maxHeartbeats 4000000 in
/-- The code block after all trips of the value loop. -/
theorem fills_codes_t18 (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (X_arg16 : BufTy.Contents (Elt Ideal) arg16.view.ty) :
    Fills (Val := Elt Ideal) (outC (headA (arg16.view.read (Elt Ideal) X_arg16))) (fun _ => True) (pb_k0_t18 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg16 (Scf.trips k0_t18_loop.lb k0_t18_loop.ub k0_t18_loop.st)).1 := by
  refine (Fills.loop (N := k0_t18_loop.trips) (G := (outC (headA (arg16.view.read (Elt Ideal) X_arg16)) : S1x544x1x8x128.Idx → Elt Ideal .fp8e4m3))
    (S := fun k y => 32 * k.val ≤ (y 1).val ∧ (y 1).val < 32 * k.val + 32)
    (fun j => (pb_k0_t18 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg16 j).1) (fun k => (tripL_k0_t18 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg16 k).1) rfl
    (fun k => by rw [pb_k0_t18_succ]) (fun k => ?_) _ (le_refl _)).mono fun y _ => ?_
  · rw [tripL_k0_t18_eq]
    refine ((Fills.nil _).cons (inb := k0_off64_inb k) (fun x => piece_codes (k0_off64_inb k) k.val 0 k.isLt (by omega) (k0_off64_eq k)
      ![(arg16.view.readAt (Elt Ideal) (Rect.unit (s := S544x1024) (k0_off60 k) S32x128.size (k0_off60_inb k)).toLoadRect X_arg16), (arg16.view.readAt (Elt Ideal) (Rect.unit (s := S544x1024) (k0_off61 k) S32x128.size (k0_off61_inb k)).toLoadRect X_arg16), (arg16.view.readAt (Elt Ideal) (Rect.unit (s := S544x1024) (k0_off62 k) S32x128.size (k0_off62_inb k)).toLoadRect X_arg16), (arg16.view.readAt (Elt Ideal) (Rect.unit (s := S544x1024) (k0_off63 k) S32x128.size (k0_off63_inb k)).toLoadRect X_arg16)] (headA (arg16.view.read (Elt Ideal) X_arg16)) (fun l r e => by
      fin_cases l
      · exact read_rows arg16.view X_arg16 (k0_off60_inb k) k.val 0 _ k.isLt (by omega) rfl (k0_off60_eq k) r e
      · exact read_rows arg16.view X_arg16 (k0_off61_inb k) k.val 1 _ k.isLt (by omega) rfl (k0_off61_eq k) r e
      · exact read_rows arg16.view X_arg16 (k0_off62_inb k) k.val 2 _ k.isLt (by omega) rfl (k0_off62_eq k) r e
      · exact read_rows arg16.view X_arg16 (k0_off63_inb k) k.val 3 _ k.isLt (by omega) rfl (k0_off63_eq k) r e) x)
      |>.cons (inb := k0_off69_inb k) (fun x => piece_codes (k0_off69_inb k) k.val 4 k.isLt (by omega) (k0_off69_eq k)
      ![(arg16.view.readAt (Elt Ideal) (Rect.unit (s := S544x1024) (k0_off65 k) S32x128.size (k0_off65_inb k)).toLoadRect X_arg16), (arg16.view.readAt (Elt Ideal) (Rect.unit (s := S544x1024) (k0_off66 k) S32x128.size (k0_off66_inb k)).toLoadRect X_arg16), (arg16.view.readAt (Elt Ideal) (Rect.unit (s := S544x1024) (k0_off67 k) S32x128.size (k0_off67_inb k)).toLoadRect X_arg16), (arg16.view.readAt (Elt Ideal) (Rect.unit (s := S544x1024) (k0_off68 k) S32x128.size (k0_off68_inb k)).toLoadRect X_arg16)] (headA (arg16.view.read (Elt Ideal) X_arg16)) (fun l r e => by
      fin_cases l
      · exact read_rows arg16.view X_arg16 (k0_off65_inb k) k.val 4 _ k.isLt (by omega) rfl (k0_off65_eq k) r e
      · exact read_rows arg16.view X_arg16 (k0_off66_inb k) k.val 5 _ k.isLt (by omega) rfl (k0_off66_eq k) r e
      · exact read_rows arg16.view X_arg16 (k0_off67_inb k) k.val 6 _ k.isLt (by omega) rfl (k0_off67_eq k) r e
      · exact read_rows arg16.view X_arg16 (k0_off68_inb k) k.val 7 _ k.isLt (by omega) rfl (k0_off68_eq k) r e) x)).mono fun y hy => ?_
    have h0 : (y 0).val < 1 := (y 0).isLt
    have h2 : (y 2).val < 1 := (y 2).isLt
    have h3 : (y 3).val < 8 := (y 3).isLt
    have h4 : (y 4).val < 128 := (y 4).isLt
    by_cases hl : (y 3).val < 4
    · refine .inr (.inl fun a => ?_)
      rw [k0_off64_eq]
      fin_cases a
      · exact ⟨Nat.zero_le _, by simpa using h0⟩
      · exact hy
      · exact ⟨Nat.zero_le _, by simpa using h2⟩
      · exact ⟨Nat.zero_le _, by simpa using hl⟩
      · exact ⟨Nat.zero_le _, by simpa using h4⟩
    · refine .inl fun a => ?_
      rw [k0_off69_eq]
      fin_cases a
      · exact ⟨Nat.zero_le _, by simpa using h0⟩
      · exact hy
      · exact ⟨Nat.zero_le _, by simpa using h2⟩
      · exact ⟨not_lt.mp hl, h3⟩
      · exact ⟨Nat.zero_le _, by simpa using h4⟩
  · have h1 : (y 1).val < 544 := (y 1).isLt
    exact ⟨⟨(y 1).val / 32, show (y 1).val / 32 < 17 by omega⟩, show (y 1).val / 32 < 17 by omega,
      show 32 * ((y 1).val / 32) ≤ (y 1).val by omega, show (y 1).val < 32 * ((y 1).val / 32) + 32 by omega⟩

set_option maxHeartbeats 4000000 in
/-- The scale block after all trips of the value loop. -/
theorem fills_scales_t18 (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (X_arg16 : BufTy.Contents (Elt Ideal) arg16.view.ty) :
    Fills (Val := Elt Ideal) (outS (headA (arg16.view.read (Elt Ideal) X_arg16))) (fun _ => True) (pb_k0_t18 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg16 (Scf.trips k0_t18_loop.lb k0_t18_loop.ub k0_t18_loop.st)).2 := by
  refine (Fills.loop (N := k0_t18_loop.trips) (G := (outS (headA (arg16.view.read (Elt Ideal) X_arg16)) : S1x1x544x8.Idx → Elt Ideal .f32))
    (S := fun k y => 32 * k.val ≤ (y 2).val ∧ (y 2).val < 32 * k.val + 32)
    (fun j => (pb_k0_t18 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg16 j).2) (fun k => (tripL_k0_t18 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg16 k).2) rfl
    (fun k => by rw [pb_k0_t18_succ]) (fun k => ?_) _ (le_refl _)).mono fun y _ => ?_
  · rw [tripL_k0_t18_eq]
    refine ((Fills.nil _).cons (inb := k0_off70_inb k) (fun x => piece_scales (k0_off70_inb k) k.val k.isLt (k0_off70_eq k)
      ![(arg16.view.readAt (Elt Ideal) (Rect.unit (s := S544x1024) (k0_off60 k) S32x128.size (k0_off60_inb k)).toLoadRect X_arg16), (arg16.view.readAt (Elt Ideal) (Rect.unit (s := S544x1024) (k0_off61 k) S32x128.size (k0_off61_inb k)).toLoadRect X_arg16), (arg16.view.readAt (Elt Ideal) (Rect.unit (s := S544x1024) (k0_off62 k) S32x128.size (k0_off62_inb k)).toLoadRect X_arg16), (arg16.view.readAt (Elt Ideal) (Rect.unit (s := S544x1024) (k0_off63 k) S32x128.size (k0_off63_inb k)).toLoadRect X_arg16), (arg16.view.readAt (Elt Ideal) (Rect.unit (s := S544x1024) (k0_off65 k) S32x128.size (k0_off65_inb k)).toLoadRect X_arg16), (arg16.view.readAt (Elt Ideal) (Rect.unit (s := S544x1024) (k0_off66 k) S32x128.size (k0_off66_inb k)).toLoadRect X_arg16), (arg16.view.readAt (Elt Ideal) (Rect.unit (s := S544x1024) (k0_off67 k) S32x128.size (k0_off67_inb k)).toLoadRect X_arg16), (arg16.view.readAt (Elt Ideal) (Rect.unit (s := S544x1024) (k0_off68 k) S32x128.size (k0_off68_inb k)).toLoadRect X_arg16)] (headA (arg16.view.read (Elt Ideal) X_arg16)) (fun l r e => by
      fin_cases l
      · exact read_rows arg16.view X_arg16 (k0_off60_inb k) k.val 0 _ k.isLt (by omega) rfl (k0_off60_eq k) r e
      · exact read_rows arg16.view X_arg16 (k0_off61_inb k) k.val 1 _ k.isLt (by omega) rfl (k0_off61_eq k) r e
      · exact read_rows arg16.view X_arg16 (k0_off62_inb k) k.val 2 _ k.isLt (by omega) rfl (k0_off62_eq k) r e
      · exact read_rows arg16.view X_arg16 (k0_off63_inb k) k.val 3 _ k.isLt (by omega) rfl (k0_off63_eq k) r e
      · exact read_rows arg16.view X_arg16 (k0_off65_inb k) k.val 4 _ k.isLt (by omega) rfl (k0_off65_eq k) r e
      · exact read_rows arg16.view X_arg16 (k0_off66_inb k) k.val 5 _ k.isLt (by omega) rfl (k0_off66_eq k) r e
      · exact read_rows arg16.view X_arg16 (k0_off67_inb k) k.val 6 _ k.isLt (by omega) rfl (k0_off67_eq k) r e
      · exact read_rows arg16.view X_arg16 (k0_off68_inb k) k.val 7 _ k.isLt (by omega) rfl (k0_off68_eq k) r e) x)).mono fun y hy => ?_
    have h0 : (y 0).val < 1 := (y 0).isLt
    have h1 : (y 1).val < 1 := (y 1).isLt
    have h3 : (y 3).val < 8 := (y 3).isLt
    refine .inl fun a => ?_
    rw [k0_off70_eq]
    fin_cases a
    · exact ⟨Nat.zero_le _, by simpa using h0⟩
    · exact ⟨Nat.zero_le _, by simpa using h1⟩
    · exact hy
    · exact ⟨Nat.zero_le _, by simpa using h3⟩
  · have h1 : (y 2).val < 544 := (y 2).isLt
    exact ⟨⟨(y 2).val / 32, show (y 2).val / 32 < 17 by omega⟩, show (y 2).val / 32 < 17 by omega,
      show 32 * ((y 2).val / 32) ≤ (y 2).val by omega, show (y 2).val < 32 * ((y 2).val / 32) + 32 by omega⟩

end Cert.KernelIdeal.Gen

end
-- ==== Proof.IdealWiden.lean ====
/-
  The sixteen loops that dequantise one head's weights into the weight buffer: after all trips of the loop of layer `l`
  the buffer's columns 128 l to 128 l + 127 hold the codes times the scales.
-/
module

public import proofs.«01_k».proof.Proof.IdealGroup

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.SL.Sem
open Cert.Fill

/-- One 128 by 128 block of codes times its scale. -/
def widenV {F : FTy → Type} [FloatOps F] (w : FVec F S1x1x128x128 .fp8e4m3) (s : Elt F .f32) : FVec F S128x128 .bf16 :=
  shapeCast S128x128 (mulf (extf .bf16 (shapeCast S128x128 w shapeCasts_S1x1x128x128_S128x128) bitsLt_fp8e4m3_bf16)
    (truncf .bf16 (broadcast S128x128 s) bitsLt_bf16_f32)) shapeCasts_S128x128_S128x128

theorem widenV_apply (w : FVec Ideal S1x1x128x128 .fp8e4m3) (s : Elt Ideal .f32) (d e : Fin 128) :
    widenV (F := Ideal) w s (ix2 d e) = (w (ix4 0 0 d e) * s : EReal) := by
  unfold widenV; pointwise

/-- One head's weights: row `d`, and column `e` of layer `l` at 128 l + e. -/
def wideW (w : S8x1x4096x128.Idx → EReal) (s : S1x8x1x32.Idx → EReal) : S4096x1024.Idx → EReal := fun y =>
  have h0 : (y 0).val < 4096 := (y 0).isLt
  have h1 : (y 1).val < 1024 := (y 1).isLt
  w (ix4 ⟨(y 1).val / 128, by omega⟩ 0 ⟨(y 0).val, h0⟩ ⟨(y 1).val % 128, by omega⟩)
    * s (ix4 0 ⟨(y 1).val / 128, by omega⟩ 0 ⟨(y 0).val / 128, by omega⟩)

/-- A store of one widened block is a block of `wideW`. -/
theorem piece_wide {κ κ' : Kind} {sp sp' : Space} (v : View sig κ sp S8x1x4096x128 .fp8e4m3) (f : v.ty.Contents (Elt Ideal))
    (v' : View sig κ' sp' S1x8x1x32 .f32) (f' : v'.ty.Contents (Elt Ideal)) {off off' : Fin 4 → ℕ} {offO : Fin 2 → ℕ}
    (inb : ∀ a, off a + S1x1x128x128.size a ≤ S8x1x4096x128.size a) (inb' : ∀ a, off' a + S1x1x1x1.size a ≤ S1x8x1x32.size a)
    (inbO : ∀ a, offO a + S128x128.size a ≤ S4096x1024.size a) (k l C : ℕ) (hk : k < 32) (hl : l < 8) (hC : C = 128 * l)
    (h : off = ![l, 0, 128 * k, 0]) (h' : off' = ![0, l, 0, k]) (hO : offO = ![128 * k, C])
    (z : (Rect.unit (s := S1x8x1x32) off' S1x1x1x1.size inb').toLoadRect.shape.Idx)
    (x : (Rect.unit (s := S4096x1024) offO S128x128.size inbO).shape.Idx) :
    widenV (F := Ideal) (v.readAt (Elt Ideal) (Rect.unit (s := S8x1x4096x128) off S1x1x128x128.size inb).toLoadRect f)
        (v'.readAt (Elt Ideal) (Rect.unit (s := S1x8x1x32) off' S1x1x1x1.size inb').toLoadRect f' z) x
      = wideW (v.read (Elt Ideal) f) (v'.read (Elt Ideal) f') ((Rect.unit (s := S4096x1024) offO S128x128.size inbO).emb x) := by
  subst hC h h' hO
  have hx0 : (x 0).val < 128 := (x 0).isLt
  have hx1 : (x 1).val < 128 := (x 1).isLt
  have e0 := emb_unit_val (s := S4096x1024) _ S128x128.size inbO x 0
  have e1 := emb_unit_val (s := S4096x1024) _ S128x128.size inbO x 1
  have e0' : ((Rect.unit (s := S4096x1024) _ S128x128.size inbO).emb x 0).val = 128 * k + (x 0).val := e0
  have e1' : ((Rect.unit (s := S4096x1024) _ S128x128.size inbO).emb x 1).val = 128 * l + (x 1).val := e1
  have hx : x = ix2 (x 0) (x 1) := by funext a; fin_cases a <;> rfl
  refine (congrArg _ hx).trans ((widenV_apply _ _ (x 0) (x 1)).trans ?_)
  unfold wideW
  refine congrArg₂ (· * ·) ?_ ?_
  · change v.read (Elt Ideal) f ((Rect.unit (s := S8x1x4096x128) _ S1x1x128x128.size inb).emb (ix4 0 0 (x 0) (x 1))) = _
    congr 1
    funext a
    apply Fin.ext
    rw [emb_unit_val]
    fin_cases a
    · change l + 0 = ((Rect.unit (s := S4096x1024) _ S128x128.size inbO).emb x 1).val / 128
      omega
    · rfl
    · change 128 * k + (x 0).val = ((Rect.unit (s := S4096x1024) _ S128x128.size inbO).emb x 0).val
      omega
    · change 0 + (x 1).val = ((Rect.unit (s := S4096x1024) _ S128x128.size inbO).emb x 1).val % 128
      omega
  · change v'.read (Elt Ideal) f' ((Rect.unit (s := S1x8x1x32) _ S1x1x1x1.size inb').emb z) = _
    congr 1
    funext a
    apply Fin.ext
    rw [emb_unit_val]
    fin_cases a
    · have hz : (z 0).val < 1 := (z 0).isLt
      change 0 + (z 0).val = 0
      omega
    · have hz : (z 1).val < 1 := (z 1).isLt
      change l + (z 1).val = ((Rect.unit (s := S4096x1024) _ S128x128.size inbO).emb x 1).val / 128
      omega
    · have hz : (z 2).val < 1 := (z 2).isLt
      change 0 + (z 2).val = 0
      omega
    · have hz : (z 3).val < 1 := (z 3).isLt
      change k + (z 3).val = ((Rect.unit (s := S4096x1024) _ S128x128.size inbO).emb x 0).val / 128
      omega

/-- The columns of layer `l`. -/
def Cols (l : ℕ) (y : S4096x1024.Idx) : Prop := 128 * l ≤ (y 1).val ∧ (y 1).val < 128 * l + 128

/-- Every column is of one of the eight layers. -/
theorem cols_all (y : S4096x1024.Idx) : Cols 7 y ∨ Cols 6 y ∨ Cols 5 y ∨ Cols 4 y ∨ Cols 3 y ∨ Cols 2 y ∨ Cols 1 y ∨ Cols 0 y := by
  have h1 : (y 1).val < 1024 := (y 1).isLt
  unfold Cols
  omega

/-- A loop of 32 trips that stores block row `k` of the columns of layer `l` at trip `k` fills those columns. -/
theorem fills_cols {N : ℕ} (hN : N = 32) (G : S4096x1024.Idx → EReal) (l C : ℕ) (hl : l < 8) (hC : C = 128 * l)
    (pb : ℕ → List (View.Piece (Elt Ideal) S4096x1024 .bf16)) (off : Fin N → Fin 2 → ℕ)
    (inb : ∀ k a, off k a + S128x128.size a ≤ S4096x1024.size a) (hoff : ∀ k, off k = ![128 * k.val, C])
    (w : (k : Fin N) → (Rect.unit (s := S4096x1024) (off k) S128x128.size (inb k)).shape.Idx → Elt Ideal .bf16)
    (hw : ∀ k x, w k x = G ((Rect.unit (s := S4096x1024) (off k) S128x128.size (inb k)).emb x)) (h0 : pb 0 = [])
    (hs : ∀ k : Fin N, pb (k.val + 1) = [⟨Rect.unit (s := S4096x1024) (off k) S128x128.size (inb k), w k⟩] ++ pb k.val) :
    Fills (Val := Elt Ideal) (s := S4096x1024) (e := .bf16) G (Cols l) (pb N) := by
  subst hN
  refine (Fills.loop (N := 32) (G := (G : S4096x1024.Idx → Elt Ideal .bf16)) (S := fun k y => 128 * k.val ≤ (y 0).val ∧ (y 0).val < 128 * k.val + 128 ∧ Cols l y)
    pb _ h0 hs (fun k => ((Fills.nil _).cons (inb := inb k) (hw k)).mono fun y hy => ?_) _ (le_refl _)).mono fun y hy => ?_
  · refine .inl fun a => ?_
    rw [hoff, hC]
    fin_cases a
    · exact ⟨hy.1, hy.2.1⟩
    · exact hy.2.2
  · have h1 : (y 0).val < 4096 := (y 0).isLt
    exact ⟨⟨(y 0).val / 128, by omega⟩, show (y 0).val / 128 < 32 by omega,
      show 128 * ((y 0).val / 128) ≤ (y 0).val by omega, show (y 0).val < 128 * ((y 0).val / 128) + 128 by omega, hy⟩

set_option maxHeartbeats 400000 in
/-- What trip `k` of that loop stores. -/
theorem tripL_k0_t1_eq {F : FTy → Type} [FloatOps F] (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (X_arg5 : BufTy.Contents (Elt F) arg5.view.ty) (X_arg6 : BufTy.Contents (Elt F) arg6.view.ty) (k : Fin k0_t1_loop.trips) :
    tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg5 X_arg6 k = [⟨Rect.unit (s := S4096x1024) (k0_off3 k) S128x128.size (k0_off3_inb k), widenV (arg5.view.readAt (Elt F) (Rect.unit (s := S8x1x4096x128) (k0_off1 k) S1x1x128x128.size (k0_off1_inb k)).toLoadRect X_arg5)
      (arg6.view.readAt (Elt F) (Rect.unit (s := S1x8x1x32) (k0_off2 k) S1x1x1x1.size (k0_off2_inb k)).toLoadRect X_arg6 (Shape.Idx.first (show 0 < S1x1x1x1.numel by decide)))⟩] := by
  unfold tripL_k0_t1 trip_k0_t1; rfl

set_option maxHeartbeats 400000 in
/-- The keys' layer 0. -/
theorem fills_t1 (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (X_arg5 : BufTy.Contents (Elt Ideal) arg5.view.ty) (X_arg6 : BufTy.Contents (Elt Ideal) arg6.view.ty) :
    Fills (Val := Elt Ideal) (s := S4096x1024) (e := .bf16) (wideW (arg5.view.read (Elt Ideal) X_arg5) (arg6.view.read (Elt Ideal) X_arg6)) (Cols 0)
      (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg5 X_arg6 (Scf.trips k0_t1_loop.lb k0_t1_loop.ub k0_t1_loop.st)) :=
  fills_cols (N := k0_t1_loop.trips) rfl _ 0 _ (by omega) rfl _ k0_off3 k0_off3_inb k0_off3_eq
    (fun k => widenV (F := Ideal) (arg5.view.readAt (Elt Ideal) (Rect.unit (s := S8x1x4096x128) (k0_off1 k) S1x1x128x128.size (k0_off1_inb k)).toLoadRect X_arg5)
      (arg6.view.readAt (Elt Ideal) (Rect.unit (s := S1x8x1x32) (k0_off2 k) S1x1x1x1.size (k0_off2_inb k)).toLoadRect X_arg6 (Shape.Idx.first (show 0 < S1x1x1x1.numel by decide))))
    (fun k x => piece_wide arg5.view X_arg5 arg6.view X_arg6 (k0_off1_inb k) (k0_off2_inb k) (k0_off3_inb k) k.val 0 _ k.isLt (by omega) rfl
      (k0_off1_eq k) (k0_off2_eq k) (k0_off3_eq k) _ x) rfl
    (fun k => by rw [pb_k0_t1_succ, tripL_k0_t1_eq])

set_option maxHeartbeats 400000 in
/-- What trip `k` of that loop stores. -/
theorem tripL_k0_t2_eq {F : FTy → Type} [FloatOps F] (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (X_arg5 : BufTy.Contents (Elt F) arg5.view.ty) (X_arg6 : BufTy.Contents (Elt F) arg6.view.ty) (k : Fin k0_t2_loop.trips) :
    tripL_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg5 X_arg6 k = [⟨Rect.unit (s := S4096x1024) (k0_off6 k) S128x128.size (k0_off6_inb k), widenV (arg5.view.readAt (Elt F) (Rect.unit (s := S8x1x4096x128) (k0_off4 k) S1x1x128x128.size (k0_off4_inb k)).toLoadRect X_arg5)
      (arg6.view.readAt (Elt F) (Rect.unit (s := S1x8x1x32) (k0_off5 k) S1x1x1x1.size (k0_off5_inb k)).toLoadRect X_arg6 (Shape.Idx.first (show 0 < S1x1x1x1.numel by decide)))⟩] := by
  unfold tripL_k0_t2 trip_k0_t2; rfl

set_option maxHeartbeats 400000 in
/-- The keys' layer 1. -/
theorem fills_t2 (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (X_arg5 : BufTy.Contents (Elt Ideal) arg5.view.ty) (X_arg6 : BufTy.Contents (Elt Ideal) arg6.view.ty) :
    Fills (Val := Elt Ideal) (s := S4096x1024) (e := .bf16) (wideW (arg5.view.read (Elt Ideal) X_arg5) (arg6.view.read (Elt Ideal) X_arg6)) (Cols 1)
      (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg5 X_arg6 (Scf.trips k0_t2_loop.lb k0_t2_loop.ub k0_t2_loop.st)) :=
  fills_cols (N := k0_t2_loop.trips) rfl _ 1 _ (by omega) rfl _ k0_off6 k0_off6_inb k0_off6_eq
    (fun k => widenV (F := Ideal) (arg5.view.readAt (Elt Ideal) (Rect.unit (s := S8x1x4096x128) (k0_off4 k) S1x1x128x128.size (k0_off4_inb k)).toLoadRect X_arg5)
      (arg6.view.readAt (Elt Ideal) (Rect.unit (s := S1x8x1x32) (k0_off5 k) S1x1x1x1.size (k0_off5_inb k)).toLoadRect X_arg6 (Shape.Idx.first (show 0 < S1x1x1x1.numel by decide))))
    (fun k x => piece_wide arg5.view X_arg5 arg6.view X_arg6 (k0_off4_inb k) (k0_off5_inb k) (k0_off6_inb k) k.val 1 _ k.isLt (by omega) rfl
      (k0_off4_eq k) (k0_off5_eq k) (k0_off6_eq k) _ x) rfl
    (fun k => by rw [pb_k0_t2_succ, tripL_k0_t2_eq])

set_option maxHeartbeats 400000 in
/-- What trip `k` of that loop stores. -/
theorem tripL_k0_t3_eq {F : FTy → Type} [FloatOps F] (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (X_arg5 : BufTy.Contents (Elt F) arg5.view.ty) (X_arg6 : BufTy.Contents (Elt F) arg6.view.ty) (k : Fin k0_t3_loop.trips) :
    tripL_k0_t3 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg5 X_arg6 k = [⟨Rect.unit (s := S4096x1024) (k0_off9 k) S128x128.size (k0_off9_inb k), widenV (arg5.view.readAt (Elt F) (Rect.unit (s := S8x1x4096x128) (k0_off7 k) S1x1x128x128.size (k0_off7_inb k)).toLoadRect X_arg5)
      (arg6.view.readAt (Elt F) (Rect.unit (s := S1x8x1x32) (k0_off8 k) S1x1x1x1.size (k0_off8_inb k)).toLoadRect X_arg6 (Shape.Idx.first (show 0 < S1x1x1x1.numel by decide)))⟩] := by
  unfold tripL_k0_t3 trip_k0_t3; rfl

set_option maxHeartbeats 400000 in
/-- The keys' layer 2. -/
theorem fills_t3 (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (X_arg5 : BufTy.Contents (Elt Ideal) arg5.view.ty) (X_arg6 : BufTy.Contents (Elt Ideal) arg6.view.ty) :
    Fills (Val := Elt Ideal) (s := S4096x1024) (e := .bf16) (wideW (arg5.view.read (Elt Ideal) X_arg5) (arg6.view.read (Elt Ideal) X_arg6)) (Cols 2)
      (pb_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg5 X_arg6 (Scf.trips k0_t3_loop.lb k0_t3_loop.ub k0_t3_loop.st)) :=
  fills_cols (N := k0_t3_loop.trips) rfl _ 2 _ (by omega) rfl _ k0_off9 k0_off9_inb k0_off9_eq
    (fun k => widenV (F := Ideal) (arg5.view.readAt (Elt Ideal) (Rect.unit (s := S8x1x4096x128) (k0_off7 k) S1x1x128x128.size (k0_off7_inb k)).toLoadRect X_arg5)
      (arg6.view.readAt (Elt Ideal) (Rect.unit (s := S1x8x1x32) (k0_off8 k) S1x1x1x1.size (k0_off8_inb k)).toLoadRect X_arg6 (Shape.Idx.first (show 0 < S1x1x1x1.numel by decide))))
    (fun k x => piece_wide arg5.view X_arg5 arg6.view X_arg6 (k0_off7_inb k) (k0_off8_inb k) (k0_off9_inb k) k.val 2 _ k.isLt (by omega) rfl
      (k0_off7_eq k) (k0_off8_eq k) (k0_off9_eq k) _ x) rfl
    (fun k => by rw [pb_k0_t3_succ, tripL_k0_t3_eq])

set_option maxHeartbeats 400000 in
/-- What trip `k` of that loop stores. -/
theorem tripL_k0_t4_eq {F : FTy → Type} [FloatOps F] (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (X_arg5 : BufTy.Contents (Elt F) arg5.view.ty) (X_arg6 : BufTy.Contents (Elt F) arg6.view.ty) (k : Fin k0_t4_loop.trips) :
    tripL_k0_t4 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg5 X_arg6 k = [⟨Rect.unit (s := S4096x1024) (k0_off12 k) S128x128.size (k0_off12_inb k), widenV (arg5.view.readAt (Elt F) (Rect.unit (s := S8x1x4096x128) (k0_off10 k) S1x1x128x128.size (k0_off10_inb k)).toLoadRect X_arg5)
      (arg6.view.readAt (Elt F) (Rect.unit (s := S1x8x1x32) (k0_off11 k) S1x1x1x1.size (k0_off11_inb k)).toLoadRect X_arg6 (Shape.Idx.first (show 0 < S1x1x1x1.numel by decide)))⟩] := by
  unfold tripL_k0_t4 trip_k0_t4; rfl

set_option maxHeartbeats 400000 in
/-- The keys' layer 3. -/
theorem fills_t4 (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (X_arg5 : BufTy.Contents (Elt Ideal) arg5.view.ty) (X_arg6 : BufTy.Contents (Elt Ideal) arg6.view.ty) :
    Fills (Val := Elt Ideal) (s := S4096x1024) (e := .bf16) (wideW (arg5.view.read (Elt Ideal) X_arg5) (arg6.view.read (Elt Ideal) X_arg6)) (Cols 3)
      (pb_k0_t4 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg5 X_arg6 (Scf.trips k0_t4_loop.lb k0_t4_loop.ub k0_t4_loop.st)) :=
  fills_cols (N := k0_t4_loop.trips) rfl _ 3 _ (by omega) rfl _ k0_off12 k0_off12_inb k0_off12_eq
    (fun k => widenV (F := Ideal) (arg5.view.readAt (Elt Ideal) (Rect.unit (s := S8x1x4096x128) (k0_off10 k) S1x1x128x128.size (k0_off10_inb k)).toLoadRect X_arg5)
      (arg6.view.readAt (Elt Ideal) (Rect.unit (s := S1x8x1x32) (k0_off11 k) S1x1x1x1.size (k0_off11_inb k)).toLoadRect X_arg6 (Shape.Idx.first (show 0 < S1x1x1x1.numel by decide))))
    (fun k x => piece_wide arg5.view X_arg5 arg6.view X_arg6 (k0_off10_inb k) (k0_off11_inb k) (k0_off12_inb k) k.val 3 _ k.isLt (by omega) rfl
      (k0_off10_eq k) (k0_off11_eq k) (k0_off12_eq k) _ x) rfl
    (fun k => by rw [pb_k0_t4_succ, tripL_k0_t4_eq])

set_option maxHeartbeats 400000 in
/-- What trip `k` of that loop stores. -/
theorem tripL_k0_t5_eq {F : FTy → Type} [FloatOps F] (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (X_arg5 : BufTy.Contents (Elt F) arg5.view.ty) (X_arg6 : BufTy.Contents (Elt F) arg6.view.ty) (k : Fin k0_t5_loop.trips) :
    tripL_k0_t5 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg5 X_arg6 k = [⟨Rect.unit (s := S4096x1024) (k0_off15 k) S128x128.size (k0_off15_inb k), widenV (arg5.view.readAt (Elt F) (Rect.unit (s := S8x1x4096x128) (k0_off13 k) S1x1x128x128.size (k0_off13_inb k)).toLoadRect X_arg5)
      (arg6.view.readAt (Elt F) (Rect.unit (s := S1x8x1x32) (k0_off14 k) S1x1x1x1.size (k0_off14_inb k)).toLoadRect X_arg6 (Shape.Idx.first (show 0 < S1x1x1x1.numel by decide)))⟩] := by
  unfold tripL_k0_t5 trip_k0_t5; rfl

set_option maxHeartbeats 400000 in
/-- The keys' layer 4. -/
theorem fills_t5 (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (X_arg5 : BufTy.Contents (Elt Ideal) arg5.view.ty) (X_arg6 : BufTy.Contents (Elt Ideal) arg6.view.ty) :
    Fills (Val := Elt Ideal) (s := S4096x1024) (e := .bf16) (wideW (arg5.view.read (Elt Ideal) X_arg5) (arg6.view.read (Elt Ideal) X_arg6)) (Cols 4)
      (pb_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg5 X_arg6 (Scf.trips k0_t5_loop.lb k0_t5_loop.ub k0_t5_loop.st)) :=
  fills_cols (N := k0_t5_loop.trips) rfl _ 4 _ (by omega) rfl _ k0_off15 k0_off15_inb k0_off15_eq
    (fun k => widenV (F := Ideal) (arg5.view.readAt (Elt Ideal) (Rect.unit (s := S8x1x4096x128) (k0_off13 k) S1x1x128x128.size (k0_off13_inb k)).toLoadRect X_arg5)
      (arg6.view.readAt (Elt Ideal) (Rect.unit (s := S1x8x1x32) (k0_off14 k) S1x1x1x1.size (k0_off14_inb k)).toLoadRect X_arg6 (Shape.Idx.first (show 0 < S1x1x1x1.numel by decide))))
    (fun k x => piece_wide arg5.view X_arg5 arg6.view X_arg6 (k0_off13_inb k) (k0_off14_inb k) (k0_off15_inb k) k.val 4 _ k.isLt (by omega) rfl
      (k0_off13_eq k) (k0_off14_eq k) (k0_off15_eq k) _ x) rfl
    (fun k => by rw [pb_k0_t5_succ, tripL_k0_t5_eq])

set_option maxHeartbeats 400000 in
/-- What trip `k` of that loop stores. -/
theorem tripL_k0_t6_eq {F : FTy → Type} [FloatOps F] (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (X_arg5 : BufTy.Contents (Elt F) arg5.view.ty) (X_arg6 : BufTy.Contents (Elt F) arg6.view.ty) (k : Fin k0_t6_loop.trips) :
    tripL_k0_t6 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg5 X_arg6 k = [⟨Rect.unit (s := S4096x1024) (k0_off18 k) S128x128.size (k0_off18_inb k), widenV (arg5.view.readAt (Elt F) (Rect.unit (s := S8x1x4096x128) (k0_off16 k) S1x1x128x128.size (k0_off16_inb k)).toLoadRect X_arg5)
      (arg6.view.readAt (Elt F) (Rect.unit (s := S1x8x1x32) (k0_off17 k) S1x1x1x1.size (k0_off17_inb k)).toLoadRect X_arg6 (Shape.Idx.first (show 0 < S1x1x1x1.numel by decide)))⟩] := by
  unfold tripL_k0_t6 trip_k0_t6; rfl

set_option maxHeartbeats 400000 in
/-- The keys' layer 5. -/
theorem fills_t6 (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (X_arg5 : BufTy.Contents (Elt Ideal) arg5.view.ty) (X_arg6 : BufTy.Contents (Elt Ideal) arg6.view.ty) :
    Fills (Val := Elt Ideal) (s := S4096x1024) (e := .bf16) (wideW (arg5.view.read (Elt Ideal) X_arg5) (arg6.view.read (Elt Ideal) X_arg6)) (Cols 5)
      (pb_k0_t6 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg5 X_arg6 (Scf.trips k0_t6_loop.lb k0_t6_loop.ub k0_t6_loop.st)) :=
  fills_cols (N := k0_t6_loop.trips) rfl _ 5 _ (by omega) rfl _ k0_off18 k0_off18_inb k0_off18_eq
    (fun k => widenV (F := Ideal) (arg5.view.readAt (Elt Ideal) (Rect.unit (s := S8x1x4096x128) (k0_off16 k) S1x1x128x128.size (k0_off16_inb k)).toLoadRect X_arg5)
      (arg6.view.readAt (Elt Ideal) (Rect.unit (s := S1x8x1x32) (k0_off17 k) S1x1x1x1.size (k0_off17_inb k)).toLoadRect X_arg6 (Shape.Idx.first (show 0 < S1x1x1x1.numel by decide))))
    (fun k x => piece_wide arg5.view X_arg5 arg6.view X_arg6 (k0_off16_inb k) (k0_off17_inb k) (k0_off18_inb k) k.val 5 _ k.isLt (by omega) rfl
      (k0_off16_eq k) (k0_off17_eq k) (k0_off18_eq k) _ x) rfl
    (fun k => by rw [pb_k0_t6_succ, tripL_k0_t6_eq])

set_option maxHeartbeats 400000 in
/-- What trip `k` of that loop stores. -/
theorem tripL_k0_t7_eq {F : FTy → Type} [FloatOps F] (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (X_arg5 : BufTy.Contents (Elt F) arg5.view.ty) (X_arg6 : BufTy.Contents (Elt F) arg6.view.ty) (k : Fin k0_t7_loop.trips) :
    tripL_k0_t7 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg5 X_arg6 k = [⟨Rect.unit (s := S4096x1024) (k0_off21 k) S128x128.size (k0_off21_inb k), widenV (arg5.view.readAt (Elt F) (Rect.unit (s := S8x1x4096x128) (k0_off19 k) S1x1x128x128.size (k0_off19_inb k)).toLoadRect X_arg5)
      (arg6.view.readAt (Elt F) (Rect.unit (s := S1x8x1x32) (k0_off20 k) S1x1x1x1.size (k0_off20_inb k)).toLoadRect X_arg6 (Shape.Idx.first (show 0 < S1x1x1x1.numel by decide)))⟩] := by
  unfold tripL_k0_t7 trip_k0_t7; rfl

set_option maxHeartbeats 400000 in
/-- The keys' layer 6. -/
theorem fills_t7 (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (X_arg5 : BufTy.Contents (Elt Ideal) arg5.view.ty) (X_arg6 : BufTy.Contents (Elt Ideal) arg6.view.ty) :
    Fills (Val := Elt Ideal) (s := S4096x1024) (e := .bf16) (wideW (arg5.view.read (Elt Ideal) X_arg5) (arg6.view.read (Elt Ideal) X_arg6)) (Cols 6)
      (pb_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg5 X_arg6 (Scf.trips k0_t7_loop.lb k0_t7_loop.ub k0_t7_loop.st)) :=
  fills_cols (N := k0_t7_loop.trips) rfl _ 6 _ (by omega) rfl _ k0_off21 k0_off21_inb k0_off21_eq
    (fun k => widenV (F := Ideal) (arg5.view.readAt (Elt Ideal) (Rect.unit (s := S8x1x4096x128) (k0_off19 k) S1x1x128x128.size (k0_off19_inb k)).toLoadRect X_arg5)
      (arg6.view.readAt (Elt Ideal) (Rect.unit (s := S1x8x1x32) (k0_off20 k) S1x1x1x1.size (k0_off20_inb k)).toLoadRect X_arg6 (Shape.Idx.first (show 0 < S1x1x1x1.numel by decide))))
    (fun k x => piece_wide arg5.view X_arg5 arg6.view X_arg6 (k0_off19_inb k) (k0_off20_inb k) (k0_off21_inb k) k.val 6 _ k.isLt (by omega) rfl
      (k0_off19_eq k) (k0_off20_eq k) (k0_off21_eq k) _ x) rfl
    (fun k => by rw [pb_k0_t7_succ, tripL_k0_t7_eq])

set_option maxHeartbeats 400000 in
/-- What trip `k` of that loop stores. -/
theorem tripL_k0_t8_eq {F : FTy → Type} [FloatOps F] (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (X_arg5 : BufTy.Contents (Elt F) arg5.view.ty) (X_arg6 : BufTy.Contents (Elt F) arg6.view.ty) (k : Fin k0_t8_loop.trips) :
    tripL_k0_t8 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg5 X_arg6 k = [⟨Rect.unit (s := S4096x1024) (k0_off24 k) S128x128.size (k0_off24_inb k), widenV (arg5.view.readAt (Elt F) (Rect.unit (s := S8x1x4096x128) (k0_off22 k) S1x1x128x128.size (k0_off22_inb k)).toLoadRect X_arg5)
      (arg6.view.readAt (Elt F) (Rect.unit (s := S1x8x1x32) (k0_off23 k) S1x1x1x1.size (k0_off23_inb k)).toLoadRect X_arg6 (Shape.Idx.first (show 0 < S1x1x1x1.numel by decide)))⟩] := by
  unfold tripL_k0_t8 trip_k0_t8; rfl

set_option maxHeartbeats 400000 in
/-- The keys' layer 7. -/
theorem fills_t8 (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (X_arg5 : BufTy.Contents (Elt Ideal) arg5.view.ty) (X_arg6 : BufTy.Contents (Elt Ideal) arg6.view.ty) :
    Fills (Val := Elt Ideal) (s := S4096x1024) (e := .bf16) (wideW (arg5.view.read (Elt Ideal) X_arg5) (arg6.view.read (Elt Ideal) X_arg6)) (Cols 7)
      (pb_k0_t8 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg5 X_arg6 (Scf.trips k0_t8_loop.lb k0_t8_loop.ub k0_t8_loop.st)) :=
  fills_cols (N := k0_t8_loop.trips) rfl _ 7 _ (by omega) rfl _ k0_off24 k0_off24_inb k0_off24_eq
    (fun k => widenV (F := Ideal) (arg5.view.readAt (Elt Ideal) (Rect.unit (s := S8x1x4096x128) (k0_off22 k) S1x1x128x128.size (k0_off22_inb k)).toLoadRect X_arg5)
      (arg6.view.readAt (Elt Ideal) (Rect.unit (s := S1x8x1x32) (k0_off23 k) S1x1x1x1.size (k0_off23_inb k)).toLoadRect X_arg6 (Shape.Idx.first (show 0 < S1x1x1x1.numel by decide))))
    (fun k x => piece_wide arg5.view X_arg5 arg6.view X_arg6 (k0_off22_inb k) (k0_off23_inb k) (k0_off24_inb k) k.val 7 _ k.isLt (by omega) rfl
      (k0_off22_eq k) (k0_off23_eq k) (k0_off24_eq k) _ x) rfl
    (fun k => by rw [pb_k0_t8_succ, tripL_k0_t8_eq])

set_option maxHeartbeats 400000 in
/-- What trip `k` of that loop stores. -/
theorem tripL_k0_t10_eq {F : FTy → Type} [FloatOps F] (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (v11 : Vec F S544x4096 .bf16) (X_arg7 : BufTy.Contents (Elt F) arg7.view.ty) (X_arg8 : BufTy.Contents (Elt F) arg8.view.ty) (k : Fin k0_t10_loop.trips) :
    tripL_k0_t10 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v11 X_arg7 X_arg8 k = [⟨Rect.unit (s := S4096x1024) (k0_off38 k) S128x128.size (k0_off38_inb k), widenV (arg7.view.readAt (Elt F) (Rect.unit (s := S8x1x4096x128) (k0_off36 k) S1x1x128x128.size (k0_off36_inb k)).toLoadRect X_arg7)
      (arg8.view.readAt (Elt F) (Rect.unit (s := S1x8x1x32) (k0_off37 k) S1x1x1x1.size (k0_off37_inb k)).toLoadRect X_arg8 (Shape.Idx.first (show 0 < S1x1x1x1.numel by decide)))⟩] := by
  unfold tripL_k0_t10 trip_k0_t10; rfl

set_option maxHeartbeats 400000 in
/-- The values' layer 0. -/
theorem fills_t10 (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (v11 : Vec Ideal S544x4096 .bf16) (X_arg7 : BufTy.Contents (Elt Ideal) arg7.view.ty) (X_arg8 : BufTy.Contents (Elt Ideal) arg8.view.ty) :
    Fills (Val := Elt Ideal) (s := S4096x1024) (e := .bf16) (wideW (arg7.view.read (Elt Ideal) X_arg7) (arg8.view.read (Elt Ideal) X_arg8)) (Cols 0)
      (pb_k0_t10 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v11 X_arg7 X_arg8 (Scf.trips k0_t10_loop.lb k0_t10_loop.ub k0_t10_loop.st)) :=
  fills_cols (N := k0_t10_loop.trips) rfl _ 0 _ (by omega) rfl _ k0_off38 k0_off38_inb k0_off38_eq
    (fun k => widenV (F := Ideal) (arg7.view.readAt (Elt Ideal) (Rect.unit (s := S8x1x4096x128) (k0_off36 k) S1x1x128x128.size (k0_off36_inb k)).toLoadRect X_arg7)
      (arg8.view.readAt (Elt Ideal) (Rect.unit (s := S1x8x1x32) (k0_off37 k) S1x1x1x1.size (k0_off37_inb k)).toLoadRect X_arg8 (Shape.Idx.first (show 0 < S1x1x1x1.numel by decide))))
    (fun k x => piece_wide arg7.view X_arg7 arg8.view X_arg8 (k0_off36_inb k) (k0_off37_inb k) (k0_off38_inb k) k.val 0 _ k.isLt (by omega) rfl
      (k0_off36_eq k) (k0_off37_eq k) (k0_off38_eq k) _ x) rfl
    (fun k => by rw [pb_k0_t10_succ, tripL_k0_t10_eq])

set_option maxHeartbeats 400000 in
/-- What trip `k` of that loop stores. -/
theorem tripL_k0_t11_eq {F : FTy → Type} [FloatOps F] (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (v11 : Vec F S544x4096 .bf16) (X_arg7 : BufTy.Contents (Elt F) arg7.view.ty) (X_arg8 : BufTy.Contents (Elt F) arg8.view.ty) (k : Fin k0_t11_loop.trips) :
    tripL_k0_t11 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v11 X_arg7 X_arg8 k = [⟨Rect.unit (s := S4096x1024) (k0_off41 k) S128x128.size (k0_off41_inb k), widenV (arg7.view.readAt (Elt F) (Rect.unit (s := S8x1x4096x128) (k0_off39 k) S1x1x128x128.size (k0_off39_inb k)).toLoadRect X_arg7)
      (arg8.view.readAt (Elt F) (Rect.unit (s := S1x8x1x32) (k0_off40 k) S1x1x1x1.size (k0_off40_inb k)).toLoadRect X_arg8 (Shape.Idx.first (show 0 < S1x1x1x1.numel by decide)))⟩] := by
  unfold tripL_k0_t11 trip_k0_t11; rfl

set_option maxHeartbeats 400000 in
/-- The values' layer 1. -/
theorem fills_t11 (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (v11 : Vec Ideal S544x4096 .bf16) (X_arg7 : BufTy.Contents (Elt Ideal) arg7.view.ty) (X_arg8 : BufTy.Contents (Elt Ideal) arg8.view.ty) :
    Fills (Val := Elt Ideal) (s := S4096x1024) (e := .bf16) (wideW (arg7.view.read (Elt Ideal) X_arg7) (arg8.view.read (Elt Ideal) X_arg8)) (Cols 1)
      (pb_k0_t11 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v11 X_arg7 X_arg8 (Scf.trips k0_t11_loop.lb k0_t11_loop.ub k0_t11_loop.st)) :=
  fills_cols (N := k0_t11_loop.trips) rfl _ 1 _ (by omega) rfl _ k0_off41 k0_off41_inb k0_off41_eq
    (fun k => widenV (F := Ideal) (arg7.view.readAt (Elt Ideal) (Rect.unit (s := S8x1x4096x128) (k0_off39 k) S1x1x128x128.size (k0_off39_inb k)).toLoadRect X_arg7)
      (arg8.view.readAt (Elt Ideal) (Rect.unit (s := S1x8x1x32) (k0_off40 k) S1x1x1x1.size (k0_off40_inb k)).toLoadRect X_arg8 (Shape.Idx.first (show 0 < S1x1x1x1.numel by decide))))
    (fun k x => piece_wide arg7.view X_arg7 arg8.view X_arg8 (k0_off39_inb k) (k0_off40_inb k) (k0_off41_inb k) k.val 1 _ k.isLt (by omega) rfl
      (k0_off39_eq k) (k0_off40_eq k) (k0_off41_eq k) _ x) rfl
    (fun k => by rw [pb_k0_t11_succ, tripL_k0_t11_eq])

set_option maxHeartbeats 400000 in
/-- What trip `k` of that loop stores. -/
theorem tripL_k0_t12_eq {F : FTy → Type} [FloatOps F] (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (v11 : Vec F S544x4096 .bf16) (X_arg7 : BufTy.Contents (Elt F) arg7.view.ty) (X_arg8 : BufTy.Contents (Elt F) arg8.view.ty) (k : Fin k0_t12_loop.trips) :
    tripL_k0_t12 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v11 X_arg7 X_arg8 k = [⟨Rect.unit (s := S4096x1024) (k0_off44 k) S128x128.size (k0_off44_inb k), widenV (arg7.view.readAt (Elt F) (Rect.unit (s := S8x1x4096x128) (k0_off42 k) S1x1x128x128.size (k0_off42_inb k)).toLoadRect X_arg7)
      (arg8.view.readAt (Elt F) (Rect.unit (s := S1x8x1x32) (k0_off43 k) S1x1x1x1.size (k0_off43_inb k)).toLoadRect X_arg8 (Shape.Idx.first (show 0 < S1x1x1x1.numel by decide)))⟩] := by
  unfold tripL_k0_t12 trip_k0_t12; rfl

set_option maxHeartbeats 400000 in
/-- The values' layer 2. -/
theorem fills_t12 (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (v11 : Vec Ideal S544x4096 .bf16) (X_arg7 : BufTy.Contents (Elt Ideal) arg7.view.ty) (X_arg8 : BufTy.Contents (Elt Ideal) arg8.view.ty) :
    Fills (Val := Elt Ideal) (s := S4096x1024) (e := .bf16) (wideW (arg7.view.read (Elt Ideal) X_arg7) (arg8.view.read (Elt Ideal) X_arg8)) (Cols 2)
      (pb_k0_t12 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v11 X_arg7 X_arg8 (Scf.trips k0_t12_loop.lb k0_t12_loop.ub k0_t12_loop.st)) :=
  fills_cols (N := k0_t12_loop.trips) rfl _ 2 _ (by omega) rfl _ k0_off44 k0_off44_inb k0_off44_eq
    (fun k => widenV (F := Ideal) (arg7.view.readAt (Elt Ideal) (Rect.unit (s := S8x1x4096x128) (k0_off42 k) S1x1x128x128.size (k0_off42_inb k)).toLoadRect X_arg7)
      (arg8.view.readAt (Elt Ideal) (Rect.unit (s := S1x8x1x32) (k0_off43 k) S1x1x1x1.size (k0_off43_inb k)).toLoadRect X_arg8 (Shape.Idx.first (show 0 < S1x1x1x1.numel by decide))))
    (fun k x => piece_wide arg7.view X_arg7 arg8.view X_arg8 (k0_off42_inb k) (k0_off43_inb k) (k0_off44_inb k) k.val 2 _ k.isLt (by omega) rfl
      (k0_off42_eq k) (k0_off43_eq k) (k0_off44_eq k) _ x) rfl
    (fun k => by rw [pb_k0_t12_succ, tripL_k0_t12_eq])

set_option maxHeartbeats 400000 in
/-- What trip `k` of that loop stores. -/
theorem tripL_k0_t13_eq {F : FTy → Type} [FloatOps F] (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (v11 : Vec F S544x4096 .bf16) (X_arg7 : BufTy.Contents (Elt F) arg7.view.ty) (X_arg8 : BufTy.Contents (Elt F) arg8.view.ty) (k : Fin k0_t13_loop.trips) :
    tripL_k0_t13 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v11 X_arg7 X_arg8 k = [⟨Rect.unit (s := S4096x1024) (k0_off47 k) S128x128.size (k0_off47_inb k), widenV (arg7.view.readAt (Elt F) (Rect.unit (s := S8x1x4096x128) (k0_off45 k) S1x1x128x128.size (k0_off45_inb k)).toLoadRect X_arg7)
      (arg8.view.readAt (Elt F) (Rect.unit (s := S1x8x1x32) (k0_off46 k) S1x1x1x1.size (k0_off46_inb k)).toLoadRect X_arg8 (Shape.Idx.first (show 0 < S1x1x1x1.numel by decide)))⟩] := by
  unfold tripL_k0_t13 trip_k0_t13; rfl

set_option maxHeartbeats 400000 in
/-- The values' layer 3. -/
theorem fills_t13 (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (v11 : Vec Ideal S544x4096 .bf16) (X_arg7 : BufTy.Contents (Elt Ideal) arg7.view.ty) (X_arg8 : BufTy.Contents (Elt Ideal) arg8.view.ty) :
    Fills (Val := Elt Ideal) (s := S4096x1024) (e := .bf16) (wideW (arg7.view.read (Elt Ideal) X_arg7) (arg8.view.read (Elt Ideal) X_arg8)) (Cols 3)
      (pb_k0_t13 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v11 X_arg7 X_arg8 (Scf.trips k0_t13_loop.lb k0_t13_loop.ub k0_t13_loop.st)) :=
  fills_cols (N := k0_t13_loop.trips) rfl _ 3 _ (by omega) rfl _ k0_off47 k0_off47_inb k0_off47_eq
    (fun k => widenV (F := Ideal) (arg7.view.readAt (Elt Ideal) (Rect.unit (s := S8x1x4096x128) (k0_off45 k) S1x1x128x128.size (k0_off45_inb k)).toLoadRect X_arg7)
      (arg8.view.readAt (Elt Ideal) (Rect.unit (s := S1x8x1x32) (k0_off46 k) S1x1x1x1.size (k0_off46_inb k)).toLoadRect X_arg8 (Shape.Idx.first (show 0 < S1x1x1x1.numel by decide))))
    (fun k x => piece_wide arg7.view X_arg7 arg8.view X_arg8 (k0_off45_inb k) (k0_off46_inb k) (k0_off47_inb k) k.val 3 _ k.isLt (by omega) rfl
      (k0_off45_eq k) (k0_off46_eq k) (k0_off47_eq k) _ x) rfl
    (fun k => by rw [pb_k0_t13_succ, tripL_k0_t13_eq])

set_option maxHeartbeats 400000 in
/-- What trip `k` of that loop stores. -/
theorem tripL_k0_t14_eq {F : FTy → Type} [FloatOps F] (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (v11 : Vec F S544x4096 .bf16) (X_arg7 : BufTy.Contents (Elt F) arg7.view.ty) (X_arg8 : BufTy.Contents (Elt F) arg8.view.ty) (k : Fin k0_t14_loop.trips) :
    tripL_k0_t14 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v11 X_arg7 X_arg8 k = [⟨Rect.unit (s := S4096x1024) (k0_off50 k) S128x128.size (k0_off50_inb k), widenV (arg7.view.readAt (Elt F) (Rect.unit (s := S8x1x4096x128) (k0_off48 k) S1x1x128x128.size (k0_off48_inb k)).toLoadRect X_arg7)
      (arg8.view.readAt (Elt F) (Rect.unit (s := S1x8x1x32) (k0_off49 k) S1x1x1x1.size (k0_off49_inb k)).toLoadRect X_arg8 (Shape.Idx.first (show 0 < S1x1x1x1.numel by decide)))⟩] := by
  unfold tripL_k0_t14 trip_k0_t14; rfl

set_option maxHeartbeats 400000 in
/-- The values' layer 4. -/
theorem fills_t14 (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (v11 : Vec Ideal S544x4096 .bf16) (X_arg7 : BufTy.Contents (Elt Ideal) arg7.view.ty) (X_arg8 : BufTy.Contents (Elt Ideal) arg8.view.ty) :
    Fills (Val := Elt Ideal) (s := S4096x1024) (e := .bf16) (wideW (arg7.view.read (Elt Ideal) X_arg7) (arg8.view.read (Elt Ideal) X_arg8)) (Cols 4)
      (pb_k0_t14 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v11 X_arg7 X_arg8 (Scf.trips k0_t14_loop.lb k0_t14_loop.ub k0_t14_loop.st)) :=
  fills_cols (N := k0_t14_loop.trips) rfl _ 4 _ (by omega) rfl _ k0_off50 k0_off50_inb k0_off50_eq
    (fun k => widenV (F := Ideal) (arg7.view.readAt (Elt Ideal) (Rect.unit (s := S8x1x4096x128) (k0_off48 k) S1x1x128x128.size (k0_off48_inb k)).toLoadRect X_arg7)
      (arg8.view.readAt (Elt Ideal) (Rect.unit (s := S1x8x1x32) (k0_off49 k) S1x1x1x1.size (k0_off49_inb k)).toLoadRect X_arg8 (Shape.Idx.first (show 0 < S1x1x1x1.numel by decide))))
    (fun k x => piece_wide arg7.view X_arg7 arg8.view X_arg8 (k0_off48_inb k) (k0_off49_inb k) (k0_off50_inb k) k.val 4 _ k.isLt (by omega) rfl
      (k0_off48_eq k) (k0_off49_eq k) (k0_off50_eq k) _ x) rfl
    (fun k => by rw [pb_k0_t14_succ, tripL_k0_t14_eq])

set_option maxHeartbeats 400000 in
/-- What trip `k` of that loop stores. -/
theorem tripL_k0_t15_eq {F : FTy → Type} [FloatOps F] (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (v11 : Vec F S544x4096 .bf16) (X_arg7 : BufTy.Contents (Elt F) arg7.view.ty) (X_arg8 : BufTy.Contents (Elt F) arg8.view.ty) (k : Fin k0_t15_loop.trips) :
    tripL_k0_t15 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v11 X_arg7 X_arg8 k = [⟨Rect.unit (s := S4096x1024) (k0_off53 k) S128x128.size (k0_off53_inb k), widenV (arg7.view.readAt (Elt F) (Rect.unit (s := S8x1x4096x128) (k0_off51 k) S1x1x128x128.size (k0_off51_inb k)).toLoadRect X_arg7)
      (arg8.view.readAt (Elt F) (Rect.unit (s := S1x8x1x32) (k0_off52 k) S1x1x1x1.size (k0_off52_inb k)).toLoadRect X_arg8 (Shape.Idx.first (show 0 < S1x1x1x1.numel by decide)))⟩] := by
  unfold tripL_k0_t15 trip_k0_t15; rfl

set_option maxHeartbeats 400000 in
/-- The values' layer 5. -/
theorem fills_t15 (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (v11 : Vec Ideal S544x4096 .bf16) (X_arg7 : BufTy.Contents (Elt Ideal) arg7.view.ty) (X_arg8 : BufTy.Contents (Elt Ideal) arg8.view.ty) :
    Fills (Val := Elt Ideal) (s := S4096x1024) (e := .bf16) (wideW (arg7.view.read (Elt Ideal) X_arg7) (arg8.view.read (Elt Ideal) X_arg8)) (Cols 5)
      (pb_k0_t15 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v11 X_arg7 X_arg8 (Scf.trips k0_t15_loop.lb k0_t15_loop.ub k0_t15_loop.st)) :=
  fills_cols (N := k0_t15_loop.trips) rfl _ 5 _ (by omega) rfl _ k0_off53 k0_off53_inb k0_off53_eq
    (fun k => widenV (F := Ideal) (arg7.view.readAt (Elt Ideal) (Rect.unit (s := S8x1x4096x128) (k0_off51 k) S1x1x128x128.size (k0_off51_inb k)).toLoadRect X_arg7)
      (arg8.view.readAt (Elt Ideal) (Rect.unit (s := S1x8x1x32) (k0_off52 k) S1x1x1x1.size (k0_off52_inb k)).toLoadRect X_arg8 (Shape.Idx.first (show 0 < S1x1x1x1.numel by decide))))
    (fun k x => piece_wide arg7.view X_arg7 arg8.view X_arg8 (k0_off51_inb k) (k0_off52_inb k) (k0_off53_inb k) k.val 5 _ k.isLt (by omega) rfl
      (k0_off51_eq k) (k0_off52_eq k) (k0_off53_eq k) _ x) rfl
    (fun k => by rw [pb_k0_t15_succ, tripL_k0_t15_eq])

set_option maxHeartbeats 400000 in
/-- What trip `k` of that loop stores. -/
theorem tripL_k0_t16_eq {F : FTy → Type} [FloatOps F] (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (v11 : Vec F S544x4096 .bf16) (X_arg7 : BufTy.Contents (Elt F) arg7.view.ty) (X_arg8 : BufTy.Contents (Elt F) arg8.view.ty) (k : Fin k0_t16_loop.trips) :
    tripL_k0_t16 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v11 X_arg7 X_arg8 k = [⟨Rect.unit (s := S4096x1024) (k0_off56 k) S128x128.size (k0_off56_inb k), widenV (arg7.view.readAt (Elt F) (Rect.unit (s := S8x1x4096x128) (k0_off54 k) S1x1x128x128.size (k0_off54_inb k)).toLoadRect X_arg7)
      (arg8.view.readAt (Elt F) (Rect.unit (s := S1x8x1x32) (k0_off55 k) S1x1x1x1.size (k0_off55_inb k)).toLoadRect X_arg8 (Shape.Idx.first (show 0 < S1x1x1x1.numel by decide)))⟩] := by
  unfold tripL_k0_t16 trip_k0_t16; rfl

set_option maxHeartbeats 400000 in
/-- The values' layer 6. -/
theorem fills_t16 (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (v11 : Vec Ideal S544x4096 .bf16) (X_arg7 : BufTy.Contents (Elt Ideal) arg7.view.ty) (X_arg8 : BufTy.Contents (Elt Ideal) arg8.view.ty) :
    Fills (Val := Elt Ideal) (s := S4096x1024) (e := .bf16) (wideW (arg7.view.read (Elt Ideal) X_arg7) (arg8.view.read (Elt Ideal) X_arg8)) (Cols 6)
      (pb_k0_t16 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v11 X_arg7 X_arg8 (Scf.trips k0_t16_loop.lb k0_t16_loop.ub k0_t16_loop.st)) :=
  fills_cols (N := k0_t16_loop.trips) rfl _ 6 _ (by omega) rfl _ k0_off56 k0_off56_inb k0_off56_eq
    (fun k => widenV (F := Ideal) (arg7.view.readAt (Elt Ideal) (Rect.unit (s := S8x1x4096x128) (k0_off54 k) S1x1x128x128.size (k0_off54_inb k)).toLoadRect X_arg7)
      (arg8.view.readAt (Elt Ideal) (Rect.unit (s := S1x8x1x32) (k0_off55 k) S1x1x1x1.size (k0_off55_inb k)).toLoadRect X_arg8 (Shape.Idx.first (show 0 < S1x1x1x1.numel by decide))))
    (fun k x => piece_wide arg7.view X_arg7 arg8.view X_arg8 (k0_off54_inb k) (k0_off55_inb k) (k0_off56_inb k) k.val 6 _ k.isLt (by omega) rfl
      (k0_off54_eq k) (k0_off55_eq k) (k0_off56_eq k) _ x) rfl
    (fun k => by rw [pb_k0_t16_succ, tripL_k0_t16_eq])

set_option maxHeartbeats 400000 in
/-- What trip `k` of that loop stores. -/
theorem tripL_k0_t17_eq {F : FTy → Type} [FloatOps F] (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (X_arg7 : BufTy.Contents (Elt F) arg7.view.ty) (X_arg8 : BufTy.Contents (Elt F) arg8.view.ty) (k : Fin k0_t17_loop.trips) :
    tripL_k0_t17 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg7 X_arg8 k = [⟨Rect.unit (s := S4096x1024) (k0_off59 k) S128x128.size (k0_off59_inb k), widenV (arg7.view.readAt (Elt F) (Rect.unit (s := S8x1x4096x128) (k0_off57 k) S1x1x128x128.size (k0_off57_inb k)).toLoadRect X_arg7)
      (arg8.view.readAt (Elt F) (Rect.unit (s := S1x8x1x32) (k0_off58 k) S1x1x1x1.size (k0_off58_inb k)).toLoadRect X_arg8 (Shape.Idx.first (show 0 < S1x1x1x1.numel by decide)))⟩] := by
  unfold tripL_k0_t17 trip_k0_t17; rfl

set_option maxHeartbeats 400000 in
/-- The values' layer 7. -/
theorem fills_t17 (𝒱 : Variants) (c : Dev nD) (bd : Option 𝒱.V) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (X_arg7 : BufTy.Contents (Elt Ideal) arg7.view.ty) (X_arg8 : BufTy.Contents (Elt Ideal) arg8.view.ty) :
    Fills (Val := Elt Ideal) (s := S4096x1024) (e := .bf16) (wideW (arg7.view.read (Elt Ideal) X_arg7) (arg8.view.read (Elt Ideal) X_arg8)) (Cols 7)
      (pb_k0_t17 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg7 X_arg8 (Scf.trips k0_t17_loop.lb k0_t17_loop.ub k0_t17_loop.st)) :=
  fills_cols (N := k0_t17_loop.trips) rfl _ 7 _ (by omega) rfl _ k0_off59 k0_off59_inb k0_off59_eq
    (fun k => widenV (F := Ideal) (arg7.view.readAt (Elt Ideal) (Rect.unit (s := S8x1x4096x128) (k0_off57 k) S1x1x128x128.size (k0_off57_inb k)).toLoadRect X_arg7)
      (arg8.view.readAt (Elt Ideal) (Rect.unit (s := S1x8x1x32) (k0_off58 k) S1x1x1x1.size (k0_off58_inb k)).toLoadRect X_arg8 (Shape.Idx.first (show 0 < S1x1x1x1.numel by decide))))
    (fun k x => piece_wide arg7.view X_arg7 arg8.view X_arg8 (k0_off57_inb k) (k0_off58_inb k) (k0_off59_inb k) k.val 7 _ k.isLt (by omega) rfl
      (k0_off57_eq k) (k0_off58_eq k) (k0_off59_eq k) _ x) rfl
    (fun k => by rw [pb_k0_t17_succ, tripL_k0_t17_eq])

end Cert.KernelIdeal.Gen

end
-- ==== Proof.IdealMac.lean ====
/-
  The row block as the body dequantises it, and one head's accumulator: the product of the row block and the head's weights.
-/
module

public import proofs.«01_k».proof.Proof.IdealWiden
public import proofs.«01_k».proof.Proof.IdealNames

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.SL.Sem
open Cert.Fill

/-- 544 rows of 128 codes times their scales. -/
def xbV {F : FTy → Type} [FloatOps F] (s : Vec F S1x544x1 .f32) (q : Vec F S1x544x128 .fp8e4m3) : FVec F S544x128 .bf16 :=
  shapeCast S544x128 (mulf (extf .bf16 (shapeCast S544x128 q shapeCasts_S1x544x128_S544x128) bitsLt_fp8e4m3_bf16)
    (truncf .bf16 (broadcastTo S544x128 (shapeCast S544x1 (shapeCast S544x1 s shapeCasts_S1x544x1_S544x1) shapeCasts_S544x1_S544x1)
      broadcasts_S544x1_S544x128) bitsLt_bf16_f32)) shapeCasts_S544x128_S544x128

theorem xbV_apply (s : Vec Ideal S1x544x1 .f32) (q : Vec Ideal S1x544x128 .fp8e4m3) (r : Fin 544) (e : Fin 128) :
    xbV (F := Ideal) s q (ix2 r e) = (q (ix3 0 r e) * s (ix3 0 r 0) : EReal) := by
  unfold xbV; pointwise

/-- The dequantised row block. -/
def xbOf (x0 : S1x544x4096.Idx → EReal) (x1 : S1x544x32.Idx → EReal) : S544x4096.Idx → EReal := fun y =>
  have h1 : (y 1).val < 4096 := (y 1).isLt
  x0 (ix3 0 (y 0) (y 1)) * x1 (ix3 0 (y 0) ⟨(y 1).val / 128, by omega⟩)

/-- A store of 128 columns is a block of `xbOf`. -/
theorem piece_xb {κ κ' : Kind} {sp sp' : Space} (v0 : View sig κ sp S1x544x4096 .fp8e4m3) (f0 : v0.ty.Contents (Elt Ideal))
    (v1 : View sig κ' sp' S1x544x32 .f32) (f1 : v1.ty.Contents (Elt Ideal)) (j c : ℕ) (hj : j < 32) (hc : c = 128 * j)
    (inb0 : ∀ a, (![0, 0, c] : Fin 3 → ℕ) a + S1x544x128.size a ≤ S1x544x4096.size a)
    (inb1 : ∀ a, (![0, 0, j] : Fin 3 → ℕ) a + S1x544x1.size a ≤ S1x544x32.size a)
    (inbO : ∀ a, (![0, c] : Fin 2 → ℕ) a + S544x128.size a ≤ S544x4096.size a)
    (x : (Rect.unit (s := S544x4096) ![0, c] S544x128.size inbO).shape.Idx) :
    xbV (F := Ideal) (v1.readAt (Elt Ideal) (Rect.unit (s := S1x544x32) ![0, 0, j] S1x544x1.size inb1).toLoadRect f1)
        (v0.readAt (Elt Ideal) (Rect.unit (s := S1x544x4096) ![0, 0, c] S1x544x128.size inb0).toLoadRect f0) x
      = xbOf (v0.read (Elt Ideal) f0) (v1.read (Elt Ideal) f1) ((Rect.unit (s := S544x4096) ![0, c] S544x128.size inbO).emb x) := by
  have hx0 : (x 0).val < 544 := (x 0).isLt
  have hx1 : (x 1).val < 128 := (x 1).isLt
  have e0 : ((Rect.unit (s := S544x4096) ![0, c] S544x128.size inbO).emb x 0).val = 0 + (x 0).val := emb_unit_val (s := S544x4096) _ S544x128.size inbO x 0
  have e1 : ((Rect.unit (s := S544x4096) ![0, c] S544x128.size inbO).emb x 1).val = c + (x 1).val := emb_unit_val (s := S544x4096) _ S544x128.size inbO x 1
  have hx : x = ix2 (x 0) (x 1) := by funext a; fin_cases a <;> rfl
  refine (congrArg _ hx).trans ((xbV_apply _ _ (x 0) (x 1)).trans ?_)
  unfold xbOf
  refine congrArg₂ (· * ·) ?_ ?_
  · change v0.read (Elt Ideal) f0 ((Rect.unit (s := S1x544x4096) _ S1x544x128.size inb0).emb (ix3 0 (x 0) (x 1))) = _
    congr 1
    funext a
    apply Fin.ext
    rw [emb_unit_val]
    fin_cases a
    · rfl
    · change 0 + (x 0).val = ((Rect.unit (s := S544x4096) _ S544x128.size inbO).emb x 0).val
      omega
    · change c + (x 1).val = ((Rect.unit (s := S544x4096) _ S544x128.size inbO).emb x 1).val
      omega
  · change v1.read (Elt Ideal) f1 ((Rect.unit (s := S1x544x32) _ S1x544x1.size inb1).emb (ix3 0 (x 0) 0)) = _
    congr 1
    funext a
    apply Fin.ext
    rw [emb_unit_val]
    fin_cases a
    · rfl
    · change 0 + (x 0).val = ((Rect.unit (s := S544x4096) _ S544x128.size inbO).emb x 0).val
      omega
    · change j + 0 = ((Rect.unit (s := S544x4096) _ S544x128.size inbO).emb x 1).val / 128
      omega

/-- One more store of 128 columns. -/
theorem fills_cons_xb {G : S544x4096.Idx → EReal} {S : S544x4096.Idx → Prop} {L : List (View.Piece (Elt Ideal) S544x4096 .bf16)} {c : ℕ}
    {inbO : ∀ a, (![0, c] : Fin 2 → ℕ) a + S544x128.size a ≤ S544x4096.size a}
    {w : (Rect.unit (s := S544x4096) ![0, c] S544x128.size inbO).shape.Idx → Elt Ideal .bf16}
    (hw : ∀ x, w x = G ((Rect.unit (s := S544x4096) ![0, c] S544x128.size inbO).emb x))
    (h : Fills (Val := Elt Ideal) (s := S544x4096) (e := .bf16) G S L) :
    Fills (Val := Elt Ideal) (s := S544x4096) (e := .bf16) G (fun y => (c ≤ (y 1).val ∧ (y 1).val < c + 128) ∨ S y)
      (⟨Rect.unit (s := S544x4096) ![0, c] S544x128.size inbO, w⟩ :: L) :=
  (h.cons (inb := inbO) hw).mono fun y hy => hy.imp (fun hy a => by
    have h0 : (y 0).val < 544 := (y 0).isLt
    fin_cases a
    · exact ⟨Nat.zero_le _, by simpa using h0⟩
    · exact hy) id

/-- The 32 stores of the row block, the last first. -/
def xbL {F : FTy → Type} [FloatOps F] {κ κ' : Kind} {sp sp' : Space} (v0 : View sig κ sp S1x544x4096 .fp8e4m3) (f0 : v0.ty.Contents (Elt F))
    (v1 : View sig κ' sp' S1x544x32 .f32) (f1 : v1.ty.Contents (Elt F)) : List (View.Piece (Elt F) S544x4096 .bf16) :=
  [⟨Rect.unit (s := S544x4096) ![0, 3968] S544x128.size inb_S544x4096_S544x128_0_3968,
      xbV (v1.readAt (Elt F) (Rect.unit (s := S1x544x32) ![0, 0, 31] S1x544x1.size inb_S1x544x32_S1x544x1_0_0_31).toLoadRect f1)
        (v0.readAt (Elt F) (Rect.unit (s := S1x544x4096) ![0, 0, 3968] S1x544x128.size inb_S1x544x4096_S1x544x128_0_0_3968).toLoadRect f0)⟩,
    ⟨Rect.unit (s := S544x4096) ![0, 3840] S544x128.size inb_S544x4096_S544x128_0_3840,
      xbV (v1.readAt (Elt F) (Rect.unit (s := S1x544x32) ![0, 0, 30] S1x544x1.size inb_S1x544x32_S1x544x1_0_0_30).toLoadRect f1)
        (v0.readAt (Elt F) (Rect.unit (s := S1x544x4096) ![0, 0, 3840] S1x544x128.size inb_S1x544x4096_S1x544x128_0_0_3840).toLoadRect f0)⟩,
    ⟨Rect.unit (s := S544x4096) ![0, 3712] S544x128.size inb_S544x4096_S544x128_0_3712,
      xbV (v1.readAt (Elt F) (Rect.unit (s := S1x544x32) ![0, 0, 29] S1x544x1.size inb_S1x544x32_S1x544x1_0_0_29).toLoadRect f1)
        (v0.readAt (Elt F) (Rect.unit (s := S1x544x4096) ![0, 0, 3712] S1x544x128.size inb_S1x544x4096_S1x544x128_0_0_3712).toLoadRect f0)⟩,
    ⟨Rect.unit (s := S544x4096) ![0, 3584] S544x128.size inb_S544x4096_S544x128_0_3584,
      xbV (v1.readAt (Elt F) (Rect.unit (s := S1x544x32) ![0, 0, 28] S1x544x1.size inb_S1x544x32_S1x544x1_0_0_28).toLoadRect f1)
        (v0.readAt (Elt F) (Rect.unit (s := S1x544x4096) ![0, 0, 3584] S1x544x128.size inb_S1x544x4096_S1x544x128_0_0_3584).toLoadRect f0)⟩,
    ⟨Rect.unit (s := S544x4096) ![0, 3456] S544x128.size inb_S544x4096_S544x128_0_3456,
      xbV (v1.readAt (Elt F) (Rect.unit (s := S1x544x32) ![0, 0, 27] S1x544x1.size inb_S1x544x32_S1x544x1_0_0_27).toLoadRect f1)
        (v0.readAt (Elt F) (Rect.unit (s := S1x544x4096) ![0, 0, 3456] S1x544x128.size inb_S1x544x4096_S1x544x128_0_0_3456).toLoadRect f0)⟩,
    ⟨Rect.unit (s := S544x4096) ![0, 3328] S544x128.size inb_S544x4096_S544x128_0_3328,
      xbV (v1.readAt (Elt F) (Rect.unit (s := S1x544x32) ![0, 0, 26] S1x544x1.size inb_S1x544x32_S1x544x1_0_0_26).toLoadRect f1)
        (v0.readAt (Elt F) (Rect.unit (s := S1x544x4096) ![0, 0, 3328] S1x544x128.size inb_S1x544x4096_S1x544x128_0_0_3328).toLoadRect f0)⟩,
    ⟨Rect.unit (s := S544x4096) ![0, 3200] S544x128.size inb_S544x4096_S544x128_0_3200,
      xbV (v1.readAt (Elt F) (Rect.unit (s := S1x544x32) ![0, 0, 25] S1x544x1.size inb_S1x544x32_S1x544x1_0_0_25).toLoadRect f1)
        (v0.readAt (Elt F) (Rect.unit (s := S1x544x4096) ![0, 0, 3200] S1x544x128.size inb_S1x544x4096_S1x544x128_0_0_3200).toLoadRect f0)⟩,
    ⟨Rect.unit (s := S544x4096) ![0, 3072] S544x128.size inb_S544x4096_S544x128_0_3072,
      xbV (v1.readAt (Elt F) (Rect.unit (s := S1x544x32) ![0, 0, 24] S1x544x1.size inb_S1x544x32_S1x544x1_0_0_24).toLoadRect f1)
        (v0.readAt (Elt F) (Rect.unit (s := S1x544x4096) ![0, 0, 3072] S1x544x128.size inb_S1x544x4096_S1x544x128_0_0_3072).toLoadRect f0)⟩,
    ⟨Rect.unit (s := S544x4096) ![0, 2944] S544x128.size inb_S544x4096_S544x128_0_2944,
      xbV (v1.readAt (Elt F) (Rect.unit (s := S1x544x32) ![0, 0, 23] S1x544x1.size inb_S1x544x32_S1x544x1_0_0_23).toLoadRect f1)
        (v0.readAt (Elt F) (Rect.unit (s := S1x544x4096) ![0, 0, 2944] S1x544x128.size inb_S1x544x4096_S1x544x128_0_0_2944).toLoadRect f0)⟩,
    ⟨Rect.unit (s := S544x4096) ![0, 2816] S544x128.size inb_S544x4096_S544x128_0_2816,
      xbV (v1.readAt (Elt F) (Rect.unit (s := S1x544x32) ![0, 0, 22] S1x544x1.size inb_S1x544x32_S1x544x1_0_0_22).toLoadRect f1)
        (v0.readAt (Elt F) (Rect.unit (s := S1x544x4096) ![0, 0, 2816] S1x544x128.size inb_S1x544x4096_S1x544x128_0_0_2816).toLoadRect f0)⟩,
    ⟨Rect.unit (s := S544x4096) ![0, 2688] S544x128.size inb_S544x4096_S544x128_0_2688,
      xbV (v1.readAt (Elt F) (Rect.unit (s := S1x544x32) ![0, 0, 21] S1x544x1.size inb_S1x544x32_S1x544x1_0_0_21).toLoadRect f1)
        (v0.readAt (Elt F) (Rect.unit (s := S1x544x4096) ![0, 0, 2688] S1x544x128.size inb_S1x544x4096_S1x544x128_0_0_2688).toLoadRect f0)⟩,
    ⟨Rect.unit (s := S544x4096) ![0, 2560] S544x128.size inb_S544x4096_S544x128_0_2560,
      xbV (v1.readAt (Elt F) (Rect.unit (s := S1x544x32) ![0, 0, 20] S1x544x1.size inb_S1x544x32_S1x544x1_0_0_20).toLoadRect f1)
        (v0.readAt (Elt F) (Rect.unit (s := S1x544x4096) ![0, 0, 2560] S1x544x128.size inb_S1x544x4096_S1x544x128_0_0_2560).toLoadRect f0)⟩,
    ⟨Rect.unit (s := S544x4096) ![0, 2432] S544x128.size inb_S544x4096_S544x128_0_2432,
      xbV (v1.readAt (Elt F) (Rect.unit (s := S1x544x32) ![0, 0, 19] S1x544x1.size inb_S1x544x32_S1x544x1_0_0_19).toLoadRect f1)
        (v0.readAt (Elt F) (Rect.unit (s := S1x544x4096) ![0, 0, 2432] S1x544x128.size inb_S1x544x4096_S1x544x128_0_0_2432).toLoadRect f0)⟩,
    ⟨Rect.unit (s := S544x4096) ![0, 2304] S544x128.size inb_S544x4096_S544x128_0_2304,
      xbV (v1.readAt (Elt F) (Rect.unit (s := S1x544x32) ![0, 0, 18] S1x544x1.size inb_S1x544x32_S1x544x1_0_0_18).toLoadRect f1)
        (v0.readAt (Elt F) (Rect.unit (s := S1x544x4096) ![0, 0, 2304] S1x544x128.size inb_S1x544x4096_S1x544x128_0_0_2304).toLoadRect f0)⟩,
    ⟨Rect.unit (s := S544x4096) ![0, 2176] S544x128.size inb_S544x4096_S544x128_0_2176,
      xbV (v1.readAt (Elt F) (Rect.unit (s := S1x544x32) ![0, 0, 17] S1x544x1.size inb_S1x544x32_S1x544x1_0_0_17).toLoadRect f1)
        (v0.readAt (Elt F) (Rect.unit (s := S1x544x4096) ![0, 0, 2176] S1x544x128.size inb_S1x544x4096_S1x544x128_0_0_2176).toLoadRect f0)⟩,
    ⟨Rect.unit (s := S544x4096) ![0, 2048] S544x128.size inb_S544x4096_S544x128_0_2048,
      xbV (v1.readAt (Elt F) (Rect.unit (s := S1x544x32) ![0, 0, 16] S1x544x1.size inb_S1x544x32_S1x544x1_0_0_16).toLoadRect f1)
        (v0.readAt (Elt F) (Rect.unit (s := S1x544x4096) ![0, 0, 2048] S1x544x128.size inb_S1x544x4096_S1x544x128_0_0_2048).toLoadRect f0)⟩,
    ⟨Rect.unit (s := S544x4096) ![0, 1920] S544x128.size inb_S544x4096_S544x128_0_1920,
      xbV (v1.readAt (Elt F) (Rect.unit (s := S1x544x32) ![0, 0, 15] S1x544x1.size inb_S1x544x32_S1x544x1_0_0_15).toLoadRect f1)
        (v0.readAt (Elt F) (Rect.unit (s := S1x544x4096) ![0, 0, 1920] S1x544x128.size inb_S1x544x4096_S1x544x128_0_0_1920).toLoadRect f0)⟩,
    ⟨Rect.unit (s := S544x4096) ![0, 1792] S544x128.size inb_S544x4096_S544x128_0_1792,
      xbV (v1.readAt (Elt F) (Rect.unit (s := S1x544x32) ![0, 0, 14] S1x544x1.size inb_S1x544x32_S1x544x1_0_0_14).toLoadRect f1)
        (v0.readAt (Elt F) (Rect.unit (s := S1x544x4096) ![0, 0, 1792] S1x544x128.size inb_S1x544x4096_S1x544x128_0_0_1792).toLoadRect f0)⟩,
    ⟨Rect.unit (s := S544x4096) ![0, 1664] S544x128.size inb_S544x4096_S544x128_0_1664,
      xbV (v1.readAt (Elt F) (Rect.unit (s := S1x544x32) ![0, 0, 13] S1x544x1.size inb_S1x544x32_S1x544x1_0_0_13).toLoadRect f1)
        (v0.readAt (Elt F) (Rect.unit (s := S1x544x4096) ![0, 0, 1664] S1x544x128.size inb_S1x544x4096_S1x544x128_0_0_1664).toLoadRect f0)⟩,
    ⟨Rect.unit (s := S544x4096) ![0, 1536] S544x128.size inb_S544x4096_S544x128_0_1536,
      xbV (v1.readAt (Elt F) (Rect.unit (s := S1x544x32) ![0, 0, 12] S1x544x1.size inb_S1x544x32_S1x544x1_0_0_12).toLoadRect f1)
        (v0.readAt (Elt F) (Rect.unit (s := S1x544x4096) ![0, 0, 1536] S1x544x128.size inb_S1x544x4096_S1x544x128_0_0_1536).toLoadRect f0)⟩,
    ⟨Rect.unit (s := S544x4096) ![0, 1408] S544x128.size inb_S544x4096_S544x128_0_1408,
      xbV (v1.readAt (Elt F) (Rect.unit (s := S1x544x32) ![0, 0, 11] S1x544x1.size inb_S1x544x32_S1x544x1_0_0_11).toLoadRect f1)
        (v0.readAt (Elt F) (Rect.unit (s := S1x544x4096) ![0, 0, 1408] S1x544x128.size inb_S1x544x4096_S1x544x128_0_0_1408).toLoadRect f0)⟩,
    ⟨Rect.unit (s := S544x4096) ![0, 1280] S544x128.size inb_S544x4096_S544x128_0_1280,
      xbV (v1.readAt (Elt F) (Rect.unit (s := S1x544x32) ![0, 0, 10] S1x544x1.size inb_S1x544x32_S1x544x1_0_0_10).toLoadRect f1)
        (v0.readAt (Elt F) (Rect.unit (s := S1x544x4096) ![0, 0, 1280] S1x544x128.size inb_S1x544x4096_S1x544x128_0_0_1280).toLoadRect f0)⟩,
    ⟨Rect.unit (s := S544x4096) ![0, 1152] S544x128.size inb_S544x4096_S544x128_0_1152,
      xbV (v1.readAt (Elt F) (Rect.unit (s := S1x544x32) ![0, 0, 9] S1x544x1.size inb_S1x544x32_S1x544x1_0_0_9).toLoadRect f1)
        (v0.readAt (Elt F) (Rect.unit (s := S1x544x4096) ![0, 0, 1152] S1x544x128.size inb_S1x544x4096_S1x544x128_0_0_1152).toLoadRect f0)⟩,
    ⟨Rect.unit (s := S544x4096) ![0, 1024] S544x128.size inb_S544x4096_S544x128_0_1024,
      xbV (v1.readAt (Elt F) (Rect.unit (s := S1x544x32) ![0, 0, 8] S1x544x1.size inb_S1x544x32_S1x544x1_0_0_8).toLoadRect f1)
        (v0.readAt (Elt F) (Rect.unit (s := S1x544x4096) ![0, 0, 1024] S1x544x128.size inb_S1x544x4096_S1x544x128_0_0_1024).toLoadRect f0)⟩,
    ⟨Rect.unit (s := S544x4096) ![0, 896] S544x128.size inb_S544x4096_S544x128_0_896,
      xbV (v1.readAt (Elt F) (Rect.unit (s := S1x544x32) ![0, 0, 7] S1x544x1.size inb_S1x544x32_S1x544x1_0_0_7).toLoadRect f1)
        (v0.readAt (Elt F) (Rect.unit (s := S1x544x4096) ![0, 0, 896] S1x544x128.size inb_S1x544x4096_S1x544x128_0_0_896).toLoadRect f0)⟩,
    ⟨Rect.unit (s := S544x4096) ![0, 768] S544x128.size inb_S544x4096_S544x128_0_768,
      xbV (v1.readAt (Elt F) (Rect.unit (s := S1x544x32) ![0, 0, 6] S1x544x1.size inb_S1x544x32_S1x544x1_0_0_6).toLoadRect f1)
        (v0.readAt (Elt F) (Rect.unit (s := S1x544x4096) ![0, 0, 768] S1x544x128.size inb_S1x544x4096_S1x544x128_0_0_768).toLoadRect f0)⟩,
    ⟨Rect.unit (s := S544x4096) ![0, 640] S544x128.size inb_S544x4096_S544x128_0_640,
      xbV (v1.readAt (Elt F) (Rect.unit (s := S1x544x32) ![0, 0, 5] S1x544x1.size inb_S1x544x32_S1x544x1_0_0_5).toLoadRect f1)
        (v0.readAt (Elt F) (Rect.unit (s := S1x544x4096) ![0, 0, 640] S1x544x128.size inb_S1x544x4096_S1x544x128_0_0_640).toLoadRect f0)⟩,
    ⟨Rect.unit (s := S544x4096) ![0, 512] S544x128.size inb_S544x4096_S544x128_0_512,
      xbV (v1.readAt (Elt F) (Rect.unit (s := S1x544x32) ![0, 0, 4] S1x544x1.size inb_S1x544x32_S1x544x1_0_0_4).toLoadRect f1)
        (v0.readAt (Elt F) (Rect.unit (s := S1x544x4096) ![0, 0, 512] S1x544x128.size inb_S1x544x4096_S1x544x128_0_0_512).toLoadRect f0)⟩,
    ⟨Rect.unit (s := S544x4096) ![0, 384] S544x128.size inb_S544x4096_S544x128_0_384,
      xbV (v1.readAt (Elt F) (Rect.unit (s := S1x544x32) ![0, 0, 3] S1x544x1.size inb_S1x544x32_S1x544x1_0_0_3).toLoadRect f1)
        (v0.readAt (Elt F) (Rect.unit (s := S1x544x4096) ![0, 0, 384] S1x544x128.size inb_S1x544x4096_S1x544x128_0_0_384).toLoadRect f0)⟩,
    ⟨Rect.unit (s := S544x4096) ![0, 256] S544x128.size inb_S544x4096_S544x128_0_256,
      xbV (v1.readAt (Elt F) (Rect.unit (s := S1x544x32) ![0, 0, 2] S1x544x1.size inb_S1x544x32_S1x544x1_0_0_2).toLoadRect f1)
        (v0.readAt (Elt F) (Rect.unit (s := S1x544x4096) ![0, 0, 256] S1x544x128.size inb_S1x544x4096_S1x544x128_0_0_256).toLoadRect f0)⟩,
    ⟨Rect.unit (s := S544x4096) ![0, 128] S544x128.size inb_S544x4096_S544x128_0_128,
      xbV (v1.readAt (Elt F) (Rect.unit (s := S1x544x32) ![0, 0, 1] S1x544x1.size inb_S1x544x32_S1x544x1_0_0_1).toLoadRect f1)
        (v0.readAt (Elt F) (Rect.unit (s := S1x544x4096) ![0, 0, 128] S1x544x128.size inb_S1x544x4096_S1x544x128_0_0_128).toLoadRect f0)⟩,
    ⟨Rect.unit (s := S544x4096) ![0, 0] S544x128.size inb_S544x4096_S544x128_0_0,
      xbV (v1.readAt (Elt F) (Rect.unit (s := S1x544x32) ![0, 0, 0] S1x544x1.size inb_S1x544x32_S1x544x1_0_0_0).toLoadRect f1)
        (v0.readAt (Elt F) (Rect.unit (s := S1x544x4096) ![0, 0, 0] S1x544x128.size inb_S1x544x4096_S1x544x128_0_0_0).toLoadRect f0)⟩]

/-- They fill the row block. -/
theorem fills_xb {κ κ' : Kind} {sp sp' : Space} (v0 : View sig κ sp S1x544x4096 .fp8e4m3) (f0 : v0.ty.Contents (Elt Ideal))
    (v1 : View sig κ' sp' S1x544x32 .f32) (f1 : v1.ty.Contents (Elt Ideal)) :
    Fills (Val := Elt Ideal) (s := S544x4096) (e := .bf16) (xbOf (v0.read (Elt Ideal) f0) (v1.read (Elt Ideal) f1)) (fun _ => True) (xbL v0 f0 v1 f1) := by
  unfold xbL
  refine (Fills.nil _
    |> fills_cons_xb (inbO := inb_S544x4096_S544x128_0_0) (piece_xb v0 f0 v1 f1 0 0 (by omega) rfl inb_S1x544x4096_S1x544x128_0_0_0 inb_S1x544x32_S1x544x1_0_0_0 inb_S544x4096_S544x128_0_0)
    |> fills_cons_xb (inbO := inb_S544x4096_S544x128_0_128) (piece_xb v0 f0 v1 f1 1 128 (by omega) rfl inb_S1x544x4096_S1x544x128_0_0_128 inb_S1x544x32_S1x544x1_0_0_1 inb_S544x4096_S544x128_0_128)
    |> fills_cons_xb (inbO := inb_S544x4096_S544x128_0_256) (piece_xb v0 f0 v1 f1 2 256 (by omega) rfl inb_S1x544x4096_S1x544x128_0_0_256 inb_S1x544x32_S1x544x1_0_0_2 inb_S544x4096_S544x128_0_256)
    |> fills_cons_xb (inbO := inb_S544x4096_S544x128_0_384) (piece_xb v0 f0 v1 f1 3 384 (by omega) rfl inb_S1x544x4096_S1x544x128_0_0_384 inb_S1x544x32_S1x544x1_0_0_3 inb_S544x4096_S544x128_0_384)
    |> fills_cons_xb (inbO := inb_S544x4096_S544x128_0_512) (piece_xb v0 f0 v1 f1 4 512 (by omega) rfl inb_S1x544x4096_S1x544x128_0_0_512 inb_S1x544x32_S1x544x1_0_0_4 inb_S544x4096_S544x128_0_512)
    |> fills_cons_xb (inbO := inb_S544x4096_S544x128_0_640) (piece_xb v0 f0 v1 f1 5 640 (by omega) rfl inb_S1x544x4096_S1x544x128_0_0_640 inb_S1x544x32_S1x544x1_0_0_5 inb_S544x4096_S544x128_0_640)
    |> fills_cons_xb (inbO := inb_S544x4096_S544x128_0_768) (piece_xb v0 f0 v1 f1 6 768 (by omega) rfl inb_S1x544x4096_S1x544x128_0_0_768 inb_S1x544x32_S1x544x1_0_0_6 inb_S544x4096_S544x128_0_768)
    |> fills_cons_xb (inbO := inb_S544x4096_S544x128_0_896) (piece_xb v0 f0 v1 f1 7 896 (by omega) rfl inb_S1x544x4096_S1x544x128_0_0_896 inb_S1x544x32_S1x544x1_0_0_7 inb_S544x4096_S544x128_0_896)
    |> fills_cons_xb (inbO := inb_S544x4096_S544x128_0_1024) (piece_xb v0 f0 v1 f1 8 1024 (by omega) rfl inb_S1x544x4096_S1x544x128_0_0_1024 inb_S1x544x32_S1x544x1_0_0_8 inb_S544x4096_S544x128_0_1024)
    |> fills_cons_xb (inbO := inb_S544x4096_S544x128_0_1152) (piece_xb v0 f0 v1 f1 9 1152 (by omega) rfl inb_S1x544x4096_S1x544x128_0_0_1152 inb_S1x544x32_S1x544x1_0_0_9 inb_S544x4096_S544x128_0_1152)
    |> fills_cons_xb (inbO := inb_S544x4096_S544x128_0_1280) (piece_xb v0 f0 v1 f1 10 1280 (by omega) rfl inb_S1x544x4096_S1x544x128_0_0_1280 inb_S1x544x32_S1x544x1_0_0_10 inb_S544x4096_S544x128_0_1280)
    |> fills_cons_xb (inbO := inb_S544x4096_S544x128_0_1408) (piece_xb v0 f0 v1 f1 11 1408 (by omega) rfl inb_S1x544x4096_S1x544x128_0_0_1408 inb_S1x544x32_S1x544x1_0_0_11 inb_S544x4096_S544x128_0_1408)
    |> fills_cons_xb (inbO := inb_S544x4096_S544x128_0_1536) (piece_xb v0 f0 v1 f1 12 1536 (by omega) rfl inb_S1x544x4096_S1x544x128_0_0_1536 inb_S1x544x32_S1x544x1_0_0_12 inb_S544x4096_S544x128_0_1536)
    |> fills_cons_xb (inbO := inb_S544x4096_S544x128_0_1664) (piece_xb v0 f0 v1 f1 13 1664 (by omega) rfl inb_S1x544x4096_S1x544x128_0_0_1664 inb_S1x544x32_S1x544x1_0_0_13 inb_S544x4096_S544x128_0_1664)
    |> fills_cons_xb (inbO := inb_S544x4096_S544x128_0_1792) (piece_xb v0 f0 v1 f1 14 1792 (by omega) rfl inb_S1x544x4096_S1x544x128_0_0_1792 inb_S1x544x32_S1x544x1_0_0_14 inb_S544x4096_S544x128_0_1792)
    |> fills_cons_xb (inbO := inb_S544x4096_S544x128_0_1920) (piece_xb v0 f0 v1 f1 15 1920 (by omega) rfl inb_S1x544x4096_S1x544x128_0_0_1920 inb_S1x544x32_S1x544x1_0_0_15 inb_S544x4096_S544x128_0_1920)
    |> fills_cons_xb (inbO := inb_S544x4096_S544x128_0_2048) (piece_xb v0 f0 v1 f1 16 2048 (by omega) rfl inb_S1x544x4096_S1x544x128_0_0_2048 inb_S1x544x32_S1x544x1_0_0_16 inb_S544x4096_S544x128_0_2048)
    |> fills_cons_xb (inbO := inb_S544x4096_S544x128_0_2176) (piece_xb v0 f0 v1 f1 17 2176 (by omega) rfl inb_S1x544x4096_S1x544x128_0_0_2176 inb_S1x544x32_S1x544x1_0_0_17 inb_S544x4096_S544x128_0_2176)
    |> fills_cons_xb (inbO := inb_S544x4096_S544x128_0_2304) (piece_xb v0 f0 v1 f1 18 2304 (by omega) rfl inb_S1x544x4096_S1x544x128_0_0_2304 inb_S1x544x32_S1x544x1_0_0_18 inb_S544x4096_S544x128_0_2304)
    |> fills_cons_xb (inbO := inb_S544x4096_S544x128_0_2432) (piece_xb v0 f0 v1 f1 19 2432 (by omega) rfl inb_S1x544x4096_S1x544x128_0_0_2432 inb_S1x544x32_S1x544x1_0_0_19 inb_S544x4096_S544x128_0_2432)
    |> fills_cons_xb (inbO := inb_S544x4096_S544x128_0_2560) (piece_xb v0 f0 v1 f1 20 2560 (by omega) rfl inb_S1x544x4096_S1x544x128_0_0_2560 inb_S1x544x32_S1x544x1_0_0_20 inb_S544x4096_S544x128_0_2560)
    |> fills_cons_xb (inbO := inb_S544x4096_S544x128_0_2688) (piece_xb v0 f0 v1 f1 21 2688 (by omega) rfl inb_S1x544x4096_S1x544x128_0_0_2688 inb_S1x544x32_S1x544x1_0_0_21 inb_S544x4096_S544x128_0_2688)
    |> fills_cons_xb (inbO := inb_S544x4096_S544x128_0_2816) (piece_xb v0 f0 v1 f1 22 2816 (by omega) rfl inb_S1x544x4096_S1x544x128_0_0_2816 inb_S1x544x32_S1x544x1_0_0_22 inb_S544x4096_S544x128_0_2816)
    |> fills_cons_xb (inbO := inb_S544x4096_S544x128_0_2944) (piece_xb v0 f0 v1 f1 23 2944 (by omega) rfl inb_S1x544x4096_S1x544x128_0_0_2944 inb_S1x544x32_S1x544x1_0_0_23 inb_S544x4096_S544x128_0_2944)
    |> fills_cons_xb (inbO := inb_S544x4096_S544x128_0_3072) (piece_xb v0 f0 v1 f1 24 3072 (by omega) rfl inb_S1x544x4096_S1x544x128_0_0_3072 inb_S1x544x32_S1x544x1_0_0_24 inb_S544x4096_S544x128_0_3072)
    |> fills_cons_xb (inbO := inb_S544x4096_S544x128_0_3200) (piece_xb v0 f0 v1 f1 25 3200 (by omega) rfl inb_S1x544x4096_S1x544x128_0_0_3200 inb_S1x544x32_S1x544x1_0_0_25 inb_S544x4096_S544x128_0_3200)
    |> fills_cons_xb (inbO := inb_S544x4096_S544x128_0_3328) (piece_xb v0 f0 v1 f1 26 3328 (by omega) rfl inb_S1x544x4096_S1x544x128_0_0_3328 inb_S1x544x32_S1x544x1_0_0_26 inb_S544x4096_S544x128_0_3328)
    |> fills_cons_xb (inbO := inb_S544x4096_S544x128_0_3456) (piece_xb v0 f0 v1 f1 27 3456 (by omega) rfl inb_S1x544x4096_S1x544x128_0_0_3456 inb_S1x544x32_S1x544x1_0_0_27 inb_S544x4096_S544x128_0_3456)
    |> fills_cons_xb (inbO := inb_S544x4096_S544x128_0_3584) (piece_xb v0 f0 v1 f1 28 3584 (by omega) rfl inb_S1x544x4096_S1x544x128_0_0_3584 inb_S1x544x32_S1x544x1_0_0_28 inb_S544x4096_S544x128_0_3584)
    |> fills_cons_xb (inbO := inb_S544x4096_S544x128_0_3712) (piece_xb v0 f0 v1 f1 29 3712 (by omega) rfl inb_S1x544x4096_S1x544x128_0_0_3712 inb_S1x544x32_S1x544x1_0_0_29 inb_S544x4096_S544x128_0_3712)
    |> fills_cons_xb (inbO := inb_S544x4096_S544x128_0_3840) (piece_xb v0 f0 v1 f1 30 3840 (by omega) rfl inb_S1x544x4096_S1x544x128_0_0_3840 inb_S1x544x32_S1x544x1_0_0_30 inb_S544x4096_S544x128_0_3840)
    |> fills_cons_xb (inbO := inb_S544x4096_S544x128_0_3968) (piece_xb v0 f0 v1 f1 31 3968 (by omega) rfl inb_S1x544x4096_S1x544x128_0_0_3968 inb_S1x544x32_S1x544x1_0_0_31 inb_S544x4096_S544x128_0_3968)).mono fun y _ => ?_
  have h1 : (y 1).val < 4096 := (y 1).isLt
  omega

/-- One head's accumulator. -/
def accOf (xb : S544x4096.Idx → EReal) (w : S4096x1024.Idx → EReal) : S544x1024.Idx → EReal := fun y =>
  ∑ d : Fin 4096, xb (ix2 (y 0) d) * w (ix2 d (y 1))

theorem pay2_eq (xb : Vec Ideal S544x4096 .bf16) (w : Vec Ideal S4096x1024 .bf16) : k0_pay2 (F := Ideal) xb w = accOf xb w := by
  funext y
  unfold k0_pay2 accOf
  pointwise

theorem pay168_eq (xb : Vec Ideal S544x4096 .bf16) (w : Vec Ideal S4096x1024 .bf16) : k0_pay168 (F := Ideal) xb w = accOf xb w := by
  funext y
  unfold k0_pay168 accOf
  pointwise

/-- The weight buffer after eight loops, one for each layer, whatever it held before. -/
theorem read_wide {κ : Kind} {sp : Space} (v : View sig κ sp S4096x1024 .bf16) (f : v.ty.Contents (Elt Ideal)) {G : S4096x1024.Idx → EReal}
    {L0 L1 L2 L3 L4 L5 L6 L7 : List (View.Piece (Elt Ideal) S4096x1024 .bf16)}
    (h0 : Fills (Val := Elt Ideal) (s := S4096x1024) (e := .bf16) G (Cols 0) L0) (h1 : Fills (Val := Elt Ideal) (s := S4096x1024) (e := .bf16) G (Cols 1) L1)
    (h2 : Fills (Val := Elt Ideal) (s := S4096x1024) (e := .bf16) G (Cols 2) L2) (h3 : Fills (Val := Elt Ideal) (s := S4096x1024) (e := .bf16) G (Cols 3) L3)
    (h4 : Fills (Val := Elt Ideal) (s := S4096x1024) (e := .bf16) G (Cols 4) L4) (h5 : Fills (Val := Elt Ideal) (s := S4096x1024) (e := .bf16) G (Cols 5) L5)
    (h6 : Fills (Val := Elt Ideal) (s := S4096x1024) (e := .bf16) G (Cols 6) L6) (h7 : Fills (Val := Elt Ideal) (s := S4096x1024) (e := .bf16) G (Cols 7) L7) :
    v.read (Elt Ideal) (v.writes (Elt Ideal) f (L7 ++ (L6 ++ (L5 ++ (L4 ++ (L3 ++ (L2 ++ (L1 ++ L0)))))))) = G :=
  (h7.append (h6.append (h5.append (h4.append (h3.append (h2.append (h1.append h0))))))).read_all v f cols_all

/-- The same over older stores. -/
theorem read_wide_over {κ : Kind} {sp : Space} (v : View sig κ sp S4096x1024 .bf16) (f : v.ty.Contents (Elt Ideal)) {G : S4096x1024.Idx → EReal}
    {L0 L1 L2 L3 L4 L5 L6 L7 : List (View.Piece (Elt Ideal) S4096x1024 .bf16)} (L : List (View.Piece (Elt Ideal) S4096x1024 .bf16))
    (h0 : Fills (Val := Elt Ideal) (s := S4096x1024) (e := .bf16) G (Cols 0) L0) (h1 : Fills (Val := Elt Ideal) (s := S4096x1024) (e := .bf16) G (Cols 1) L1)
    (h2 : Fills (Val := Elt Ideal) (s := S4096x1024) (e := .bf16) G (Cols 2) L2) (h3 : Fills (Val := Elt Ideal) (s := S4096x1024) (e := .bf16) G (Cols 3) L3)
    (h4 : Fills (Val := Elt Ideal) (s := S4096x1024) (e := .bf16) G (Cols 4) L4) (h5 : Fills (Val := Elt Ideal) (s := S4096x1024) (e := .bf16) G (Cols 5) L5)
    (h6 : Fills (Val := Elt Ideal) (s := S4096x1024) (e := .bf16) G (Cols 6) L6) (h7 : Fills (Val := Elt Ideal) (s := S4096x1024) (e := .bf16) G (Cols 7) L7) :
    v.read (Elt Ideal) (v.writes (Elt Ideal) f (L7 ++ (L6 ++ (L5 ++ (L4 ++ (L3 ++ (L2 ++ (L1 ++ (L0 ++ L))))))))) = G := by
  have := read_wide v (v.writes (Elt Ideal) f L) h0 h1 h2 h3 h4 h5 h6 h7
  rw [← View.writes_append] at this
  simpa only [List.append_assoc] using this

end Cert.KernelIdeal.Gen

end
-- ==== Proof.IdealOut.lean ====
/-
  The four output blocks of one grid point, as functions of the dequantised row block and of the head's weights.
-/
module

public import proofs.«01_k».proof.Proof.IdealMac

@[expose] public section

noncomputable section

namespace Cert.KernelIdeal.Gen

open Idealize.ShloMosaic

/-- The codes of the keys. -/
def outKC (xb : S544x4096.Idx → EReal) (w : S8x1x4096x128.Idx → EReal) (s : S1x8x1x32.Idx → EReal) (g : S8x128.Idx → EReal) :
    S1x544x1x8x128.Idx → EReal := outC (headN (accOf xb (wideW w s)) g)

/-- The scales of the keys. -/
def outKS (xb : S544x4096.Idx → EReal) (w : S8x1x4096x128.Idx → EReal) (s : S1x8x1x32.Idx → EReal) (g : S8x128.Idx → EReal) :
    S1x1x544x8.Idx → EReal := outS (headN (accOf xb (wideW w s)) g)

/-- The codes of the values. -/
def outVC (xb : S544x4096.Idx → EReal) (w : S8x1x4096x128.Idx → EReal) (s : S1x8x1x32.Idx → EReal) :
    S1x544x1x8x128.Idx → EReal := outC (headA (accOf xb (wideW w s)))

/-- The scales of the values. -/
def outVS (xb : S544x4096.Idx → EReal) (w : S8x1x4096x128.Idx → EReal) (s : S1x8x1x32.Idx → EReal) :
    S1x1x544x8.Idx → EReal := outS (headA (accOf xb (wideW w s)))

end Cert.KernelIdeal.Gen

end
-- ==== Proof.IdealBodyA.lean ====
/-
  What the body leaves at a grid point that is the first head of its row block, over the extended reals: the dequantised
  row block, and the four output blocks as functions of it and of the head's weights.
-/
module

public import proofs.«01_k».proof.Proof.IdealOut

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Fill
open Idealize.ShloMosaic.Pipeline (Dat Cfg Window BodyObligation BodyObligationLoose cellOf)

local notation "𝕄" => MT nD τ sig Unit (Elt Ideal) ℕ (UR sig nD τ) ℕ

set_option maxHeartbeats 2252000 in
/-- The body runs, leaves its inputs as they were, and its outputs at the values named. -/
theorem body_value_A (c : Dev nD) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (hc0 : cond0_0 i)
    (x0 : Vec Ideal S1x544x4096 .fp8e4m3) (x1 : Vec Ideal S1x544x32 .f32) (x2 : Vec Ideal S8x1x4096x128 .fp8e4m3) (x3 : Vec Ideal S1x8x1x32 .f32) (x4 : Vec Ideal S8x1x4096x128 .fp8e4m3) (x5 : Vec Ideal S1x8x1x32 .f32) (x6 : Vec Ideal S8x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (outKC (xbOf x0 x1) x2 x3 x6) ∗ owns (c : Thread nD τ) arg11 fullShare (outKS (xbOf x0 x1) x2 x3 x6) ∗ owns (c : Thread nD τ) arg12 fullShare (outVC (xbOf x0 x1) x4 x5) ∗ owns (c : Thread nD τ) arg13 fullShare (outVS (xbOf x0 x1) x4 x5) ∗ owns (c : Thread nD τ) arg14 fullShare (xbOf x0 x1) ∗ (∃ d, owns (c : Thread nD τ) arg15 fullShare d) ∗ (∃ d, owns (c : Thread nD τ) arg16 fullShare d)) -∗ K ⟨⟩))
      ⊢ wp frame (wpE (defs₀ (F := Ideal)) Variants.none c none) E (cc0__body i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  simp only [k0_part39_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part40_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    refine ((fills_codes_t9 _ _ _ _ _ _ _ _ _ _ _ _ _ _ _ _ _ _ _ _ _ _ _ _ _ _ _ _ _ _ _ _ _ _ _).read_all _ _ (fun _ => trivial)).trans ?_
    refine congrArg₂ (fun A g => outC (headN A g)) ((View.read_writes_full _ _ _ _ _).trans ((pay168_eq _ _).trans (congrArg₂ accOf ?_ ?_))) (harg9.read_unread _)
    · refine (View.readAt_full _ _ _).trans (((fills_xb arg3.view (harg3.unread x0) arg4.view (harg4.unread x1)).read_all _ _ (fun _ => trivial)).trans ?_)
      rw [harg3.read_unread, harg4.read_unread]
    · refine (View.readAt_full _ _ _).trans ((read_wide _ _ (fills_t1 _ _ _ _ _ _ _ _ _ _ _ _ _ _ _ _ _ _ _ _ _ _ _ _ _ _ _ _ _ _ _ _ _ _) (fills_t2 _ _ _ _ _ _ _ _ _ _ _ _ _ _ _ _ _ _ _ _ _ _ _ _ _ _ _ _ _ _ _ _ _ _) (fills_t3 _ _ _ _ _ _ _ _ _ _ _ _ _ _ _ _ _ _ _ _ _ _ _ _ _ _ _ _ _ _ _ _ _ _) (fills_t4 _ _ _ _ _ _ _ _ _ _ _ _ _ _ _ _ _ _ _ _ _ _ _ _ _ _ _ _ _ _ _ _ _ _) (fills_t5 _ _ _ _ _ _ _ _ _ _ _ _ _ _ _ _ _ _ _ _ _ _ _ _ _ _ _ _ _ _ _ _ _ _) (fills_t6 _ _ _ _ _ _ _ _ _ _ _ _ _ _ _ _ _ _ _ _ _ _ _ _ _ _ _ _ _ _ _ _ _ _) (fills_t7 _ _ _ _ _ _ _ _ _ _ _ _ _ _ _ _ _ _ _ _ _ _ _ _ _ _ _ _ _ _ _ _ _ _) (fills_t8 _ _ _ _ _ _ _ _ _ _ _ _ _ _ _ _ _ _ _ _ _ _ _ _ _ _ _ _ _ _ _ _ _ _)).trans ?_)
      rw [harg5.read_unread, harg6.read_unread]
  isplitl [H8]
  · iexists _; isplitr; swap; · iexact H8
    ipureintro
    refine ((fills_scales_t9 _ _ _ _ _ _ _ _ _ _ _ _ _ _ _ _ _ _ _ _ _ _ _ _ _ _ _ _ _ _ _ _ _ _ _).read_all _ _ (fun _ => trivial)).trans ?_
    refine congrArg₂ (fun A g => outS (headN A g)) ((View.read_writes_full _ _ _ _ _).trans ((pay168_eq _ _).trans (congrArg₂ accOf ?_ ?_))) (harg9.read_unread _)
    · refine (View.readAt_full _ _ _).trans (((fills_xb arg3.view (harg3.unread x0) arg4.view (harg4.unread x1)).read_all _ _ (fun _ => trivial)).trans ?_)
      rw [harg3.read_unread, harg4.read_unread]
    · refine (View.readAt_full _ _ _).trans ((read_wide _ _ (fills_t1 _ _ _ _ _ _ _ _ _ _ _ _ _ _ _ _ _ _ _ _ _ _ _ _ _ _ _ _ _ _ _ _ _ _) (fills_t2 _ _ _ _ _ _ _ _ _ _ _ _ _ _ _ _ _ _ _ _ _ _ _ _ _ _ _ _ _ _ _ _ _ _) (fills_t3 _ _ _ _ _ _ _ _ _ _ _ _ _ _ _ _ _ _ _ _ _ _ _ _ _ _ _ _ _ _ _ _ _ _) (fills_t4 _ _ _ _ _ _ _ _ _ _ _ _ _ _ _ _ _ _ _ _ _ _ _ _ _ _ _ _ _ _ _ _ _ _) (fills_t5 _ _ _ _ _ _ _ _ _ _ _ _ _ _ _ _ _ _ _ _ _ _ _ _ _ _ _ _ _ _ _ _ _ _) (fills_t6 _ _ _ _ _ _ _ _ _ _ _ _ _ _ _ _ _ _ _ _ _ _ _ _ _ _ _ _ _ _ _ _ _ _) (fills_t7 _ _ _ _ _ _ _ _ _ _ _ _ _ _ _ _ _ _ _ _ _ _ _ _ _ _ _ _ _ _ _ _ _ _) (fills_t8 _ _ _ _ _ _ _ _ _ _ _ _ _ _ _ _ _ _ _ _ _ _ _ _ _ _ _ _ _ _ _ _ _ _)).trans ?_)
      rw [harg5.read_unread, harg6.read_unread]
  isplitl [H9]
  · iexists _; isplitr; swap; · iexact H9
    ipureintro
    refine ((fills_codes_t18 _ _ _ _ _ _ _ _ _ _ _ _ _ _ _ _ _ _ _ _ _ _ _ _ _ _ _ _ _ _ _ _ _).read_all _ _ (fun _ => trivial)).trans ?_
    refine congrArg (fun A => outC (headA A)) ((View.read_writes_full _ _ _ _ _).trans ((pay2_eq _ _).trans (congrArg₂ accOf ?_ ?_)))
    · refine (View.readAt_full _ _ _).trans (((fills_xb arg3.view (harg3.unread x0) arg4.view (harg4.unread x1)).read_all _ _ (fun _ => trivial)).trans ?_)
      rw [harg3.read_unread, harg4.read_unread]
    · refine (View.readAt_full _ _ _).trans ((read_wide_over _ _ _ (fills_t10 _ _ _ _ _ _ _ _ _ _ _ _ _ _ _ _ _ _ _ _ _ _ _ _ _ _ _ _ _ _ _ _ _ _ _) (fills_t11 _ _ _ _ _ _ _ _ _ _ _ _ _ _ _ _ _ _ _ _ _ _ _ _ _ _ _ _ _ _ _ _ _ _ _) (fills_t12 _ _ _ _ _ _ _ _ _ _ _ _ _ _ _ _ _ _ _ _ _ _ _ _ _ _ _ _ _ _ _ _ _ _ _) (fills_t13 _ _ _ _ _ _ _ _ _ _ _ _ _ _ _ _ _ _ _ _ _ _ _ _ _ _ _ _ _ _ _ _ _ _ _) (fills_t14 _ _ _ _ _ _ _ _ _ _ _ _ _ _ _ _ _ _ _ _ _ _ _ _ _ _ _ _ _ _ _ _ _ _ _) (fills_t15 _ _ _ _ _ _ _ _ _ _ _ _ _ _ _ _ _ _ _ _ _ _ _ _ _ _ _ _ _ _ _ _ _ _ _) (fills_t16 _ _ _ _ _ _ _ _ _ _ _ _ _ _ _ _ _ _ _ _ _ _ _ _ _ _ _ _ _ _ _ _ _ _ _) (fills_t17 _ _ _ _ _ _ _ _ _ _ _ _ _ _ _ _ _ _ _ _ _ _ _ _ _ _ _ _ _ _ _ _ _ _)).trans ?_)
      rw [harg7.read_unread, harg8.read_unread]
  isplitl [H10]
  · iexists _; isplitr; swap; · iexact H10
    ipureintro
    refine ((fills_scales_t18 _ _ _ _ _ _ _ _ _ _ _ _ _ _ _ _ _ _ _ _ _ _ _ _ _ _ _ _ _ _ _ _ _).read_all _ _ (fun _ => trivial)).trans ?_
    refine congrArg (fun A => outS (headA A)) ((View.read_writes_full _ _ _ _ _).trans ((pay2_eq _ _).trans (congrArg₂ accOf ?_ ?_)))
    · refine (View.readAt_full _ _ _).trans (((fills_xb arg3.view (harg3.unread x0) arg4.view (harg4.unread x1)).read_all _ _ (fun _ => trivial)).trans ?_)
      rw [harg3.read_unread, harg4.read_unread]
    · refine (View.readAt_full _ _ _).trans ((read_wide_over _ _ _ (fills_t10 _ _ _ _ _ _ _ _ _ _ _ _ _ _ _ _ _ _ _ _ _ _ _ _ _ _ _ _ _ _ _ _ _ _ _) (fills_t11 _ _ _ _ _ _ _ _ _ _ _ _ _ _ _ _ _ _ _ _ _ _ _ _ _ _ _ _ _ _ _ _ _ _ _) (fills_t12 _ _ _ _ _ _ _ _ _ _ _ _ _ _ _ _ _ _ _ _ _ _ _ _ _ _ _ _ _ _ _ _ _ _ _) (fills_t13 _ _ _ _ _ _ _ _ _ _ _ _ _ _ _ _ _ _ _ _ _ _ _ _ _ _ _ _ _ _ _ _ _ _ _) (fills_t14 _ _ _ _ _ _ _ _ _ _ _ _ _ _ _ _ _ _ _ _ _ _ _ _ _ _ _ _ _ _ _ _ _ _ _) (fills_t15 _ _ _ _ _ _ _ _ _ _ _ _ _ _ _ _ _ _ _ _ _ _ _ _ _ _ _ _ _ _ _ _ _ _ _) (fills_t16 _ _ _ _ _ _ _ _ _ _ _ _ _ _ _ _ _ _ _ _ _ _ _ _ _ _ _ _ _ _ _ _ _ _ _) (fills_t17 _ _ _ _ _ _ _ _ _ _ _ _ _ _ _ _ _ _ _ _ _ _ _ _ _ _ _ _ _ _ _ _ _ _)).trans ?_)
      rw [harg7.read_unread, harg8.read_unread]
  isplitl [HS0]
  · iexists _; isplitr; swap; · iexact HS0
    ipureintro
    refine ((fills_xb arg3.view (harg3.unread x0) arg4.view (harg4.unread x1)).read_all _ _ (fun _ => trivial)).trans ?_
    rw [harg3.read_unread, harg4.read_unread]
  isplitl [HS1]
  · iexists _, _; isplitr; swap; · iexact HS1
    ipureintro; rfl
  iexists _, _; isplitr; swap; · iexact HS2
  ipureintro; rfl

end Cert.KernelIdeal.Gen

end
-- ==== Proof.IdealBodyB.lean ====
/-
  What the body leaves at a grid point that is not the first head of its row block, over the extended reals: the four
  output blocks as functions of the row block it finds and of the head's weights.
-/
module

public import proofs.«01_k».proof.Proof.IdealOut

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Fill
open Idealize.ShloMosaic.Pipeline (Dat Cfg Window BodyObligation BodyObligationLoose cellOf)

local notation "𝕄" => MT nD τ sig Unit (Elt Ideal) ℕ (UR sig nD τ) ℕ

set_option maxHeartbeats 2252000 in
/-- The body runs, leaves its inputs as they were, and its outputs at the values named. -/
theorem body_value_B (c : Dev nD) (i : grid0.Coords) (arg3 : Memref sig .tc .vmem S1x544x4096 .fp8e4m3) (harg3 : arg3.IsWhole) (arg4 : Memref sig .tc .vmem S1x544x32 .f32) (harg4 : arg4.IsWhole) (arg5 : Memref sig .tc .vmem S8x1x4096x128 .fp8e4m3) (harg5 : arg5.IsWhole) (arg6 : Memref sig .tc .smem S1x8x1x32 .f32) (harg6 : arg6.IsWhole) (arg7 : Memref sig .tc .vmem S8x1x4096x128 .fp8e4m3) (harg7 : arg7.IsWhole) (arg8 : Memref sig .tc .smem S1x8x1x32 .f32) (harg8 : arg8.IsWhole) (arg9 : Memref sig .tc .vmem S8x128 .f32) (harg9 : arg9.IsWhole) (arg10 : Memref sig .tc .vmem S1x544x1x8x128 .fp8e4m3) (harg10 : arg10.IsWhole) (arg11 : Memref sig .tc .vmem S1x1x544x8 .f32) (harg11 : arg11.IsWhole) (arg12 : Memref sig .tc .vmem S1x544x1x8x128 .fp8e4m3) (harg12 : arg12.IsWhole) (arg13 : Memref sig .tc .vmem S1x1x544x8 .f32) (harg13 : arg13.IsWhole) (arg14 : Memref sig .tc .vmem S544x4096 .bf16) (harg14 : arg14.IsWhole) (arg15 : Memref sig .tc .vmem S4096x1024 .bf16) (harg15 : arg15.IsWhole) (arg16 : Memref sig .tc .vmem S544x1024 .f32) (harg16 : arg16.IsWhole) (hc0 : ¬cond0_0 i)
    (x0 : Vec Ideal S1x544x4096 .fp8e4m3) (x1 : Vec Ideal S1x544x32 .f32) (x2 : Vec Ideal S8x1x4096x128 .fp8e4m3) (x3 : Vec Ideal S1x8x1x32 .f32) (x4 : Vec Ideal S8x1x4096x128 .fp8e4m3) (x5 : Vec Ideal S1x8x1x32 .f32) (x6 : Vec Ideal S8x128 .f32) (xs : Vec Ideal S544x4096 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs ∗ (∃ d, owns (c : Thread nD τ) arg15 fullShare d) ∗ (∃ d, owns (c : Thread nD τ) arg16 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (outKC xs x2 x3 x6) ∗ owns (c : Thread nD τ) arg11 fullShare (outKS xs x2 x3 x6) ∗ owns (c : Thread nD τ) arg12 fullShare (outVC xs x4 x5) ∗ owns (c : Thread nD τ) arg13 fullShare (outVS xs x4 x5) ∗ owns (c : Thread nD τ) arg14 fullShare xs ∗ (∃ d, owns (c : Thread nD τ) arg15 fullShare d) ∗ (∃ d, owns (c : Thread nD τ) arg16 fullShare d)) -∗ K ⟨⟩))
      ⊢ wp frame (wpE (defs₀ (F := Ideal)) Variants.none c none) E (cc0__body i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  simp only [k0_part39_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part40_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%fs0, %hfs0, HS0⟩, ⟨%ds1, %fs1, -, HS1⟩, ⟨%ds2, %fs2, -, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg14.eq_unread hfs0
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    refine ((fills_codes_t9 _ _ _ _ _ _ _ _ _ _ _ _ _ _ _ _ _ _ _ _ _ _ _ _ _ _ _ _ _ _ _ _ _ _ _).read_all _ _ (fun _ => trivial)).trans ?_
    refine congrArg₂ (fun A g => outC (headN A g)) ((View.read_writes_full _ _ _ _ _).trans ((pay168_eq _ _).trans (congrArg₂ accOf ?_ ?_))) (harg9.read_unread _)
    · exact (View.readAt_full _ _ _).trans (harg14.read_unread _)
    · refine (View.readAt_full _ _ _).trans ((read_wide _ _ (fills_t1 _ _ _ _ _ _ _ _ _ _ _ _ _ _ _ _ _ _ _ _ _ _ _ _ _ _ _ _ _ _ _ _ _ _) (fills_t2 _ _ _ _ _ _ _ _ _ _ _ _ _ _ _ _ _ _ _ _ _ _ _ _ _ _ _ _ _ _ _ _ _ _) (fills_t3 _ _ _ _ _ _ _ _ _ _ _ _ _ _ _ _ _ _ _ _ _ _ _ _ _ _ _ _ _ _ _ _ _ _) (fills_t4 _ _ _ _ _ _ _ _ _ _ _ _ _ _ _ _ _ _ _ _ _ _ _ _ _ _ _ _ _ _ _ _ _ _) (fills_t5 _ _ _ _ _ _ _ _ _ _ _ _ _ _ _ _ _ _ _ _ _ _ _ _ _ _ _ _ _ _ _ _ _ _) (fills_t6 _ _ _ _ _ _ _ _ _ _ _ _ _ _ _ _ _ _ _ _ _ _ _ _ _ _ _ _ _ _ _ _ _ _) (fills_t7 _ _ _ _ _ _ _ _ _ _ _ _ _ _ _ _ _ _ _ _ _ _ _ _ _ _ _ _ _ _ _ _ _ _) (fills_t8 _ _ _ _ _ _ _ _ _ _ _ _ _ _ _ _ _ _ _ _ _ _ _ _ _ _ _ _ _ _ _ _ _ _)).trans ?_)
      rw [harg5.read_unread, harg6.read_unread]
  isplitl [H8]
  · iexists _; isplitr; swap; · iexact H8
    ipureintro
    refine ((fills_scales_t9 _ _ _ _ _ _ _ _ _ _ _ _ _ _ _ _ _ _ _ _ _ _ _ _ _ _ _ _ _ _ _ _ _ _ _).read_all _ _ (fun _ => trivial)).trans ?_
    refine congrArg₂ (fun A g => outS (headN A g)) ((View.read_writes_full _ _ _ _ _).trans ((pay168_eq _ _).trans (congrArg₂ accOf ?_ ?_))) (harg9.read_unread _)
    · exact (View.readAt_full _ _ _).trans (harg14.read_unread _)
    · refine (View.readAt_full _ _ _).trans ((read_wide _ _ (fills_t1 _ _ _ _ _ _ _ _ _ _ _ _ _ _ _ _ _ _ _ _ _ _ _ _ _ _ _ _ _ _ _ _ _ _) (fills_t2 _ _ _ _ _ _ _ _ _ _ _ _ _ _ _ _ _ _ _ _ _ _ _ _ _ _ _ _ _ _ _ _ _ _) (fills_t3 _ _ _ _ _ _ _ _ _ _ _ _ _ _ _ _ _ _ _ _ _ _ _ _ _ _ _ _ _ _ _ _ _ _) (fills_t4 _ _ _ _ _ _ _ _ _ _ _ _ _ _ _ _ _ _ _ _ _ _ _ _ _ _ _ _ _ _ _ _ _ _) (fills_t5 _ _ _ _ _ _ _ _ _ _ _ _ _ _ _ _ _ _ _ _ _ _ _ _ _ _ _ _ _ _ _ _ _ _) (fills_t6 _ _ _ _ _ _ _ _ _ _ _ _ _ _ _ _ _ _ _ _ _ _ _ _ _ _ _ _ _ _ _ _ _ _) (fills_t7 _ _ _ _ _ _ _ _ _ _ _ _ _ _ _ _ _ _ _ _ _ _ _ _ _ _ _ _ _ _ _ _ _ _) (fills_t8 _ _ _ _ _ _ _ _ _ _ _ _ _ _ _ _ _ _ _ _ _ _ _ _ _ _ _ _ _ _ _ _ _ _)).trans ?_)
      rw [harg5.read_unread, harg6.read_unread]
  isplitl [H9]
  · iexists _; isplitr; swap; · iexact H9
    ipureintro
    refine ((fills_codes_t18 _ _ _ _ _ _ _ _ _ _ _ _ _ _ _ _ _ _ _ _ _ _ _ _ _ _ _ _ _ _ _ _ _).read_all _ _ (fun _ => trivial)).trans ?_
    refine congrArg (fun A => outC (headA A)) ((View.read_writes_full _ _ _ _ _).trans ((pay2_eq _ _).trans (congrArg₂ accOf ?_ ?_)))
    · exact (View.readAt_full _ _ _).trans (harg14.read_unread _)
    · refine (View.readAt_full _ _ _).trans ((read_wide_over _ _ _ (fills_t10 _ _ _ _ _ _ _ _ _ _ _ _ _ _ _ _ _ _ _ _ _ _ _ _ _ _ _ _ _ _ _ _ _ _ _) (fills_t11 _ _ _ _ _ _ _ _ _ _ _ _ _ _ _ _ _ _ _ _ _ _ _ _ _ _ _ _ _ _ _ _ _ _ _) (fills_t12 _ _ _ _ _ _ _ _ _ _ _ _ _ _ _ _ _ _ _ _ _ _ _ _ _ _ _ _ _ _ _ _ _ _ _) (fills_t13 _ _ _ _ _ _ _ _ _ _ _ _ _ _ _ _ _ _ _ _ _ _ _ _ _ _ _ _ _ _ _ _ _ _ _) (fills_t14 _ _ _ _ _ _ _ _ _ _ _ _ _ _ _ _ _ _ _ _ _ _ _ _ _ _ _ _ _ _ _ _ _ _ _) (fills_t15 _ _ _ _ _ _ _ _ _ _ _ _ _ _ _ _ _ _ _ _ _ _ _ _ _ _ _ _ _ _ _ _ _ _ _) (fills_t16 _ _ _ _ _ _ _ _ _ _ _ _ _ _ _ _ _ _ _ _ _ _ _ _ _ _ _ _ _ _ _ _ _ _ _) (fills_t17 _ _ _ _ _ _ _ _ _ _ _ _ _ _ _ _ _ _ _ _ _ _ _ _ _ _ _ _ _ _ _ _ _ _)).trans ?_)
      rw [harg7.read_unread, harg8.read_unread]
  isplitl [H10]
  · iexists _; isplitr; swap; · iexact H10
    ipureintro
    refine ((fills_scales_t18 _ _ _ _ _ _ _ _ _ _ _ _ _ _ _ _ _ _ _ _ _ _ _ _ _ _ _ _ _ _ _ _ _).read_all _ _ (fun _ => trivial)).trans ?_
    refine congrArg (fun A => outS (headA A)) ((View.read_writes_full _ _ _ _ _).trans ((pay2_eq _ _).trans (congrArg₂ accOf ?_ ?_)))
    · exact (View.readAt_full _ _ _).trans (harg14.read_unread _)
    · refine (View.readAt_full _ _ _).trans ((read_wide_over _ _ _ (fills_t10 _ _ _ _ _ _ _ _ _ _ _ _ _ _ _ _ _ _ _ _ _ _ _ _ _ _ _ _ _ _ _ _ _ _ _) (fills_t11 _ _ _ _ _ _ _ _ _ _ _ _ _ _ _ _ _ _ _ _ _ _ _ _ _ _ _ _ _ _ _ _ _ _ _) (fills_t12 _ _ _ _ _ _ _ _ _ _ _ _ _ _ _ _ _ _ _ _ _ _ _ _ _ _ _ _ _ _ _ _ _ _ _) (fills_t13 _ _ _ _ _ _ _ _ _ _ _ _ _ _ _ _ _ _ _ _ _ _ _ _ _ _ _ _ _ _ _ _ _ _ _) (fills_t14 _ _ _ _ _ _ _ _ _ _ _ _ _ _ _ _ _ _ _ _ _ _ _ _ _ _ _ _ _ _ _ _ _ _ _) (fills_t15 _ _ _ _ _ _ _ _ _ _ _ _ _ _ _ _ _ _ _ _ _ _ _ _ _ _ _ _ _ _ _ _ _ _ _) (fills_t16 _ _ _ _ _ _ _ _ _ _ _ _ _ _ _ _ _ _ _ _ _ _ _ _ _ _ _ _ _ _ _ _ _ _ _) (fills_t17 _ _ _ _ _ _ _ _ _ _ _ _ _ _ _ _ _ _ _ _ _ _ _ _ _ _ _ _ _ _ _ _ _ _)).trans ?_)
      rw [harg7.read_unread, harg8.read_unread]
  isplitl [HS0]
  · iexists _; isplitr; swap; · iexact HS0
    ipureintro
    exact harg14.read_unread _
  isplitl [HS1]
  · iexists _, _; isplitr; swap; · iexact HS1
    ipureintro; rfl
  iexists _, _; isplitr; swap; · iexact HS2
  ipureintro; rfl

end Cert.KernelIdeal.Gen

end
-- ==== Proof.IdealBlocks.lean ====
/-
  What the kernel computes, as functions of the arrays its region is given, and what one grid point's blocks read of
  those arrays: the point's batch, row tile and head; the block of each input; and the rows and columns of an output
  array that the point writes.
-/
module

public import proofs.«01_k».proof.Proof.IdealOut
public import proofs.«01_k».proof.Proof.IdealNames

@[expose] public section

set_option maxRecDepth 16384

noncomputable section

namespace Cert.KernelIdeal.Gen

open Idealize.ShloMosaic Idealize.ShloMosaic.TcCoe
open Idealize.SL Idealize.SL.Sem
open Idealize.ShloMosaic.Pipeline (Dat Cfg Window)
open Cert.Quant

/-! ## The functions -/

/-- Row `s` of batch `b`, dequantised: each code by the scale of its block of 128. -/
def xrow (X : S6x6404x4096.Idx → EReal) (SX : S6x6404x32.Idx → EReal) (b : Fin 6) (s : Fin 6404) (d : Fin 4096) : EReal :=
  X (ix3 b s d) * SX (ix3 b s ⟨d.val / 128, by omega⟩)

/-- That row through the weights of head `h` of layer `l`. -/
def head (X : S6x6404x4096.Idx → EReal) (SX : S6x6404x32.Idx → EReal) (W : S8x5x4096x128.Idx → EReal) (S : S5x8x1x32.Idx → EReal)
    (b : Fin 6) (s : Fin 6404) (h : Fin 5) (l : Fin 8) (e : Fin 128) : EReal :=
  ∑ d : Fin 4096, xrow X SX b s d * (W (ix4 l h d e) * S (ix4 h l 0 ⟨d.val / 128, by omega⟩))

/-- The same normalised with the layer's gain. -/
def headG (X : S6x6404x4096.Idx → EReal) (SX : S6x6404x32.Idx → EReal) (W : S8x5x4096x128.Idx → EReal) (S : S5x8x1x32.Idx → EReal)
    (g : S8x128.Idx → EReal) (b : Fin 6) (s : Fin 6404) (h : Fin 5) (l : Fin 8) (e : Fin 128) : EReal :=
  rowNorm (head X SX W S b s h l) (fun x => g (ix2 l x)) e

/-- A row block `xs` whose rows inside the array are the dequantised rows of batch `b` from row 544 k on. -/
def Rows (X : S6x6404x4096.Idx → EReal) (SX : S6x6404x32.Idx → EReal) (b : Fin 6) (k : ℕ) (xs : S544x4096.Idx → EReal) : Prop :=
  ∀ (r : Fin 544) (hr : 544 * k + r.val < 6404) (d : Fin 4096), xs (ix2 r d) = xrow X SX b ⟨544 * k + r.val, hr⟩ d

/-- One row of the accumulator of such a block is the row through the head's weights. -/
theorem headA_of_rows {X : S6x6404x4096.Idx → EReal} {SX : S6x6404x32.Idx → EReal} {b : Fin 6} {k : ℕ} {xs : S544x4096.Idx → EReal}
    (hx : Rows X SX b k xs) {W : S8x5x4096x128.Idx → EReal} {S : S5x8x1x32.Idx → EReal} {h : Fin 5}
    {w : S8x1x4096x128.Idx → EReal} {s : S1x8x1x32.Idx → EReal}
    (hw : ∀ (l : Fin 8) (d : Fin 4096) (e : Fin 128), w (ix4 l 0 d e) = W (ix4 l h d e))
    (hs : ∀ (l : Fin 8) (j : Fin 32), s (ix4 0 l 0 j) = S (ix4 h l 0 j))
    (r : Fin 544) (hr : 544 * k + r.val < 6404) (l : Fin 8) :
    headA (accOf xs (wideW w s)) r l = head X SX W S b ⟨544 * k + r.val, hr⟩ h l := by
  funext e
  unfold headA accOf head
  refine Finset.sum_congr rfl fun d _ => congrArg₂ (· * ·) (hx r hr d) ?_
  have e1 : (128 * l.val + e.val) / 128 = l.val := by omega
  have e2 : (128 * l.val + e.val) % 128 = e.val := by omega
  refine Eq.trans (b := w (ix4 l 0 d e) * s (ix4 0 l 0 ⟨d.val / 128, by omega⟩)) ?_ (congrArg₂ (· * ·) (hw l d e) (hs l _))
  unfold wideW
  exact congrArg₂ (· * ·)
    (congrArg₂ (fun p q => w (ix4 p 0 d q)) (Fin.ext e1) (Fin.ext e2))
    (congrArg (fun p => s (ix4 0 p 0 ⟨d.val / 128, by omega⟩)) (Fin.ext e1))

theorem headN_of_rows {X : S6x6404x4096.Idx → EReal} {SX : S6x6404x32.Idx → EReal} {b : Fin 6} {k : ℕ} {xs : S544x4096.Idx → EReal}
    (hx : Rows X SX b k xs) {W : S8x5x4096x128.Idx → EReal} {S : S5x8x1x32.Idx → EReal} {h : Fin 5}
    {w : S8x1x4096x128.Idx → EReal} {s : S1x8x1x32.Idx → EReal} {g g' : S8x128.Idx → EReal}
    (hw : ∀ (l : Fin 8) (d : Fin 4096) (e : Fin 128), w (ix4 l 0 d e) = W (ix4 l h d e))
    (hs : ∀ (l : Fin 8) (j : Fin 32), s (ix4 0 l 0 j) = S (ix4 h l 0 j)) (hg : g = g')
    (r : Fin 544) (hr : 544 * k + r.val < 6404) (l : Fin 8) :
    headN (accOf xs (wideW w s)) g r l = headG X SX W S g' b ⟨544 * k + r.val, hr⟩ h l := by
  funext e
  unfold headN headG
  rw [headA_of_rows hx hw hs r hr l, hg]

/-! ## The point -/

theorem coord_0 (t : Fin cfg0.N) : (grid0.coords t 0).val = t.val / 60 % 6 := Pipeline.Grid.coords_val t 0 (by decide) rfl
theorem coord_1 (t : Fin cfg0.N) : (grid0.coords t 1).val = t.val / 5 % 12 := Pipeline.Grid.coords_val t 1 (by decide) rfl
theorem coord_2 (t : Fin cfg0.N) : (grid0.coords t 2).val = t.val % 5 :=
  (show (grid0.coords t 2).val = t.val / 1 % 5 from Pipeline.Grid.coords_val t 2 (by decide) rfl).trans (by rw [Nat.div_one])

/-- A point's batch, row tile and head. -/
def pb (n : ℕ) : Fin 6 := ⟨n / 60 % 6, Nat.mod_lt _ (by decide)⟩
def pk (n : ℕ) : ℕ := n / 5 % 12
def ph (n : ℕ) : Fin 5 := ⟨n % 5, Nat.mod_lt _ (by decide)⟩

theorem pk_lt (n : ℕ) : pk n < 12 := Nat.mod_lt _ (by decide)

theorem toNat_small {a : ℕ} (h : a < 4294967296) : (BitVec.ofNat 32 a).toNat = a := by
  rw [BitVec.toNat_ofNat]; exact Nat.mod_eq_of_lt h

theorem clip_lt {ix k d r : ℕ} (hr : r < k) (h : ix * k + r < d) : r < (Pipeline.Clip.of ix k d).extent k := by
  unfold Pipeline.Clip.of
  split
  · exact hr
  · show r < d - ix * k; omega

theorem lt_of_clip {ix k d r : ℕ} (h0 : ix * k < d) (h : r < (Pipeline.Clip.of ix k d).extent k) : ix * k + r < d := by
  unfold Pipeline.Clip.of at h
  split at h
  · rename_i h1; rw [Nat.succ_mul] at h1; have h : r < k := h; omega
  · have h : r < d - ix * k := h; omega

variable {F : FTy → Type} [FloatOps F]
variable (m : (ℓ : Loc nD τ sig) → Buf (Elt F) ℓ)

/-! ## The input blocks -/

set_option maxHeartbeats 1600000 in
theorem fill0_apply (c : Dev nD) (t : Fin cfg0.N) (d : (cfg0.win 0).block.Idx → Elt F (cfg0.win 0).elt) (r : Fin 544)
    (hr : 544 * pk t.val + r.val < 6404) (x : Fin 4096) :
    (cfg0.win 0).fill (cfg0.grid.coords t) d (iblk m c 0 t) (ix3 (0 : Fin 1) r x : S1x544x4096.Idx)
      = V m c main_arg0 (ix3 (pb t.val) ⟨544 * pk t.val + r.val, hr⟩ x : S6x6404x4096.Idx) := by
  have c0 := coord_0 t; have c1 := coord_1 t
  have hk := pk_lt t.val
  have i0 : cc0_transform_0 (grid0.coords t) 0 = t.val / 60 % 6 := (toNat_small (by rw [c0]; omega)).trans c0
  have i1 : cc0_transform_0 (grid0.coords t) 1 = pk t.val := (toNat_small (by rw [c1]; omega)).trans c1
  have i2 : cc0_transform_0 (grid0.coords t) 2 = 0 := rfl
  unfold Window.fill
  rw [dif_pos (((cfg0.win 0).moved_iff _ _).mpr ?_)]
  · refine congrArg (V m c main_arg0) (funext fun a => Fin.ext ?_)
    fin_cases a
    · show cc0_transform_0 (grid0.coords t) 0 * 1 + 1 * 0 = t.val / 60 % 6
      rw [i0]; omega
    · show cc0_transform_0 (grid0.coords t) 1 * 544 + 1 * r.val = 544 * pk t.val + r.val
      rw [i1]; omega
    · show cc0_transform_0 (grid0.coords t) 2 * 4096 + 1 * x.val = x.val
      rw [i2]; omega
  · intro a
    fin_cases a
    · show 0 < (Pipeline.Clip.of (cc0_transform_0 (grid0.coords t) 0) 1 6).extent 1
      exact clip_lt (by decide) (by rw [i0]; omega)
    · show r.val < (Pipeline.Clip.of (cc0_transform_0 (grid0.coords t) 1) 544 6404).extent 544
      exact clip_lt r.isLt (by rw [i1]; omega)
    · show x.val < (Pipeline.Clip.of (cc0_transform_0 (grid0.coords t) 2) 4096 4096).extent 4096
      exact clip_lt x.isLt (by rw [i2]; omega)

set_option maxHeartbeats 1600000 in
theorem fill1_apply (c : Dev nD) (t : Fin cfg0.N) (d : (cfg0.win 1).block.Idx → Elt F (cfg0.win 1).elt) (r : Fin 544)
    (hr : 544 * pk t.val + r.val < 6404) (x : Fin 32) :
    (cfg0.win 1).fill (cfg0.grid.coords t) d (iblk m c 1 t) (ix3 (0 : Fin 1) r x : S1x544x32.Idx)
      = V m c main_arg1 (ix3 (pb t.val) ⟨544 * pk t.val + r.val, hr⟩ x : S6x6404x32.Idx) := by
  have c0 := coord_0 t; have c1 := coord_1 t
  have hk := pk_lt t.val
  have i0 : cc0_transform_1 (grid0.coords t) 0 = t.val / 60 % 6 := (toNat_small (by rw [c0]; omega)).trans c0
  have i1 : cc0_transform_1 (grid0.coords t) 1 = pk t.val := (toNat_small (by rw [c1]; omega)).trans c1
  have i2 : cc0_transform_1 (grid0.coords t) 2 = 0 := rfl
  unfold Window.fill
  rw [dif_pos (((cfg0.win 1).moved_iff _ _).mpr ?_)]
  · refine congrArg (V m c main_arg1) (funext fun a => Fin.ext ?_)
    fin_cases a
    · show cc0_transform_1 (grid0.coords t) 0 * 1 + 1 * 0 = t.val / 60 % 6
      rw [i0]; omega
    · show cc0_transform_1 (grid0.coords t) 1 * 544 + 1 * r.val = 544 * pk t.val + r.val
      rw [i1]; omega
    · show 0 * 32 + 1 * x.val = x.val
      omega
  · intro a
    fin_cases a
    · show 0 < (Pipeline.Clip.of (cc0_transform_1 (grid0.coords t) 0) 1 6).extent 1
      exact clip_lt (by decide) (by rw [i0]; omega)
    · show r.val < (Pipeline.Clip.of (cc0_transform_1 (grid0.coords t) 1) 544 6404).extent 544
      exact clip_lt r.isLt (by rw [i1]; omega)
    · show x.val < (Pipeline.Clip.of (cc0_transform_1 (grid0.coords t) 2) 32 32).extent 32
      exact clip_lt x.isLt (by rw [i2]; omega)

theorem iblk2_apply (c : Dev nD) (t : Fin cfg0.N) (l : Fin 8) (d : Fin 4096) (e : Fin 128) :
    iblk m c 2 t (ix4 l (0 : Fin 1) d e : S8x1x4096x128.Idx) = V m c main_v0 (ix4 l (ph t.val) d e : S8x5x4096x128.Idx) := by
  have c2 := coord_2 t
  have i1 : cc0_transform_2 (grid0.coords t) 1 = t.val % 5 := (toNat_small (by rw [c2]; omega)).trans c2
  refine congrArg (V m c main_v0) (funext fun a => Fin.ext ?_)
  fin_cases a
  · show 0 * 8 + 1 * l.val = l.val; omega
  · show cc0_transform_2 (grid0.coords t) 1 * 1 + 1 * 0 = t.val % 5; rw [i1]; omega
  · show 0 * 4096 + 1 * d.val = d.val; omega
  · show 0 * 128 + 1 * e.val = e.val; omega

theorem iblk4_apply (c : Dev nD) (t : Fin cfg0.N) (l : Fin 8) (d : Fin 4096) (e : Fin 128) :
    iblk m c 4 t (ix4 l (0 : Fin 1) d e : S8x1x4096x128.Idx) = V m c main_v1 (ix4 l (ph t.val) d e : S8x5x4096x128.Idx) := by
  have c2 := coord_2 t
  have i1 : cc0_transform_4 (grid0.coords t) 1 = t.val % 5 := (toNat_small (by rw [c2]; omega)).trans c2
  refine congrArg (V m c main_v1) (funext fun a => Fin.ext ?_)
  fin_cases a
  · show 0 * 8 + 1 * l.val = l.val; omega
  · show cc0_transform_4 (grid0.coords t) 1 * 1 + 1 * 0 = t.val % 5; rw [i1]; omega
  · show 0 * 4096 + 1 * d.val = d.val; omega
  · show 0 * 128 + 1 * e.val = e.val; omega

theorem iblk3_apply (c : Dev nD) (t : Fin cfg0.N) (l : Fin 8) (j : Fin 32) :
    iblk m c 3 t (ix4 (0 : Fin 1) l (0 : Fin 1) j : S1x8x1x32.Idx) = V m c main_v5 (ix4 (ph t.val) l (0 : Fin 1) j : S5x8x1x32.Idx) := by
  have c2 := coord_2 t
  have i0 : cc0_transform_3 (grid0.coords t) 0 = t.val % 5 := (toNat_small (by rw [c2]; omega)).trans c2
  refine congrArg (V m c main_v5) (funext fun a => Fin.ext ?_)
  fin_cases a
  · show cc0_transform_3 (grid0.coords t) 0 * 1 + 1 * 0 = t.val % 5; rw [i0]; omega
  · show 0 * 8 + 1 * l.val = l.val; omega
  · show 0 * 1 + 1 * 0 = 0; omega
  · show 0 * 32 + 1 * j.val = j.val; omega

theorem iblk5_apply (c : Dev nD) (t : Fin cfg0.N) (l : Fin 8) (j : Fin 32) :
    iblk m c 5 t (ix4 (0 : Fin 1) l (0 : Fin 1) j : S1x8x1x32.Idx) = V m c main_v7 (ix4 (ph t.val) l (0 : Fin 1) j : S5x8x1x32.Idx) := by
  have c2 := coord_2 t
  have i0 : cc0_transform_5 (grid0.coords t) 0 = t.val % 5 := (toNat_small (by rw [c2]; omega)).trans c2
  refine congrArg (V m c main_v7) (funext fun a => Fin.ext ?_)
  fin_cases a
  · show cc0_transform_5 (grid0.coords t) 0 * 1 + 1 * 0 = t.val % 5; rw [i0]; omega
  · show 0 * 8 + 1 * l.val = l.val; omega
  · show 0 * 1 + 1 * 0 = 0; omega
  · show 0 * 32 + 1 * j.val = j.val; omega

theorem iblk6_eq (c : Dev nD) (t : Fin cfg0.N) : (iblk m c 6 t : S8x128.Idx → Elt F .f32) = V m c main_arg6 := by
  funext y
  refine congrArg (V m c main_arg6) (funext fun a => Fin.ext ?_)
  fin_cases a
  · show 0 * 8 + 1 * (y 0).val = (y 0).val; omega
  · show 0 * 128 + 1 * (y 1).val = (y 1).val; omega

end Cert.KernelIdeal.Gen

end
-- ==== Proof.IdealCut.lean ====
/-
  What a grid point writes back: the part inside the array of each output block is the array of all codes (or of all
  scales) read at the block's place. Stated of any row block whose rows inside the array are the dequantised rows.
-/
module

public import proofs.«01_k».proof.Proof.IdealBlocks

@[expose] public section

set_option maxRecDepth 16384

noncomputable section

namespace Cert.KernelIdeal.Gen

open Idealize.ShloMosaic Idealize.ShloMosaic.TcCoe
open Idealize.SL Idealize.SL.Sem
open Idealize.ShloMosaic.Pipeline (Dat Cfg Window)
open Cert.Quant

variable (m : (ℓ : Loc nD τ sig) → Buf (Elt Ideal) ℓ)

/-! ## The four arrays, from the arrays the region is given -/

/-- The codes of the keys, -/
def GKC (c : Dev nD) : S6x6404x5x8x128.Idx → EReal := fun y =>
  rowCode (headG (V m c main_arg0) (V m c main_arg1) (V m c main_v0) (V m c main_v5) (V m c main_arg6) (y 0) (y 1) (y 2) (y 3)) (y 4)
/-- their scales, -/
def GKS (c : Dev nD) : S6x5x6404x8.Idx → EReal := fun y =>
  rowScale (headG (V m c main_arg0) (V m c main_arg1) (V m c main_v0) (V m c main_v5) (V m c main_arg6) (y 0) (y 2) (y 1) (y 3))
/-- the codes of the values, -/
def GVC (c : Dev nD) : S6x6404x5x8x128.Idx → EReal := fun y =>
  rowCode (head (V m c main_arg0) (V m c main_arg1) (V m c main_v1) (V m c main_v7) (y 0) (y 1) (y 2) (y 3)) (y 4)
/-- their scales. -/
def GVS (c : Dev nD) : S6x5x6404x8.Idx → EReal := fun y =>
  rowScale (head (V m c main_arg0) (V m c main_arg1) (V m c main_v1) (V m c main_v7) (y 0) (y 2) (y 1) (y 3))

theorem congr5 {A B C D E R : Sort*} (f : A → B → C → D → E → R) {a a' : A} {b b' : B} {c c' : C} {d d' : D} {e e' : E}
    (ha : a = a') (hb : b = b') (hc : c = c') (hd : d = d') (he : e = e') : f a b c d e = f a' b' c' d' e' := by
  subst ha hb hc hd he; rfl

theorem congr4 {A B C D R : Sort*} (f : A → B → C → D → R) {a a' : A} {b b' : B} {c c' : C} {d d' : D}
    (ha : a = a') (hb : b = b') (hc : c = c') (hd : d = d') : f a b c d = f a' b' c' d' := by
  subst ha hb hc hd; rfl

/-- Where block `t` of an output lies. -/
theorem ix7_0 (t : Fin cfg0.N) : cc0_transform_7 (grid0.coords t) 0 = t.val / 60 % 6 :=
  (toNat_small (by rw [coord_0 t]; omega)).trans (coord_0 t)
theorem ix7_1 (t : Fin cfg0.N) : cc0_transform_7 (grid0.coords t) 1 = pk t.val :=
  (toNat_small (by rw [coord_1 t]; omega)).trans (coord_1 t)
theorem ix7_2 (t : Fin cfg0.N) : cc0_transform_7 (grid0.coords t) 2 = t.val % 5 :=
  (toNat_small (by rw [coord_2 t]; omega)).trans (coord_2 t)
theorem ix9_0 (t : Fin cfg0.N) : cc0_transform_9 (grid0.coords t) 0 = t.val / 60 % 6 :=
  (toNat_small (by rw [coord_0 t]; omega)).trans (coord_0 t)
theorem ix9_1 (t : Fin cfg0.N) : cc0_transform_9 (grid0.coords t) 1 = pk t.val :=
  (toNat_small (by rw [coord_1 t]; omega)).trans (coord_1 t)
theorem ix9_2 (t : Fin cfg0.N) : cc0_transform_9 (grid0.coords t) 2 = t.val % 5 :=
  (toNat_small (by rw [coord_2 t]; omega)).trans (coord_2 t)
theorem ix8_0 (t : Fin cfg0.N) : cc0_transform_8 (grid0.coords t) 0 = t.val / 60 % 6 :=
  (toNat_small (by rw [coord_0 t]; omega)).trans (coord_0 t)
theorem ix8_1 (t : Fin cfg0.N) : cc0_transform_8 (grid0.coords t) 1 = t.val % 5 :=
  (toNat_small (by rw [coord_2 t]; omega)).trans (coord_2 t)
theorem ix8_2 (t : Fin cfg0.N) : cc0_transform_8 (grid0.coords t) 2 = pk t.val :=
  (toNat_small (by rw [coord_1 t]; omega)).trans (coord_1 t)
theorem ix10_0 (t : Fin cfg0.N) : cc0_transform_10 (grid0.coords t) 0 = t.val / 60 % 6 :=
  (toNat_small (by rw [coord_0 t]; omega)).trans (coord_0 t)
theorem ix10_1 (t : Fin cfg0.N) : cc0_transform_10 (grid0.coords t) 1 = t.val % 5 :=
  (toNat_small (by rw [coord_2 t]; omega)).trans (coord_2 t)
theorem ix10_2 (t : Fin cfg0.N) : cc0_transform_10 (grid0.coords t) 2 = pk t.val :=
  (toNat_small (by rw [coord_1 t]; omega)).trans (coord_1 t)

section Cuts

variable (c : Dev nD) (t : Fin cfg0.N) (xs : S544x4096.Idx → EReal)

/-- The hypothesis on the row block at point `n`. -/
abbrev RowsAt (n : ℕ) (xs : S544x4096.Idx → EReal) : Prop := Rows (V m c main_arg0) (V m c main_arg1) (pb n) (pk n) xs

variable (hx : RowsAt m c t.val xs)
include hx

set_option maxHeartbeats 1600000 in
theorem cut_KC : (cfg0.win 7).cut (cfg0.grid.coords t) (outKC xs (iblk m c 2 t) (iblk m c 3 t) (iblk m c 6 t))
    = ((cfg0.win 7).blk t).view.read (Elt Ideal) (GKC m c) := by
  have i0 := ix7_0 t; have i1 := ix7_1 t; have i2 := ix7_2 t; have hk := pk_lt t.val
  funext j
  have hj0 : (j 0).val < 1 := ((cfg0.win 7).xinj (cfg0.grid.coords t) j 0).isLt
  have hj2 : (j 2).val < 1 := ((cfg0.win 7).xinj (cfg0.grid.coords t) j 2).isLt
  have hj1 : (j 1).val < (Pipeline.Clip.of (cc0_transform_7 (grid0.coords t) 1) 544 6404).extent 544 := (j 1).isLt
  have hr : 544 * pk t.val + (j 1).val < 6404 := by
    have := lt_of_clip (by rw [i1]; omega) hj1
    rw [i1] at this; omega
  refine (congrArg (fun h => rowCode h _) (headN_of_rows hx (iblk2_apply m c t) (iblk3_apply m c t) (iblk6_eq m c t)
    ((cfg0.win 7).xinj (cfg0.grid.coords t) j 1) hr ((cfg0.win 7).xinj (cfg0.grid.coords t) j 3))).trans ?_
  refine congr5 (fun b s h l e => rowCode (headG (V m c main_arg0) (V m c main_arg1) (V m c main_v0) (V m c main_v5) (V m c main_arg6) b s h l) e)
    (Fin.ext ?_) (Fin.ext ?_) (Fin.ext ?_) (Fin.ext ?_) (Fin.ext ?_)
  · show t.val / 60 % 6 = cc0_transform_7 (grid0.coords t) 0 * 1 + 1 * (j 0).val; rw [i0]; omega
  · show 544 * pk t.val + (j 1).val = cc0_transform_7 (grid0.coords t) 1 * 544 + 1 * (j 1).val; rw [i1]; omega
  · show t.val % 5 = cc0_transform_7 (grid0.coords t) 2 * 1 + 1 * (j 2).val; rw [i2]; omega
  · show (j 3).val = 0 * 8 + 1 * (j 3).val; omega
  · show (j 4).val = 0 * 128 + 1 * (j 4).val; omega

set_option maxHeartbeats 1600000 in
theorem cut_VC : (cfg0.win 9).cut (cfg0.grid.coords t) (outVC xs (iblk m c 4 t) (iblk m c 5 t))
    = ((cfg0.win 9).blk t).view.read (Elt Ideal) (GVC m c) := by
  have i0 := ix9_0 t; have i1 := ix9_1 t; have i2 := ix9_2 t; have hk := pk_lt t.val
  funext j
  have hj0 : (j 0).val < 1 := ((cfg0.win 9).xinj (cfg0.grid.coords t) j 0).isLt
  have hj2 : (j 2).val < 1 := ((cfg0.win 9).xinj (cfg0.grid.coords t) j 2).isLt
  have hj1 : (j 1).val < (Pipeline.Clip.of (cc0_transform_9 (grid0.coords t) 1) 544 6404).extent 544 := (j 1).isLt
  have hr : 544 * pk t.val + (j 1).val < 6404 := by
    have := lt_of_clip (by rw [i1]; omega) hj1
    rw [i1] at this; omega
  refine (congrArg (fun h => rowCode h _) (headA_of_rows hx (iblk4_apply m c t) (iblk5_apply m c t)
    ((cfg0.win 9).xinj (cfg0.grid.coords t) j 1) hr ((cfg0.win 9).xinj (cfg0.grid.coords t) j 3))).trans ?_
  refine congr5 (fun b s h l e => rowCode (head (V m c main_arg0) (V m c main_arg1) (V m c main_v1) (V m c main_v7) b s h l) e)
    (Fin.ext ?_) (Fin.ext ?_) (Fin.ext ?_) (Fin.ext ?_) (Fin.ext ?_)
  · show t.val / 60 % 6 = cc0_transform_9 (grid0.coords t) 0 * 1 + 1 * (j 0).val; rw [i0]; omega
  · show 544 * pk t.val + (j 1).val = cc0_transform_9 (grid0.coords t) 1 * 544 + 1 * (j 1).val; rw [i1]; omega
  · show t.val % 5 = cc0_transform_9 (grid0.coords t) 2 * 1 + 1 * (j 2).val; rw [i2]; omega
  · show (j 3).val = 0 * 8 + 1 * (j 3).val; omega
  · show (j 4).val = 0 * 128 + 1 * (j 4).val; omega

set_option maxHeartbeats 1600000 in
theorem cut_KS : (cfg0.win 8).cut (cfg0.grid.coords t) (outKS xs (iblk m c 2 t) (iblk m c 3 t) (iblk m c 6 t))
    = ((cfg0.win 8).blk t).view.read (Elt Ideal) (GKS m c) := by
  have i0 := ix8_0 t; have i1 := ix8_1 t; have i2 := ix8_2 t; have hk := pk_lt t.val
  funext j
  have hj0 : (j 0).val < 1 := ((cfg0.win 8).xinj (cfg0.grid.coords t) j 0).isLt
  have hj1 : (j 1).val < 1 := ((cfg0.win 8).xinj (cfg0.grid.coords t) j 1).isLt
  have hj2 : (j 2).val < (Pipeline.Clip.of (cc0_transform_8 (grid0.coords t) 2) 544 6404).extent 544 := (j 2).isLt
  have hr : 544 * pk t.val + (j 2).val < 6404 := by
    have := lt_of_clip (by rw [i2]; omega) hj2
    rw [i2] at this; omega
  refine (congrArg (fun h => rowScale h) (headN_of_rows hx (iblk2_apply m c t) (iblk3_apply m c t) (iblk6_eq m c t)
    ((cfg0.win 8).xinj (cfg0.grid.coords t) j 2) hr ((cfg0.win 8).xinj (cfg0.grid.coords t) j 3))).trans ?_
  refine congr4 (fun b s h l => rowScale (headG (V m c main_arg0) (V m c main_arg1) (V m c main_v0) (V m c main_v5) (V m c main_arg6) b s h l))
    (Fin.ext ?_) (Fin.ext ?_) (Fin.ext ?_) (Fin.ext ?_)
  · show t.val / 60 % 6 = cc0_transform_8 (grid0.coords t) 0 * 1 + 1 * (j 0).val; rw [i0]; omega
  · show 544 * pk t.val + (j 2).val = cc0_transform_8 (grid0.coords t) 2 * 544 + 1 * (j 2).val; rw [i2]; omega
  · show t.val % 5 = cc0_transform_8 (grid0.coords t) 1 * 1 + 1 * (j 1).val; rw [i1]; omega
  · show (j 3).val = 0 * 8 + 1 * (j 3).val; omega

set_option maxHeartbeats 1600000 in
theorem cut_VS : (cfg0.win 10).cut (cfg0.grid.coords t) (outVS xs (iblk m c 4 t) (iblk m c 5 t))
    = ((cfg0.win 10).blk t).view.read (Elt Ideal) (GVS m c) := by
  have i0 := ix10_0 t; have i1 := ix10_1 t; have i2 := ix10_2 t; have hk := pk_lt t.val
  funext j
  have hj0 : (j 0).val < 1 := ((cfg0.win 10).xinj (cfg0.grid.coords t) j 0).isLt
  have hj1 : (j 1).val < 1 := ((cfg0.win 10).xinj (cfg0.grid.coords t) j 1).isLt
  have hj2 : (j 2).val < (Pipeline.Clip.of (cc0_transform_10 (grid0.coords t) 2) 544 6404).extent 544 := (j 2).isLt
  have hr : 544 * pk t.val + (j 2).val < 6404 := by
    have := lt_of_clip (by rw [i2]; omega) hj2
    rw [i2] at this; omega
  refine (congrArg (fun h => rowScale h) (headA_of_rows hx (iblk4_apply m c t) (iblk5_apply m c t)
    ((cfg0.win 10).xinj (cfg0.grid.coords t) j 2) hr ((cfg0.win 10).xinj (cfg0.grid.coords t) j 3))).trans ?_
  refine congr4 (fun b s h l => rowScale (head (V m c main_arg0) (V m c main_arg1) (V m c main_v1) (V m c main_v7) b s h l))
    (Fin.ext ?_) (Fin.ext ?_) (Fin.ext ?_) (Fin.ext ?_)
  · show t.val / 60 % 6 = cc0_transform_10 (grid0.coords t) 0 * 1 + 1 * (j 0).val; rw [i0]; omega
  · show 544 * pk t.val + (j 2).val = cc0_transform_10 (grid0.coords t) 2 * 544 + 1 * (j 2).val; rw [i2]; omega
  · show t.val % 5 = cc0_transform_10 (grid0.coords t) 1 * 1 + 1 * (j 1).val; rw [i1]; omega
  · show (j 3).val = 0 * 8 + 1 * (j 3).val; omega

end Cuts

/-- The row block filled from the two input blocks has the dequantised rows. -/
theorem rows_xb (c : Dev nD) (t : Fin cfg0.N) (d0 : (cfg0.win 0).block.Idx → Elt Ideal (cfg0.win 0).elt)
    (d1 : (cfg0.win 1).block.Idx → Elt Ideal (cfg0.win 1).elt) :
    RowsAt m c t.val (xbOf ((cfg0.win 0).fill (cfg0.grid.coords t) d0 (iblk m c 0 t)) ((cfg0.win 1).fill (cfg0.grid.coords t) d1 (iblk m c 1 t))) :=
  fun r hr d => congrArg₂ (· * ·) (fill0_apply m c t d0 r hr d) (fill1_apply m c t d1 r hr ⟨d.val / 128, by omega⟩)

/-- The next point, when it is not a first head, has the same rows. -/
theorem rows_next (c : Dev nD) (n : ℕ) (h : n % 5 ≠ 0) (xs : S544x4096.Idx → EReal) (hx : RowsAt m c (n - 1) xs) : RowsAt m c n xs := by
  have e : (n - 1) / 5 = n / 5 := by omega
  have e' : (n - 1) / 60 = n / 60 := by omega
  have eb : pb (n - 1) = pb n := Fin.ext (show (n - 1) / 60 % 6 = n / 60 % 6 by rw [e'])
  have ek : pk (n - 1) = pk n := show (n - 1) / 5 % 12 = n / 5 % 12 by rw [e]
  rw [RowsAt, eb, ek] at hx
  exact hx

end Cert.KernelIdeal.Gen

end
-- ==== Proof.IdealValue.lean ====
/-
  The run of the kernel over the extended reals: at every grid point the body writes the blocks of the four output
  arrays, the dequantised row block being kept from the first head of a row tile to the last. So the program ends with
  the four arrays its region writes at the codes and scales of `GKC`, `GKS`, `GVC`, `GVS`.
-/
module

public import proofs.«01_k».proof.Proof.IdealBodyA
public import proofs.«01_k».proof.Proof.IdealBodyB
public import proofs.«01_k».proof.Proof.IdealCut
public import Idealize.ShloMosaic.Lib.Claim

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- What is kept between points: before the first, buffers at anything; after point `n`, the row block of point `n`'s
    row tile in the first scratch buffer. -/
def PhiS (c : Dev nD) : (n : ℕ) → n ≤ cfg0.N → sProp 𝕄
  | 0, _ => Pipeline.ΦA spec0 c
  | n + 1, _ => iprop(iprop((∃ xs : S544x4096.Idx → EReal, ⌜RowsAt m c n xs⌝ ∗ owns (c : Thread nD τ) scM0_0 fullShare (xs : Vec Ideal S544x4096 .bf16)) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hn : n = 0) : PhiS m c n h = Pipeline.ΦA spec0 c := by
  subst hn; rfl
theorem PhiS_succ (c : Dev nD) (n : ℕ) (hn : n < cfg0.N) : PhiS m c (n + 1) (Nat.succ_le_of_lt hn)
    = iprop(iprop((∃ xs : S544x4096.Idx → EReal, ⌜RowsAt m c n xs⌝ ∗ owns (c : Thread nD τ) scM0_0 fullShare (xs : Vec Ideal S544x4096 .bf16)) ∗ (∃ d, owns (c : Thread nD τ) scM0_1 fullShare d) ∗ (∃ d, owns (c : Thread nD τ) scM0_2 fullShare d)) ∗ (∃ r, prngReg c r)) := rfl
theorem PhiS_pos (c : Dev nD) (n : ℕ) (h : n ≤ cfg0.N) (hn : n ≠ 0) : PhiS m c n h
    = iprop(iprop((∃ xs : S544x4096.Idx → EReal, ⌜RowsAt m c (n - 1) xs⌝ ∗ owns (c : Thread nD τ) scM0_0 fullShare (xs : Vec Ideal S544x4096 .bf16)) ∗ (∃ d, owns (c : Thread nD τ) scM0_1 fullShare d) ∗ (∃ d, owns (c : Thread nD τ) scM0_2 fullShare d)) ∗ (∃ r, prngReg c r)) := by
  cases n with
  | zero => exact absurd rfl hn
  | succ n => exact PhiS_succ m c n h

/-- The proof data: the arrays as the region finds them; each input's staging buffer holding its block after the body
    as before it; each output's the block of its array, inside the array. -/
def dats (_ : Fin 1) (c : Dev nD) : Dat τ (Elt Ideal) Unit ℕ (UR sig nD τ) ℕ cfg0 c where
  A w := V m c (Pipeline.arrRef spec0 w)
  after w t := match w with
    | ⟨0, h⟩ => (cfg0.win ⟨0, h⟩).fill (cfg0.grid.coords t) (Pipeline.Dat.unnamed (cfg := cfg0) ⟨0, h⟩ t) (iblk m c ⟨0, h⟩ t)
    | ⟨1, h⟩ => (cfg0.win ⟨1, h⟩).fill (cfg0.grid.coords t) (Pipeline.Dat.unnamed (cfg := cfg0) ⟨1, h⟩ t) (iblk m c ⟨1, h⟩ t)
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => (cfg0.win ⟨7, h⟩).fill (cfg0.grid.coords t) (Pipeline.Dat.unnamed (cfg := cfg0) ⟨7, h⟩ t) (((cfg0.win ⟨7, h⟩).blk t).view.read (Elt Ideal) (GKC m c))
    | ⟨8, h⟩ => (cfg0.win ⟨8, h⟩).fill (cfg0.grid.coords t) (Pipeline.Dat.unnamed (cfg := cfg0) ⟨8, h⟩ t) (((cfg0.win ⟨8, h⟩).blk t).view.read (Elt Ideal) (GKS m c))
    | ⟨9, h⟩ => (cfg0.win ⟨9, h⟩).fill (cfg0.grid.coords t) (Pipeline.Dat.unnamed (cfg := cfg0) ⟨9, h⟩ t) (((cfg0.win ⟨9, h⟩).blk t).view.read (Elt Ideal) (GVC m c))
    | ⟨10, h⟩ => (cfg0.win ⟨10, h⟩).fill (cfg0.grid.coords t) (Pipeline.Dat.unnamed (cfg := cfg0) ⟨10, h⟩ t) (((cfg0.win ⟨10, h⟩).blk t).view.read (Elt Ideal) (GVS m c))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_succ (c : Dev nD) (t : Fin cfg0.N) : (dats m 0 c).Φ t.succ
    = iprop(iprop((∃ xs : S544x4096.Idx → EReal, ⌜RowsAt m c t.val xs⌝ ∗ owns (c : Thread nD τ) scM0_0 fullShare (xs : Vec Ideal S544x4096 .bf16)) ∗ (∃ d, owns (c : Thread nD τ) scM0_1 fullShare d) ∗ (∃ d, owns (c : Thread nD τ) scM0_2 fullShare d)) ∗ (∃ r, prngReg c r)) := by
  dsimp only [dats]; exact PhiS_succ m c t.val t.isLt

theorem Phi_castSucc (c : Dev nD) (t : Fin cfg0.N) : (dats m 0 c).Φ t.castSucc = PhiS m c t.val (Nat.le_of_lt t.isLt) := by
  dsimp only [dats]; exact Pipeline.Dat.Φ_castSucc (PhiS m c) t

/-- The moved part of what the body leaves in a clipped input's buffer is the block. -/
theorem cut_after_0 (c : Dev nD) (t : Fin cfg0.N) :
    (cfg0.win 0).cut (cfg0.grid.coords t) ((dats m 0 c).after 0 t) = iblk m c 0 t := by
  dsimp only [dats]; exact (cfg0.win 0).cut_fill _ _ _
theorem cut_after_1 (c : Dev nD) (t : Fin cfg0.N) :
    (cfg0.win 1).cut (cfg0.grid.coords t) ((dats m 0 c).after 1 t) = iblk m c 1 t := by
  dsimp only [dats]; exact (cfg0.win 1).cut_fill _ _ _
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- A clipped input's buffer holds its block inside the array and anything past it. -/
theorem before0_0 (c : Dev nD) (t : Fin cfg0.N) (d) :
    (dats m 0 c).before 0 t d = (cfg0.win 0).fill (cfg0.grid.coords t) d (iblk m c 0 t) :=
  ((dats m 0 c).before_in_eq_fetched 0 rfl (fun _ => rfl)
    (fun t t' h => funext fun a => congrArg (fun f => Pipeline.Clip.of (f a) (win0_0.size a) (win0_0.shape.size a)) h)
    (fun t => (cut_after_0 m c t).trans (by unfold Dat.blockOf iblk; rw [A_eq])) t d).trans
    (by unfold Dat.fetched Dat.blockOf iblk; rw [A_eq])
theorem before0_1 (c : Dev nD) (t : Fin cfg0.N) (d) :
    (dats m 0 c).before 1 t d = (cfg0.win 1).fill (cfg0.grid.coords t) d (iblk m c 1 t) :=
  ((dats m 0 c).before_in_eq_fetched 1 rfl (fun _ => rfl)
    (fun t t' h => funext fun a => congrArg (fun f => Pipeline.Clip.of (f a) (win0_1.size a) (win0_1.shape.size a)) h)
    (fun t => (cut_after_1 m c t).trans (by unfold Dat.blockOf iblk; rw [A_eq])) t d).trans
    (by unfold Dat.fetched Dat.blockOf iblk; rw [A_eq])
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem cut_after_7 (c : Dev nD) (t : Fin cfg0.N) :
    (cfg0.win 7).cut (cfg0.grid.coords t) ((dats m 0 c).after 7 t) = ((cfg0.win 7).blk t).view.read (Elt Ideal) (GKC m c) := by
  dsimp only [dats]; exact (cfg0.win 7).cut_fill _ _ _
theorem cut_after_8 (c : Dev nD) (t : Fin cfg0.N) :
    (cfg0.win 8).cut (cfg0.grid.coords t) ((dats m 0 c).after 8 t) = ((cfg0.win 8).blk t).view.read (Elt Ideal) (GKS m c) := by
  dsimp only [dats]; exact (cfg0.win 8).cut_fill _ _ _
theorem cut_after_9 (c : Dev nD) (t : Fin cfg0.N) :
    (cfg0.win 9).cut (cfg0.grid.coords t) ((dats m 0 c).after 9 t) = ((cfg0.win 9).blk t).view.read (Elt Ideal) (GVC m c) := by
  dsimp only [dats]; exact (cfg0.win 9).cut_fill _ _ _
theorem cut_after_10 (c : Dev nD) (t : Fin cfg0.N) :
    (cfg0.win 10).cut (cfg0.grid.coords t) ((dats m 0 c).after 10 t) = ((cfg0.win 10).blk t).view.read (Elt Ideal) (GVS m c) := by
  dsimp only [dats]; exact (cfg0.win 10).cut_fill _ _ _

/-- What the body writes of an output is, inside the array, what is named. -/
theorem written_7 (c : Dev nD) (t : Fin cfg0.N) (xs : S544x4096.Idx → EReal) (hx : RowsAt m c t.val xs) :
    (cfg0.win 7).fill (cfg0.grid.coords t) (outKC xs (iblk m c 2 t) (iblk m c 3 t) (iblk m c 6 t)) ((cfg0.win 7).cut (cfg0.grid.coords t) ((dats m 0 c).after 7 t))
      = outKC xs (iblk m c 2 t) (iblk m c 3 t) (iblk m c 6 t) := by
  rw [cut_after_7, ← cut_KC m c t xs hx]
  exact (cfg0.win 7).fill_cut _ _
theorem written_8 (c : Dev nD) (t : Fin cfg0.N) (xs : S544x4096.Idx → EReal) (hx : RowsAt m c t.val xs) :
    (cfg0.win 8).fill (cfg0.grid.coords t) (outKS xs (iblk m c 2 t) (iblk m c 3 t) (iblk m c 6 t)) ((cfg0.win 8).cut (cfg0.grid.coords t) ((dats m 0 c).after 8 t))
      = outKS xs (iblk m c 2 t) (iblk m c 3 t) (iblk m c 6 t) := by
  rw [cut_after_8, ← cut_KS m c t xs hx]
  exact (cfg0.win 8).fill_cut _ _
theorem written_9 (c : Dev nD) (t : Fin cfg0.N) (xs : S544x4096.Idx → EReal) (hx : RowsAt m c t.val xs) :
    (cfg0.win 9).fill (cfg0.grid.coords t) (outVC xs (iblk m c 4 t) (iblk m c 5 t)) ((cfg0.win 9).cut (cfg0.grid.coords t) ((dats m 0 c).after 9 t))
      = outVC xs (iblk m c 4 t) (iblk m c 5 t) := by
  rw [cut_after_9, ← cut_VC m c t xs hx]
  exact (cfg0.win 9).fill_cut _ _
theorem written_10 (c : Dev nD) (t : Fin cfg0.N) (xs : S544x4096.Idx → EReal) (hx : RowsAt m c t.val xs) :
    (cfg0.win 10).fill (cfg0.grid.coords t) (outVS xs (iblk m c 4 t) (iblk m c 5 t)) ((cfg0.win 10).cut (cfg0.grid.coords t) ((dats m 0 c).after 10 t))
      = outVS xs (iblk m c 4 t) (iblk m c 5 t) := by
  rw [cut_after_10, ← cut_VS m c t xs hx]
  exact (cfg0.win 10).fill_cut _ _

/-- What the body is called with at point `t` beside what is kept between points, the windows one by one, -/
def restPre (c : Dev nD) (t : Fin cfg0.N) : sProp 𝕄 :=
  iprop((dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- with what is kept, -/
def bodyPre (c : Dev nD) (t : Fin cfg0.N) : sProp 𝕄 := iprop((dats m 0 c).Φ t.castSucc ∗ restPre m c t)

/-- and what it returns. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare ((cfg0.win 0).fill (cfg0.grid.coords t) d ((cfg0.win 0).cut (cfg0.grid.coords t) ((dats m 0 c).after 0 t))))
    ∗ (∃ d, owns (c : Thread nD τ) (ms0_1 t) fullShare ((cfg0.win 1).fill (cfg0.grid.coords t) d ((cfg0.win 1).cut (cfg0.grid.coords t) ((dats m 0 c).after 1 t))))
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare ((cfg0.win 7).fill (cfg0.grid.coords t) d ((cfg0.win 7).cut (cfg0.grid.coords t) ((dats m 0 c).after 7 t))))
    ∗ (∃ d, owns (c : Thread nD τ) (ms0_8 t) fullShare ((cfg0.win 8).fill (cfg0.grid.coords t) d ((cfg0.win 8).cut (cfg0.grid.coords t) ((dats m 0 c).after 8 t))))
    ∗ (∃ d, owns (c : Thread nD τ) (ms0_9 t) fullShare ((cfg0.win 9).fill (cfg0.grid.coords t) d ((cfg0.win 9).cut (cfg0.grid.coords t) ((dats m 0 c).after 9 t))))
    ∗ (∃ d, owns (c : Thread nD τ) (ms0_10 t) fullShare ((cfg0.win 10).fill (cfg0.grid.coords t) d ((cfg0.win 10).cut (cfg0.grid.coords t) ((dats m 0 c).after 10 t)))))

set_option maxHeartbeats 9600000 in
/-- The body at a point that is the first head of its row tile: from what it is called with to what it returns. -/
theorem sound_first (c : Dev nD) (t : Fin cfg0.N) (h0 : cond0_0 (grid0.coords t)) :
    iprop(Pipeline.ΦA spec0 c ∗ restPre m c t) ⊢ wp frame (wpE (defs₀ (F := Ideal)) Variants.none c none) Set.univ (bodyAt0 t) (fun _ => bodyPost m c t) := by
  unfold restPre bodyPost bodyAt0
  simp only [before0_0, before0_1, before0_2, before0_3, before0_4, before0_5, before0_6]
  rw [show (dats m 0 c).owesAt () t.succ = (dats m 0 c).owesAt () t.castSucc from rfl,
    after0_2, after0_3, after0_4, after0_5, after0_6, Phi_succ, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_value_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) h0 _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  iintro ⟨H0, H1, H2, H3, H4, H5, H6, H7, H8, H9, H10, HS0, HS1, HS2⟩
  isplitl [HS0 HS1 HS2 Hg]
  · isplitl [HS0 HS1 HS2]
    · isplitl [HS0]
      · iexists (xbOf ((cfg0.win 0).fill (cfg0.grid.coords t) d0 (iblk m c 0 t)) ((cfg0.win 1).fill (cfg0.grid.coords t) d1 (iblk m c 1 t))); isplitr; · ipureintro; exact (rows_xb m c t d0 d1)
        iexact HS0
      isplitl [HS1]; · iexact HS1
      iexact HS2
    iexact Hg
  isplitl [Ho]; · iexact Ho
  isplitl [H0]; · iexists d0; rw [cut_after_0 m c t]; iexact H0
  isplitl [H1]; · iexists d1; rw [cut_after_1 m c t]; iexact H1
  isplitl [H2]; · iexact H2
  isplitl [H3]; · iexact H3
  isplitl [H4]; · iexact H4
  isplitl [H5]; · iexact H5
  isplitl [H6]; · iexact H6
  isplitl [H7]; · iexists (outKC (xbOf ((cfg0.win 0).fill (cfg0.grid.coords t) d0 (iblk m c 0 t)) ((cfg0.win 1).fill (cfg0.grid.coords t) d1 (iblk m c 1 t))) (iblk m c 2 t) (iblk m c 3 t) (iblk m c 6 t)); rw [written_7 m c t _ (rows_xb m c t d0 d1)]; iexact H7
  isplitl [H8]; · iexists (outKS (xbOf ((cfg0.win 0).fill (cfg0.grid.coords t) d0 (iblk m c 0 t)) ((cfg0.win 1).fill (cfg0.grid.coords t) d1 (iblk m c 1 t))) (iblk m c 2 t) (iblk m c 3 t) (iblk m c 6 t)); rw [written_8 m c t _ (rows_xb m c t d0 d1)]; iexact H8
  isplitl [H9]; · iexists (outVC (xbOf ((cfg0.win 0).fill (cfg0.grid.coords t) d0 (iblk m c 0 t)) ((cfg0.win 1).fill (cfg0.grid.coords t) d1 (iblk m c 1 t))) (iblk m c 4 t) (iblk m c 5 t)); rw [written_9 m c t _ (rows_xb m c t d0 d1)]; iexact H9
  iexists (outVS (xbOf ((cfg0.win 0).fill (cfg0.grid.coords t) d0 (iblk m c 0 t)) ((cfg0.win 1).fill (cfg0.grid.coords t) d1 (iblk m c 1 t))) (iblk m c 4 t) (iblk m c 5 t)); rw [written_10 m c t _ (rows_xb m c t d0 d1)]; iexact H10

set_option maxHeartbeats 9600000 in
/-- The body at any other point, from the row block kept. -/
theorem sound_later (c : Dev nD) (t : Fin cfg0.N) (h0 : ¬cond0_0 (grid0.coords t)) (hn : t.val % 5 ≠ 0) :
    iprop(iprop(iprop((∃ xs : S544x4096.Idx → EReal, ⌜RowsAt m c (t.val - 1) xs⌝ ∗ owns (c : Thread nD τ) scM0_0 fullShare (xs : Vec Ideal S544x4096 .bf16)) ∗ (∃ d, owns (c : Thread nD τ) scM0_1 fullShare d) ∗ (∃ d, owns (c : Thread nD τ) scM0_2 fullShare d)) ∗ (∃ r, prngReg c r)) ∗ restPre m c t) ⊢ wp frame (wpE (defs₀ (F := Ideal)) Variants.none c none) Set.univ (bodyAt0 t) (fun _ => bodyPost m c t) := by
  unfold restPre bodyPost bodyAt0
  simp only [before0_0, before0_1, before0_2, before0_3, before0_4, before0_5, before0_6]
  rw [show (dats m 0 c).owesAt () t.succ = (dats m 0 c).owesAt () t.castSucc from rfl,
    after0_2, after0_3, after0_4, after0_5, after0_6, Phi_succ]
  iintro ⟨⟨⟨⟨%xs, %hx', HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hx := rows_next m c t.val hn xs hx'
  iapply (body_value_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) h0 _ _ _ _ _ _ _ xs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  iintro ⟨H0, H1, H2, H3, H4, H5, H6, H7, H8, H9, H10, HS0, HS1, HS2⟩
  isplitl [HS0 HS1 HS2 Hg]
  · isplitl [HS0 HS1 HS2]
    · isplitl [HS0]
      · iexists xs; isplitr; · ipureintro; exact hx
        iexact HS0
      isplitl [HS1]; · iexact HS1
      iexact HS2
    iexact Hg
  isplitl [Ho]; · iexact Ho
  isplitl [H0]; · iexists d0; rw [cut_after_0 m c t]; iexact H0
  isplitl [H1]; · iexists d1; rw [cut_after_1 m c t]; iexact H1
  isplitl [H2]; · iexact H2
  isplitl [H3]; · iexact H3
  isplitl [H4]; · iexact H4
  isplitl [H5]; · iexact H5
  isplitl [H6]; · iexact H6
  isplitl [H7]; · iexists (outKC xs (iblk m c 2 t) (iblk m c 3 t) (iblk m c 6 t)); rw [written_7 m c t _ hx]; iexact H7
  isplitl [H8]; · iexists (outKS xs (iblk m c 2 t) (iblk m c 3 t) (iblk m c 6 t)); rw [written_8 m c t _ hx]; iexact H8
  isplitl [H9]; · iexists (outVC xs (iblk m c 4 t) (iblk m c 5 t)); rw [written_9 m c t _ hx]; iexact H9
  iexists (outVS xs (iblk m c 4 t) (iblk m c 5 t)); rw [written_10 m c t _ hx]; iexact H10

/-- The kept row block forgotten. -/
theorem forget (c : Dev nD) (n : ℕ) :
    (iprop(iprop((∃ xs : S544x4096.Idx → EReal, ⌜RowsAt m c n xs⌝ ∗ owns (c : Thread nD τ) scM0_0 fullShare (xs : Vec Ideal S544x4096 .bf16)) ∗ (∃ d, owns (c : Thread nD τ) scM0_1 fullShare d) ∗ (∃ d, owns (c : Thread nD τ) scM0_2 fullShare d)) ∗ (∃ r, prngReg c r)) : sProp 𝕄)
      ⊢ Pipeline.ΦA spec0 c := by
  rw [PhiA0_eq]
  iintro ⟨⟨⟨%xs, -, HS0⟩, HS1, HS2⟩, Hg⟩
  isplitl [HS0 HS1 HS2]
  · isplitl [HS0]; · iexists _; iexact HS0
    isplitl [HS1]; · iexact HS1
    iexact HS2
  iexact Hg

theorem Phi_out (c : Dev nD) (n : ℕ) (h : n ≤ cfg0.N) : PhiS m c n h ⊢ Pipeline.ΦA spec0 c := by
  by_cases hn : n = 0
  · rw [PhiS_zero m c n h hn]
  · rw [PhiS_pos m c n h hn]; exact forget m c (n - 1)

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre
  rw [Phi_castSucc]
  by_cases h0 : cond0_0 (grid0.coords t)
  · exact BI.Entails.trans (sep_mono_left (Phi_out m c t.val _)) (sound_first m c t h0)
  · have hn : t.val % 5 ≠ 0 := fun h => h0 ((hcond0_0 t).mpr h)
    rw [PhiS_pos m c t.val _ (fun h => hn (by rw [h]))]
    exact sound_later m c t h0 hn

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligationLoose (dats m 0 c) (defs₀ (F := Ideal)) Variants.none () Set.univ := fun t => by
  rw [bigSep_W0, bigSep_W0, defs₀_row]
  exact triple_restated (sound_body m c t) rfl .rfl fun _ => .rfl

/-- What the launch hands the region is the invariant before the first point, and the invariant gives it back. -/
theorem hin (c : Dev nD) : Pipeline.ΦA spec0 c ⊢ (dats m 0 c).Φ 0 := by
  rw [show (dats m 0 c).Φ 0 = PhiS m c 0 (Nat.zero_le _) from rfl, PhiS_zero m c 0 _ rfl]
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact Phi_out m c _ _

-- `θ_run_frame_around_track`'s implicit arguments are found by unifying its conclusion with this one, which takes unfolding plain
-- definitions in a metavariable's type
set_option backward.isDefEq.respectTransparency.types false in
set_option maxHeartbeats 800000 in
/-- The run: the arrays at their contents after the last point, every other buffer at what the host lines after the region leave. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Val

end
-- ==== Proof.IdealFinal.lean ====
/-
  The four arrays the kernel's region writes, after its last point: every index lies in the block of one grid point, so
  each array ends at the codes and scales of `GKC`, `GKS`, `GVC`, `GVS`.
-/
module

public import proofs.«01_k».proof.Proof.IdealValue

@[expose] public section

set_option maxRecDepth 16384

noncomputable section

namespace Cert.KernelIdeal.Val

open Cert.KernelIdeal.Gen
open Idealize.ShloMosaic Idealize.ShloMosaic.TcCoe
open Idealize.SL Idealize.SL.Sem

variable (m : (ℓ : Loc nD τ sig) → Buf (Elt Ideal) ℓ)

/-- The grid point that writes batch `b`, row `s`, head `h`. -/
theorem point (b : Fin 6) (s : Fin 6404) (h : Fin 5) : ∃ t : Fin cfg0.N, t.val / 60 % 6 = b.val ∧ pk t.val = s.val / 544 ∧ t.val % 5 = h.val := by
  have hb := b.isLt
  have hs := s.isLt
  have hh := h.isLt
  have hN : cfg0.N = 360 := N_0
  refine ⟨⟨60 * b.val + 5 * (s.val / 544) + h.val, by omega⟩, ?_, ?_, ?_⟩
  · dsimp only; omega
  · unfold pk; dsimp only; omega
  · dsimp only; omega

/-- An index on an axis whose block is one element. -/
theorem in_one {ix d y : ℕ} (h : ix = y) (hd : y < d) : ix * 1 ≤ y ∧ y < ix * 1 + (Pipeline.Clip.of ix 1 d).extent 1 := by
  subst h
  have := clip_lt (ix := ix) (k := 1) (d := d) (r := 0) (by omega) (by omega)
  omega

/-- An index on the row axis. -/
theorem in_tile {ix d y : ℕ} (h : ix = y / 544) (hd : y < d) : ix * 544 ≤ y ∧ y < ix * 544 + (Pipeline.Clip.of ix 544 d).extent 544 := by
  subst h
  have := clip_lt (ix := y / 544) (k := 544) (d := d) (r := y % 544) (by omega) (by omega)
  omega

/-- An index on an axis the block covers. -/
theorem in_all {d y : ℕ} (hd : y < d) : 0 * d ≤ y ∧ y < 0 * d + (Pipeline.Clip.of 0 d d).extent d := by
  have := clip_lt (ix := 0) (k := d) (d := d) (r := y) hd (by omega)
  omega

theorem cover_7 (i : S6x6404x5x8x128.Idx) : ∃ t : Fin cfg0.N, (cfg0.win 7).flush t = true ∧ i ∈ ((cfg0.win 7).blk t).view.set := by
  obtain ⟨t, h0, h1, h2⟩ := point (i 0) (i 1) (i 2)
  refine ⟨t, flush0_7 t, ?_⟩
  show i ∈ ((View.whole main_v8_0).slice (win0_7.rect t)).set
  rw [View.set_slice_whole, Rect.mem_set_unit]
  intro a
  match a with
  | ⟨0, _⟩ => exact in_one ((Gen.ix7_0 t).trans h0) (i 0).isLt
  | ⟨1, _⟩ => exact in_tile ((Gen.ix7_1 t).trans h1) (i 1).isLt
  | ⟨2, _⟩ => exact in_one ((Gen.ix7_2 t).trans h2) (i 2).isLt
  | ⟨3, _⟩ => exact in_all (i 3).isLt
  | ⟨4, _⟩ => exact in_all (i 4).isLt

theorem cover_9 (i : S6x6404x5x8x128.Idx) : ∃ t : Fin cfg0.N, (cfg0.win 9).flush t = true ∧ i ∈ ((cfg0.win 9).blk t).view.set := by
  obtain ⟨t, h0, h1, h2⟩ := point (i 0) (i 1) (i 2)
  refine ⟨t, flush0_9 t, ?_⟩
  show i ∈ ((View.whole main_v8_2).slice (win0_9.rect t)).set
  rw [View.set_slice_whole, Rect.mem_set_unit]
  intro a
  match a with
  | ⟨0, _⟩ => exact in_one ((Gen.ix9_0 t).trans h0) (i 0).isLt
  | ⟨1, _⟩ => exact in_tile ((Gen.ix9_1 t).trans h1) (i 1).isLt
  | ⟨2, _⟩ => exact in_one ((Gen.ix9_2 t).trans h2) (i 2).isLt
  | ⟨3, _⟩ => exact in_all (i 3).isLt
  | ⟨4, _⟩ => exact in_all (i 4).isLt

theorem cover_8 (i : S6x5x6404x8.Idx) : ∃ t : Fin cfg0.N, (cfg0.win 8).flush t = true ∧ i ∈ ((cfg0.win 8).blk t).view.set := by
  obtain ⟨t, h0, h1, h2⟩ := point (i 0) (i 2) (i 1)
  refine ⟨t, flush0_8 t, ?_⟩
  show i ∈ ((View.whole main_v8_1).slice (win0_8.rect t)).set
  rw [View.set_slice_whole, Rect.mem_set_unit]
  intro a
  match a with
  | ⟨0, _⟩ => exact in_one ((Gen.ix8_0 t).trans h0) (i 0).isLt
  | ⟨1, _⟩ => exact in_one ((Gen.ix8_1 t).trans h2) (i 1).isLt
  | ⟨2, _⟩ => exact in_tile ((Gen.ix8_2 t).trans h1) (i 2).isLt
  | ⟨3, _⟩ => exact in_all (i 3).isLt

theorem cover_10 (i : S6x5x6404x8.Idx) : ∃ t : Fin cfg0.N, (cfg0.win 10).flush t = true ∧ i ∈ ((cfg0.win 10).blk t).view.set := by
  obtain ⟨t, h0, h1, h2⟩ := point (i 0) (i 2) (i 1)
  refine ⟨t, flush0_10 t, ?_⟩
  show i ∈ ((View.whole main_v8_3).slice (win0_10.rect t)).set
  rw [View.set_slice_whole, Rect.mem_set_unit]
  intro a
  match a with
  | ⟨0, _⟩ => exact in_one ((Gen.ix10_0 t).trans h0) (i 0).isLt
  | ⟨1, _⟩ => exact in_one ((Gen.ix10_1 t).trans h2) (i 1).isLt
  | ⟨2, _⟩ => exact in_tile ((Gen.ix10_2 t).trans h1) (i 2).isLt
  | ⟨3, _⟩ => exact in_all (i 3).isLt

/-- The array of k codes ends at the codes named, -/
theorem final_7 (c : Dev nD) : (dats m 0 c).arrAt 7 cfg0.N = GKC m c :=
  (dats m 0 c).arrAt_eq_of_cover 7 (GKC m c) (fun t _ => cut_after_7 m c t) cover_7
/-- that of k scales at the scales named, -/
theorem final_8 (c : Dev nD) : (dats m 0 c).arrAt 8 cfg0.N = GKS m c :=
  (dats m 0 c).arrAt_eq_of_cover 8 (GKS m c) (fun t _ => cut_after_8 m c t) cover_8
/-- that of v codes, -/
theorem final_9 (c : Dev nD) : (dats m 0 c).arrAt 9 cfg0.N = GVC m c :=
  (dats m 0 c).arrAt_eq_of_cover 9 (GVC m c) (fun t _ => cut_after_9 m c t) cover_9
/-- and that of v scales. -/
theorem final_10 (c : Dev nD) : (dats m 0 c).arrAt 10 cfg0.N = GVS m c :=
  (dats m 0 c).arrAt_eq_of_cover 10 (GVS m c) (fun t _ => cut_after_10 m c t) cover_10

end Cert.KernelIdeal.Val

end
-- ==== Proof.Meaning.lean ====
/-
  What both programs compute, over the extended reals: a head's projection of the dequantised activations, the
  normalised keys, and the codes and scales of a row, as functions of the seven arguments.
-/
module

public import proofs.«01_k».proof.Proof.Quant

@[expose] public section

noncomputable section

namespace Cert.Meaning

open Idealize.ShloMosaic Cert.Quant

/-- Row `(b, s)` of the activations times head `h` of layer `l` of the weights, both dequantised: a row of 128. -/
def proj (X : (a : Fin 6) → (b : Fin 6404) → (c : Fin 4096) → EReal) (SX : Fin 6 → Fin 6404 → Fin 32 → EReal)
    (W : Fin 8 → Fin 4096 → Fin 5 → Fin 128 → EReal) (S : Fin 8 → Fin 32 → Fin 5 → EReal)
    (l : Fin 8) (b : Fin 6) (s : Fin 6404) (h : Fin 5) (e : Fin 128) : EReal :=
  ∑ d : Fin 4096, (X b s d * SX b s ⟨d.val / 128, by omega⟩) * (W l d h e * S l ⟨d.val / 128, by omega⟩ h)

/-- The same row normalised by its root mean square and multiplied by the layer's weights. -/
def keys (X : Fin 6 → Fin 6404 → Fin 4096 → EReal) (SX : Fin 6 → Fin 6404 → Fin 32 → EReal)
    (W : Fin 8 → Fin 4096 → Fin 5 → Fin 128 → EReal) (S : Fin 8 → Fin 32 → Fin 5 → EReal) (G : Fin 8 → Fin 128 → EReal)
    (l : Fin 8) (b : Fin 6) (s : Fin 6404) (h : Fin 5) : Fin 128 → EReal :=
  rowNorm (proj X SX W S l b s h) (G l)

end Cert.Meaning
end
-- ==== Proof.IdealResults.lean ====
/-
  The kernel's four results as functions of its arguments: the weights reach the region transposed, and the region's
  arrays reach the results transposed.
-/
module

public import proofs.«01_k».proof.Proof.IdealFinal
public import proofs.«01_k».proof.Proof.Meaning
public import Idealize.ShloMosaic.Lib.StableHlo.Run
public import Idealize.ShloMosaic.Lib.Pointwise
public import Idealize.ShloMosaic.Lib.Claim

@[expose] public section

set_option maxRecDepth 16384

noncomputable section

namespace Cert.KernelIdeal.Val

open Cert.KernelIdeal.Gen
open Idealize.ShloMosaic Idealize.ShloMosaic.TcCoe
open Idealize.SL Idealize.SL.Sem Idealize.ShloMosaic.StableHlo
open Cert.Quant Cert.Meaning

section Host
variable {F : FTy → Type} [FloatOps F]
variable (m : (ℓ : Loc nD τ sig) → Buf (Elt F) ℓ)

/-- The weights the region reads: heads before input features. -/
theorem V_main_v0 (c : Dev nD) : V m c main_v0 = transpose S8x5x4096x128 [0, 2, 1, 3] (m ((c : Thread nD τ).loc main_arg2)) transposes_S8x4096x5x128_S8x5x4096x128_0_2_1_3 := by
  show after (List.flatten [hostOps0]) (fun b => m (c, b)) _ = _
  simp only [hostOps0, List.flatten_cons, List.flatten_nil, List.append_nil]
  after_results_simp <;> rfl

theorem V_main_v1 (c : Dev nD) : V m c main_v1 = transpose S8x5x4096x128 [0, 2, 1, 3] (m ((c : Thread nD τ).loc main_arg4)) transposes_S8x4096x5x128_S8x5x4096x128_0_2_1_3 := by
  show after (List.flatten [hostOps0]) (fun b => m (c, b)) _ = _
  simp only [hostOps0, List.flatten_cons, List.flatten_nil, List.append_nil]
  after_results_simp <;> rfl

/-- The weights' scales the region reads: heads first. -/
theorem V_main_v5 (c : Dev nD) : V m c main_v5 = shapeCast S5x8x1x32 (transpose S5x8x32 [2, 0, 1] (m ((c : Thread nD τ).loc main_arg3)) transposes_S8x32x5_S5x8x32_2_0_1) shapeCasts_S5x8x32_S5x8x1x32 := by
  show after (List.flatten [hostOps0]) (fun b => m (c, b)) _ = _
  simp only [hostOps0, List.flatten_cons, List.flatten_nil, List.append_nil]
  after_results_simp <;> rfl

theorem V_main_v7 (c : Dev nD) : V m c main_v7 = shapeCast S5x8x1x32 (transpose S5x8x32 [2, 0, 1] (m ((c : Thread nD τ).loc main_arg5)) transposes_S8x32x5_S5x8x32_2_0_1) shapeCasts_S5x8x32_S5x8x1x32 := by
  show after (List.flatten [hostOps0]) (fun b => m (c, b)) _ = _
  simp only [hostOps0, List.flatten_cons, List.flatten_nil, List.append_nil]
  after_results_simp <;> rfl

/-- The lines after the region transpose its four arrays. -/
theorem tail_v9 (V : Valuation τ sig (Elt F)) : after (List.flatten [hostOps1]) V (Proc.devRef .tc main_v9) =
    transpose S8x6x6404x5x128 [3, 0, 1, 2, 4] (V (Proc.devRef .tc main_v8_0)) transposes_S6x6404x5x8x128_S8x6x6404x5x128_3_0_1_2_4 := by
  simp only [hostOps1, List.flatten_cons, List.flatten_nil, List.append_nil]
  after_results_simp <;> rfl
theorem tail_v10 (V : Valuation τ sig (Elt F)) : after (List.flatten [hostOps1]) V (Proc.devRef .tc main_v10) =
    transpose S8x6x6404x5x128 [3, 0, 1, 2, 4] (V (Proc.devRef .tc main_v8_2)) transposes_S6x6404x5x8x128_S8x6x6404x5x128_3_0_1_2_4 := by
  simp only [hostOps1, List.flatten_cons, List.flatten_nil, List.append_nil]
  after_results_simp <;> rfl
theorem tail_v11 (V : Valuation τ sig (Elt F)) : after (List.flatten [hostOps1]) V (Proc.devRef .tc main_v11) =
    transpose S8x6x6404x5 [3, 0, 2, 1] (V (Proc.devRef .tc main_v8_1)) transposes_S6x5x6404x8_S8x6x6404x5_3_0_2_1 := by
  simp only [hostOps1, List.flatten_cons, List.flatten_nil, List.append_nil]
  after_results_simp <;> rfl
theorem tail_v12 (V : Valuation τ sig (Elt F)) : after (List.flatten [hostOps1]) V (Proc.devRef .tc main_v12) =
    transpose S8x6x6404x5 [3, 0, 2, 1] (V (Proc.devRef .tc main_v8_3)) transposes_S6x5x6404x8_S8x6x6404x5_3_0_2_1 := by
  simp only [hostOps1, List.flatten_cons, List.flatten_nil, List.append_nil]
  after_results_simp <;> rfl

end Host

section Read

theorem tr_codes (G : S6x6404x5x8x128.Idx → EReal) (l : Fin 8) (b : Fin 6) (s : Fin 6404) (h : Fin 5) (e : Fin 128) :
    transpose S8x6x6404x5x128 [3, 0, 1, 2, 4] G transposes_S6x6404x5x8x128_S8x6x6404x5x128_3_0_1_2_4 (ix5 l b s h e) = G (ix5 b s h l e) := by
  pointwise
theorem tr_scales (G : S6x5x6404x8.Idx → EReal) (l : Fin 8) (b : Fin 6) (s : Fin 6404) (h : Fin 5) :
    transpose S8x6x6404x5 [3, 0, 2, 1] G transposes_S6x5x6404x8_S8x6x6404x5_3_0_2_1 (ix4 l b s h) = G (ix4 b h s l) := by
  pointwise
theorem tr_w (W : S8x4096x5x128.Idx → EReal) (l : Fin 8) (d : Fin 4096) (h : Fin 5) (e : Fin 128) :
    transpose S8x5x4096x128 [0, 2, 1, 3] W transposes_S8x4096x5x128_S8x5x4096x128_0_2_1_3 (ix4 l h d e) = W (ix4 l d h e) := by
  pointwise
theorem tr_s (S : S8x32x5.Idx → EReal) (l : Fin 8) (j : Fin 32) (h : Fin 5) :
    shapeCast S5x8x1x32 (transpose S5x8x32 [2, 0, 1] S transposes_S8x32x5_S5x8x32_2_0_1) shapeCasts_S5x8x32_S5x8x1x32 (ix4 h l 0 j) = S (ix3 l j h) := by
  pointwise

variable (m : (ℓ : Loc nD τ sig) → Buf (Elt Ideal) ℓ) (ρ : Dev nD → PrngReg)

/-- The arguments read by coordinates. -/
def X (c : Dev nD) : Fin 6 → Fin 6404 → Fin 4096 → EReal := fun b s d => (m ((c.tc : Thread nD τ).loc main_arg0) : S6x6404x4096.Idx → EReal) (ix3 b s d)
def SX (c : Dev nD) : Fin 6 → Fin 6404 → Fin 32 → EReal := fun b s j => (m ((c.tc : Thread nD τ).loc main_arg1) : S6x6404x32.Idx → EReal) (ix3 b s j)
def WK (c : Dev nD) : Fin 8 → Fin 4096 → Fin 5 → Fin 128 → EReal := fun l d h e => (m ((c.tc : Thread nD τ).loc main_arg2) : S8x4096x5x128.Idx → EReal) (ix4 l d h e)
def SK (c : Dev nD) : Fin 8 → Fin 32 → Fin 5 → EReal := fun l j h => (m ((c.tc : Thread nD τ).loc main_arg3) : S8x32x5.Idx → EReal) (ix3 l j h)
def WV (c : Dev nD) : Fin 8 → Fin 4096 → Fin 5 → Fin 128 → EReal := fun l d h e => (m ((c.tc : Thread nD τ).loc main_arg4) : S8x4096x5x128.Idx → EReal) (ix4 l d h e)
def SV (c : Dev nD) : Fin 8 → Fin 32 → Fin 5 → EReal := fun l j h => (m ((c.tc : Thread nD τ).loc main_arg5) : S8x32x5.Idx → EReal) (ix3 l j h)
def GK (c : Dev nD) : Fin 8 → Fin 128 → EReal := fun l e => (m ((c.tc : Thread nD τ).loc main_arg6) : S8x128.Idx → EReal) (ix2 l e)

/-- A head of the kernel is the projection. -/
theorem head_eq (A : S6x6404x4096.Idx → EReal) (B : S6x6404x32.Idx → EReal) (W : S8x4096x5x128.Idx → EReal) (S : S8x32x5.Idx → EReal)
    (l : Fin 8) (b : Fin 6) (s : Fin 6404) (h : Fin 5) :
    head A B (transpose S8x5x4096x128 [0, 2, 1, 3] W transposes_S8x4096x5x128_S8x5x4096x128_0_2_1_3)
      (shapeCast S5x8x1x32 (transpose S5x8x32 [2, 0, 1] S transposes_S8x32x5_S5x8x32_2_0_1) shapeCasts_S5x8x32_S5x8x1x32) b s h l =
    proj (fun b s d => A (ix3 b s d)) (fun b s j => B (ix3 b s j)) (fun l d h e => W (ix4 l d h e)) (fun l j h => S (ix3 l j h)) l b s h := by
  funext e
  unfold head proj xrow
  refine Finset.sum_congr rfl fun d _ => ?_
  rw [tr_w, tr_s]

/-- The keys' codes, -/
def kCodes (c : Dev nD) : S8x6x6404x5x128.Idx → EReal :=
  fun i => rowCode (keys (X m c) (SX m c) (WK m c) (SK m c) (GK m c) (i 0) (i 1) (i 2) (i 3)) (i 4)
/-- their scales, -/
def kScales (c : Dev nD) : S8x6x6404x5.Idx → EReal :=
  fun i => rowScale (keys (X m c) (SX m c) (WK m c) (SK m c) (GK m c) (i 0) (i 1) (i 2) (i 3))
/-- the values' codes, -/
def vCodes (c : Dev nD) : S8x6x6404x5x128.Idx → EReal :=
  fun i => rowCode (proj (X m c) (SX m c) (WV m c) (SV m c) (i 0) (i 1) (i 2) (i 3)) (i 4)
/-- and theirs. -/
def vScales (c : Dev nD) : S8x6x6404x5.Idx → EReal :=
  fun i => rowScale (proj (X m c) (SX m c) (WV m c) (SV m c) (i 0) (i 1) (i 2) (i 3))

theorem headK_eq (c : Dev nD) (l : Fin 8) (b : Fin 6) (s : Fin 6404) (h : Fin 5) :
    headG (V m c main_arg0) (V m c main_arg1) (V m c main_v0) (V m c main_v5) (V m c main_arg6) b s h l =
      keys (X m c) (SX m c) (WK m c) (SK m c) (GK m c) l b s h := by
  rw [V_main_arg0, V_main_arg1, V_main_arg6, V_main_v0, V_main_v5]
  funext e
  unfold headG keys
  exact congrArg (fun z => rowNorm z (GK m c l) e) (head_eq _ _ _ _ l b s h)

theorem headV_eq (c : Dev nD) (l : Fin 8) (b : Fin 6) (s : Fin 6404) (h : Fin 5) :
    head (V m c main_arg0) (V m c main_arg1) (V m c main_v1) (V m c main_v7) b s h l =
      proj (X m c) (SX m c) (WV m c) (SV m c) l b s h := by
  rw [V_main_arg0, V_main_arg1, V_main_v1, V_main_v7]
  exact head_eq _ _ _ _ l b s h

theorem tail_kCodes (c : Dev nD) : Pipeline.afterTail₀ cfgs (dats m) 0 (V0 m) [hostOps1] c main_v9 = kCodes m c := by
  unfold Pipeline.afterTail₀
  refine (tail_v9 _).trans ?_
  refine (congrArg (fun z => transpose S8x6x6404x5x128 _ z _) ((Pipeline.withArrays_arr _ launch0.win.arr_inj c _ _ 7).trans (final_7 m c))).trans ?_
  funext i
  obtain ⟨l, b, s, h, e, rfl⟩ : ∃ l b s h e, i = ix5 l b s h e := ⟨_, _, _, _, _, eq_ix5 i⟩
  refine (tr_codes _ l b s h e).trans ?_
  exact congrArg (fun z => rowCode z e) (headK_eq m c l b s h)

theorem tail_kScales (c : Dev nD) : Pipeline.afterTail₀ cfgs (dats m) 0 (V0 m) [hostOps1] c main_v11 = kScales m c := by
  unfold Pipeline.afterTail₀
  refine (tail_v11 _).trans ?_
  refine (congrArg (fun z => transpose S8x6x6404x5 _ z _) ((Pipeline.withArrays_arr _ launch0.win.arr_inj c _ _ 8).trans (final_8 m c))).trans ?_
  funext i
  obtain ⟨l, b, s, h, rfl⟩ : ∃ l b s h, i = ix4 l b s h := ⟨_, _, _, _, eq_ix4 i⟩
  refine (tr_scales _ l b s h).trans ?_
  exact congrArg rowScale (headK_eq m c l b s h)

theorem tail_vCodes (c : Dev nD) : Pipeline.afterTail₀ cfgs (dats m) 0 (V0 m) [hostOps1] c main_v10 = vCodes m c := by
  unfold Pipeline.afterTail₀
  refine (tail_v10 _).trans ?_
  refine (congrArg (fun z => transpose S8x6x6404x5x128 _ z _) ((Pipeline.withArrays_arr _ launch0.win.arr_inj c _ _ 9).trans (final_9 m c))).trans ?_
  funext i
  obtain ⟨l, b, s, h, e, rfl⟩ : ∃ l b s h e, i = ix5 l b s h e := ⟨_, _, _, _, _, eq_ix5 i⟩
  refine (tr_codes _ l b s h e).trans ?_
  exact congrArg (fun z => rowCode z e) (headV_eq m c l b s h)

theorem tail_vScales (c : Dev nD) : Pipeline.afterTail₀ cfgs (dats m) 0 (V0 m) [hostOps1] c main_v12 = vScales m c := by
  unfold Pipeline.afterTail₀
  refine (tail_v12 _).trans ?_
  refine (congrArg (fun z => transpose S8x6x6404x5 _ z _) ((Pipeline.withArrays_arr _ launch0.win.arr_inj c _ _ 10).trans (final_10 m c))).trans ?_
  funext i
  obtain ⟨l, b, s, h, rfl⟩ : ∃ l b s h, i = ix4 l b s h := ⟨_, _, _, _, eq_ix4 i⟩
  refine (tr_scales _ l b s h).trans ?_
  exact congrArg rowScale (headV_eq m c l b s h)

/-- The kernel terminates with the four results at what the two programs mean, and its arguments unchanged. -/
theorem run_results : θ_run defs (onTc (τ := τ) (main (F := Ideal))) ⟨m, fun _ => 0, ρ⟩ (fun r => ∀ c : Dev nD,
      r.2.mem ((c.tc : Thread nD τ).loc main_v9) = kCodes m c
      ∧ r.2.mem ((c.tc : Thread nD τ).loc main_v11) = kScales m c
      ∧ r.2.mem ((c.tc : Thread nD τ).loc main_v10) = vCodes m c
      ∧ r.2.mem ((c.tc : Thread nD τ).loc main_v12) = vScales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v9 (Pipeline.mem_restRefs_of main_v9 (by decide) (by decide))).trans (tail_kCodes m c),
     ((h c).2 main_v11 (Pipeline.mem_restRefs_of main_v11 (by decide) (by decide))).trans (tail_kScales m c),
     ((h c).2 main_v10 (Pipeline.mem_restRefs_of main_v10 (by decide) (by decide))).trans (tail_vCodes m c),
     ((h c).2 main_v12 (Pipeline.mem_restRefs_of main_v12 (by decide) (by decide))).trans (tail_vScales m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).1 6).trans (((dats m 0 c).arrAt_in 6 rfl _).trans ((A_eq m c 6).trans (V_main_arg6 m c)))⟩) (run_main m ρ)

end Read

end Cert.KernelIdeal.Val
end
-- ==== Proof.RefRun.lean ====
/-
  The reference's run: its four results as plain terms of what it finds in its arguments and in the three arrays its
  first call writes (the codes widened). The host operations are read segment by segment.
-/
module

public import proofs.«01_k».proof.Proof.Gen.ReferenceIdeal.Frame
public import Idealize.ShloMosaic.Lib.StableHlo.Run

@[expose] public section

set_option maxRecDepth 16384

noncomputable section

namespace Cert.ReferenceIdeal.Ref

open Cert.ReferenceIdeal Cert.ReferenceIdeal.Gen
open Idealize.ShloMosaic Idealize.ShloMosaic.TcCoe Idealize.SL.Sem Idealize.ShloMosaic.StableHlo

variable {F : FTy → Type} [FloatOps F]

/-- The dequantised activations. -/
def xbV (x : FVec F S6x6404x4096 .bf16) (xs : FVec F S6x6404x32 .f32) : FVec F S6x6404x4096 .bf16 :=
  shapeCast S6x6404x4096 (mulf (shapeCast S6x6404x32x128 x shapeCasts_S6x6404x4096_S6x6404x32x128)
    (broadcastInDim S6x6404x32x128 ![0, 1, 2, 3] bcast_S6x6404x32x1_S6x6404x32x128_0_1_2_3
      (broadcastInDim S6x6404x32x1 ![0, 1, 2] bcast_S6x6404x32_S6x6404x32x1_0_1_2 (truncf .bf16 xs bitsLt_bf16_f32)))) shapeCasts_S6x6404x32x128_S6x6404x4096

/-- The dequantised weights. -/
def wV (w : FVec F S8x4096x5x128 .bf16) (ws : FVec F S8x32x5 .f32) : FVec F S8x4096x5x128 .bf16 :=
  shapeCast S8x4096x5x128 (mulf (shapeCast S8x32x128x5x128 w shapeCasts_S8x4096x5x128_S8x32x128x5x128)
    (broadcastInDim S8x32x128x5x128 ![0, 1, 2, 3, 4] bcast_S8x32x1x5x1_S8x32x128x5x128_0_1_2_3_4
      (broadcastInDim S8x32x1x5x1 ![0, 1, 3] bcast_S8x32x5_S8x32x1x5x1_0_1_3 (truncf .bf16 ws bitsLt_bf16_f32)))) shapeCasts_S8x32x128x5x128_S8x4096x5x128

/-- The projection of all rows by all layers' weights. -/
def projV (x : FVec F S6x6404x4096 .bf16) (w : FVec F S8x4096x5x128 .bf16) : FVec F S8x6x6404x5x128 .f32 :=
  transpose S8x6x6404x5x128 [0, 3, 4, 1, 2] (Host.dotGeneral (F := F) dot_S8x4096x5x128_S6x6404x4096_S8x5x128x6x6404_1_2_023_01_n_n none w x) transposes_S8x5x128x6x6404_S8x6x6404x5x128_0_3_4_1_2

/-- The rows normalised. -/
def normV (y : FVec F S8x6x6404x5x128 .f32) (g : FVec F S8x128 .f32) : FVec F S8x6x6404x5x128 .f32 :=
  mulf (mulf y (broadcastInDim S8x6x6404x5x128 ![0, 1, 2, 3, 4] bcast_S8x6x6404x5x1_S8x6x6404x5x128_0_1_2_3_4
    (Host.rsqrt (addf (Host.divf (broadcastInDim S8x6x6404x5x1 ![0, 1, 2, 3] bcast_S8x6x6404x5_S8x6x6404x5x1_0_1_2_3
      (Host.reduceAdd (mulf y y) (constant S_ .f32 0x00000000#32) reducesTo_S8x6x6404x5x128_S8x6x6404x5_d4 h_S_))
      (broadcastInDim S8x6x6404x5x1 ![] bcast_S_S8x6x6404x5x1 (constant S_ .f32 0x43000000#32)))
      (broadcastInDim S8x6x6404x5x1 ![] bcast_S_S8x6x6404x5x1 (constant S_ .f32 0x3727C5AC#32))))))
    (broadcastInDim S8x6x6404x5x128 ![0, 1, 2, 3, 4] bcast_S8x1x1x1x128_S8x6x6404x5x128_0_1_2_3_4
      (broadcastInDim S8x1x1x1x128 ![0, 4] bcast_S8x128_S8x1x1x1x128_0_4 g))

/-- Each row's largest absolute value over 448. -/
def ampV (y : FVec F S8x6x6404x5x128 .f32) : FVec F S8x6x6404x5 .f32 :=
  mulf (Host.reduce FloatOps.maximumf (Host.absf y) (constant S_ .f32 0xFF800000#32) reducesTo_S8x6x6404x5x128_S8x6x6404x5_d4 h_S_)
    (broadcastInDim S8x6x6404x5 ![] bcast_S_S8x6x6404x5 (constant S_ .f32 0x3B124925#32))

/-- The powers of two. -/
def powV : FVec F S252 .f32 :=
  Host.powf (broadcastInDim S252 ![] bcast_S_S252 (constant S_ .f32 0x40000000#32))
    (sitofp .f32 (addi (broadcastInDim S252 ![] bcast_S_S252 (constantI S_ 32 4294967170#32)) (iotaInDim S252 32 0)))

/-- Which powers are not above. -/
def leV (a : FVec F S8x6x6404x5 .f32) (p : FVec F S252 .f32) : IVec S8x6x6404x5x252 1 :=
  cmpf .ole (broadcastInDim S8x6x6404x5x252 ![0, 1, 2, 3, 4] bcast_S1x1x1x1x252_S8x6x6404x5x252_0_1_2_3_4
      (broadcastInDim S1x1x1x1x252 ![4] bcast_S252_S1x1x1x1x252_4 p))
    (broadcastInDim S8x6x6404x5x252 ![0, 1, 2, 3, 4] bcast_S8x6x6404x5x1_S8x6x6404x5x252_0_1_2_3_4
      (broadcastInDim S8x6x6404x5x1 ![0, 1, 2, 3] bcast_S8x6x6404x5_S8x6x6404x5x1_0_1_2_3 a))

/-- The largest power not above. -/
def belowV (a : FVec F S8x6x6404x5 .f32) (p : FVec F S252 .f32) : FVec F S8x6x6404x5 .f32 :=
  Host.reduce FloatOps.maximumf (select (leV a p) (broadcastInDim S8x6x6404x5x252 ![4] bcast_S252_S8x6x6404x5x252_4 p)
    (broadcastInDim S8x6x6404x5x252 ![] bcast_S_S8x6x6404x5x252 (id (constant S_ .f32 0x00000000#32))))
    (constant S_ .f32 0xFF800000#32) reducesTo_S8x6x6404x5x252_S8x6x6404x5_d4 h_S_

/-- The scale. -/
def scaleV (b : FVec F S8x6x6404x5 .f32) : FVec F S8x6x6404x5 .f32 :=
  select (cmpf .oeq b (broadcastInDim S8x6x6404x5 ![] bcast_S_S8x6x6404x5 (constant S_ .f32 0x00000000#32)))
    (broadcastInDim S8x6x6404x5 ![] bcast_S_S8x6x6404x5 (id (constant S_ .f32 0x3F800000#32)))
    (mulf (broadcastInDim S8x6x6404x5 ![] bcast_S_S8x6x6404x5 (constant S_ .f32 0x40000000#32)) b)

/-- The rows over their scales. -/
def overV (y : FVec F S8x6x6404x5x128 .f32) (s : FVec F S8x6x6404x5 .f32) : FVec F S8x6x6404x5x128 .f32 :=
  mulf y (broadcastInDim S8x6x6404x5x128 ![0, 1, 2, 3, 4] bcast_S8x6x6404x5x1_S8x6x6404x5x128_0_1_2_3_4
    (broadcastInDim S8x6x6404x5x1 ![0, 1, 2, 3] bcast_S8x6x6404x5_S8x6x6404x5x1_0_1_2_3
      (Host.divf (broadcastInDim S8x6x6404x5 ![] bcast_S_S8x6x6404x5 (constant S_ .f32 0x3F800000#32)) s)))

/-- Clipped. -/
def clipV (z : FVec F S8x6x6404x5x128 .f32) : FVec F S8x6x6404x5x128 .f32 :=
  minimumf (broadcastInDim S8x6x6404x5x128 ![] bcast_S_S8x6x6404x5x128 (id (constant S_ .f32 0x43E00000#32)))
    (maximumf (broadcastInDim S8x6x6404x5x128 ![] bcast_S_S8x6x6404x5x128 (id (constant S_ .f32 0xC3E00000#32))) z)

/-- The scales of all rows. -/
def scalesV (y : FVec F S8x6x6404x5x128 .f32) : FVec F S8x6x6404x5 .f32 := scaleV (belowV (ampV y) powV)
/-- The codes of all rows. -/
def codesV (y : FVec F S8x6x6404x5x128 .f32) : FVec F S8x6x6404x5x128 .fp8e4m3 := Host.convertf .fp8e4m3 (clipV (overV y (scalesV y)))

/-- The normalised k rows and the v rows from a state of the buffers. -/
def kV (V : Valuation τ sig (Elt F)) : FVec F S8x6x6404x5x128 .f32 :=
  normV (projV (xbV (V (Proc.devRef .tc main_v0_0)) (V (Proc.devRef .tc main_arg1))) (wV (V (Proc.devRef .tc main_v0_1)) (V (Proc.devRef .tc main_arg3)))) (V (Proc.devRef .tc main_arg6))
def vV (V : Valuation τ sig (Elt F)) : FVec F S8x6x6404x5x128 .f32 :=
  projV (xbV (V (Proc.devRef .tc main_v0_0)) (V (Proc.devRef .tc main_arg1))) (wV (V (Proc.devRef .tc main_v0_2)) (V (Proc.devRef .tc main_arg5)))

/-- The largest of each row of powers. -/
def redV (x : FVec F S8x6x6404x5x252 .f32) : FVec F S8x6x6404x5 .f32 :=
  Host.reduce FloatOps.maximumf x (constant S_ .f32 0xFF800000#32) reducesTo_S8x6x6404x5x252_S8x6x6404x5_d4 h_S_

/-- Rows to codes. -/
def convV (x : FVec F S8x6x6404x5x128 .f32) : FVec F S8x6x6404x5x128 .fp8e4m3 := Host.convertf .fp8e4m3 x

/-! ## Segment by segment -/

variable (V : Valuation τ sig (Elt F))

set_option maxRecDepth 65536 in
set_option maxHeartbeats 4000000 in
theorem hostOps1_v35 : after hostOps1 V (Proc.devRef .tc main_v35) = kV V := by
  simp only [hostOps1, TRef.binary, TRef.ternary, TRef.unary, TRef.toBuf, TRef.ofBuf, cast_eq]; after_results_simp ; unfold kV normV projV xbV wV; rfl

set_option maxRecDepth 65536 in
set_option maxHeartbeats 4000000 in
theorem hostOps1_v22 : after hostOps1 V (Proc.devRef .tc main_v22) = vV V := by
  simp only [hostOps1, TRef.binary, TRef.ternary, TRef.unary, TRef.toBuf, TRef.ofBuf, cast_eq]; after_results_simp ; unfold vV projV xbV wV; rfl

set_option maxRecDepth 65536 in
set_option maxHeartbeats 4000000 in
theorem hostOps1_v45 : after hostOps1 V (Proc.devRef .tc main_v45) = powV (F := F) := by
  simp only [hostOps1, TRef.binary, TRef.ternary, TRef.unary, TRef.toBuf, TRef.ofBuf, cast_eq]; after_results_simp <;> rfl

set_option maxRecDepth 65536 in
set_option maxHeartbeats 4000000 in
theorem hostOps1_v50 : after hostOps1 V (Proc.devRef .tc main_v50) = leV (ampV (kV V)) powV := by
  simp only [hostOps1, TRef.binary, TRef.ternary, TRef.unary, TRef.toBuf, TRef.ofBuf, cast_eq]; after_results_simp ; unfold leV ampV kV normV projV xbV wV powV; rfl

set_option maxRecDepth 65536 in
set_option maxHeartbeats 4000000 in
theorem hostOps1_cst_5 : after hostOps1 V (Proc.devRef .tc main_cst_5) = (constant S_ .f32 0x00000000#32 : FVec F S_ .f32) := by
  simp only [hostOps1, TRef.binary, TRef.ternary, TRef.unary, TRef.toBuf, TRef.ofBuf, cast_eq]; after_results_simp <;> rfl

theorem hostOps1_1_v51 : after hostOps1_1 V (Proc.devRef .tc main_v51) = (select (s := S8x6x6404x5x252) (V (Proc.devRef .tc main_v50)) (broadcastInDim S8x6x6404x5x252 ![4] bcast_S252_S8x6x6404x5x252_4 (V (Proc.devRef .tc main_v45))) (broadcastInDim S8x6x6404x5x252 ![] bcast_S_S8x6x6404x5x252 (id (V (Proc.devRef .tc main_cst_5)))) : FVec F S8x6x6404x5x252 .f32) := by
  simp only [hostOps1_1, TRef.binary, TRef.ternary, TRef.unary, TRef.toBuf, TRef.ofBuf, cast_eq]; after_results_simp <;> rfl

theorem hostOps1_2_v54 : after hostOps1_2 V (Proc.devRef .tc main_v54) = cmpf (F := F) .oeq (redV (V (Proc.devRef .tc main_v51))) (broadcastInDim S8x6x6404x5 ![] bcast_S_S8x6x6404x5 (constant S_ .f32 0x00000000#32 : FVec F S_ .f32)) := by
  simp only [hostOps1_2, TRef.binary, TRef.ternary, TRef.unary, TRef.toBuf, TRef.ofBuf, cast_eq]; after_results_simp <;> rfl

theorem hostOps1_2_v56 : after hostOps1_2 V (Proc.devRef .tc main_v56) = (mulf (broadcastInDim S8x6x6404x5 ![] bcast_S_S8x6x6404x5 (constant S_ .f32 0x40000000#32)) (redV (V (Proc.devRef .tc main_v51))) : FVec F S8x6x6404x5 .f32) := by
  simp only [hostOps1_2, TRef.binary, TRef.ternary, TRef.unary, TRef.toBuf, TRef.ofBuf, cast_eq]; after_results_simp <;> rfl

theorem hostOps1_2_cst_9 : after hostOps1_2 V (Proc.devRef .tc main_cst_9) = (constant S_ .f32 0x3F800000#32 : FVec F S_ .f32) := by
  simp only [hostOps1_2, TRef.binary, TRef.ternary, TRef.unary, TRef.toBuf, TRef.ofBuf, cast_eq]; after_results_simp <;> rfl

theorem hostOps1_3_v57 : after hostOps1_3 V (Proc.devRef .tc main_v57) = (select (s := S8x6x6404x5) (V (Proc.devRef .tc main_v54)) (broadcastInDim S8x6x6404x5 ![] bcast_S_S8x6x6404x5 (id (V (Proc.devRef .tc main_cst_9)))) (V (Proc.devRef .tc main_v56)) : FVec F S8x6x6404x5 .f32) := by
  simp only [hostOps1_3, TRef.binary, TRef.ternary, TRef.unary, TRef.toBuf, TRef.ofBuf, cast_eq]; after_results_simp <;> rfl

theorem hostOps1_4_v62 : after hostOps1_4 V (Proc.devRef .tc main_v62) = overV (V (Proc.devRef .tc main_v35)) (V (Proc.devRef .tc main_v57)) := by
  simp only [hostOps1_4, TRef.binary, TRef.ternary, TRef.unary, TRef.toBuf, TRef.ofBuf, cast_eq]; after_results_simp <;> rfl

theorem hostOps1_4_cst_11 : after hostOps1_4 V (Proc.devRef .tc main_cst_11) = (constant S_ .f32 0xC3E00000#32 : FVec F S_ .f32) := by
  simp only [hostOps1_4, TRef.binary, TRef.ternary, TRef.unary, TRef.toBuf, TRef.ofBuf, cast_eq]; after_results_simp <;> rfl

theorem hostOps1_4_cst_12 : after hostOps1_4 V (Proc.devRef .tc main_cst_12) = (constant S_ .f32 0x43E00000#32 : FVec F S_ .f32) := by
  simp only [hostOps1_4, TRef.binary, TRef.ternary, TRef.unary, TRef.toBuf, TRef.ofBuf, cast_eq]; after_results_simp <;> rfl

theorem hostOps1_5_v63 : after hostOps1_5 V (Proc.devRef .tc main_v63) = (minimumf (broadcastInDim S8x6x6404x5x128 ![] bcast_S_S8x6x6404x5x128 (id (V (Proc.devRef .tc main_cst_12)))) (maximumf (broadcastInDim S8x6x6404x5x128 ![] bcast_S_S8x6x6404x5x128 (id (V (Proc.devRef .tc main_cst_11)))) (V (Proc.devRef .tc main_v62))) : FVec F S8x6x6404x5x128 .f32) := by
  simp only [hostOps1_5, TRef.binary, TRef.ternary, TRef.unary, TRef.toBuf, TRef.ofBuf, cast_eq]; after_results_simp <;> rfl

theorem hostOps1_6_v64 : after hostOps1_6 V (Proc.devRef .tc main_v64) = convV (V (Proc.devRef .tc main_v63)) := by
  simp only [hostOps1_6, TRef.binary, TRef.ternary, TRef.unary, TRef.toBuf, TRef.ofBuf, cast_eq]; after_results_simp <;> rfl

theorem hostOps1_6_v74 : after hostOps1_6 V (Proc.devRef .tc main_v74) = powV (F := F) := by
  simp only [hostOps1_6, TRef.binary, TRef.ternary, TRef.unary, TRef.toBuf, TRef.ofBuf, cast_eq]; after_results_simp <;> rfl

theorem hostOps1_6_v79 : after hostOps1_6 V (Proc.devRef .tc main_v79) = leV (ampV (V (Proc.devRef .tc main_v22))) powV := by
  simp only [hostOps1_6, TRef.binary, TRef.ternary, TRef.unary, TRef.toBuf, TRef.ofBuf, cast_eq]; after_results_simp <;> rfl

theorem hostOps1_6_cst_17 : after hostOps1_6 V (Proc.devRef .tc main_cst_17) = (constant S_ .f32 0x00000000#32 : FVec F S_ .f32) := by
  simp only [hostOps1_6, TRef.binary, TRef.ternary, TRef.unary, TRef.toBuf, TRef.ofBuf, cast_eq]; after_results_simp <;> rfl

theorem hostOps1_7_v80 : after hostOps1_7 V (Proc.devRef .tc main_v80) = (select (s := S8x6x6404x5x252) (V (Proc.devRef .tc main_v79)) (broadcastInDim S8x6x6404x5x252 ![4] bcast_S252_S8x6x6404x5x252_4 (V (Proc.devRef .tc main_v74))) (broadcastInDim S8x6x6404x5x252 ![] bcast_S_S8x6x6404x5x252 (id (V (Proc.devRef .tc main_cst_17)))) : FVec F S8x6x6404x5x252 .f32) := by
  simp only [hostOps1_7, TRef.binary, TRef.ternary, TRef.unary, TRef.toBuf, TRef.ofBuf, cast_eq]; after_results_simp <;> rfl

theorem hostOps1_8_v83 : after hostOps1_8 V (Proc.devRef .tc main_v83) = cmpf (F := F) .oeq (redV (V (Proc.devRef .tc main_v80))) (broadcastInDim S8x6x6404x5 ![] bcast_S_S8x6x6404x5 (constant S_ .f32 0x00000000#32 : FVec F S_ .f32)) := by
  simp only [hostOps1_8, TRef.binary, TRef.ternary, TRef.unary, TRef.toBuf, TRef.ofBuf, cast_eq]; after_results_simp <;> rfl

theorem hostOps1_8_v85 : after hostOps1_8 V (Proc.devRef .tc main_v85) = (mulf (broadcastInDim S8x6x6404x5 ![] bcast_S_S8x6x6404x5 (constant S_ .f32 0x40000000#32)) (redV (V (Proc.devRef .tc main_v80))) : FVec F S8x6x6404x5 .f32) := by
  simp only [hostOps1_8, TRef.binary, TRef.ternary, TRef.unary, TRef.toBuf, TRef.ofBuf, cast_eq]; after_results_simp <;> rfl

theorem hostOps1_8_cst_21 : after hostOps1_8 V (Proc.devRef .tc main_cst_21) = (constant S_ .f32 0x3F800000#32 : FVec F S_ .f32) := by
  simp only [hostOps1_8, TRef.binary, TRef.ternary, TRef.unary, TRef.toBuf, TRef.ofBuf, cast_eq]; after_results_simp <;> rfl

theorem hostOps1_9_v86 : after hostOps1_9 V (Proc.devRef .tc main_v86) = (select (s := S8x6x6404x5) (V (Proc.devRef .tc main_v83)) (broadcastInDim S8x6x6404x5 ![] bcast_S_S8x6x6404x5 (id (V (Proc.devRef .tc main_cst_21)))) (V (Proc.devRef .tc main_v85)) : FVec F S8x6x6404x5 .f32) := by
  simp only [hostOps1_9, TRef.binary, TRef.ternary, TRef.unary, TRef.toBuf, TRef.ofBuf, cast_eq]; after_results_simp <;> rfl

theorem hostOps1_10_v91 : after hostOps1_10 V (Proc.devRef .tc main_v91) = overV (V (Proc.devRef .tc main_v22)) (V (Proc.devRef .tc main_v86)) := by
  simp only [hostOps1_10, TRef.binary, TRef.ternary, TRef.unary, TRef.toBuf, TRef.ofBuf, cast_eq]; after_results_simp <;> rfl

theorem hostOps1_10_cst_23 : after hostOps1_10 V (Proc.devRef .tc main_cst_23) = (constant S_ .f32 0xC3E00000#32 : FVec F S_ .f32) := by
  simp only [hostOps1_10, TRef.binary, TRef.ternary, TRef.unary, TRef.toBuf, TRef.ofBuf, cast_eq]; after_results_simp <;> rfl

theorem hostOps1_10_cst_24 : after hostOps1_10 V (Proc.devRef .tc main_cst_24) = (constant S_ .f32 0x43E00000#32 : FVec F S_ .f32) := by
  simp only [hostOps1_10, TRef.binary, TRef.ternary, TRef.unary, TRef.toBuf, TRef.ofBuf, cast_eq]; after_results_simp <;> rfl

theorem hostOps1_11_v92 : after hostOps1_11 V (Proc.devRef .tc main_v92) = (minimumf (broadcastInDim S8x6x6404x5x128 ![] bcast_S_S8x6x6404x5x128 (id (V (Proc.devRef .tc main_cst_24)))) (maximumf (broadcastInDim S8x6x6404x5x128 ![] bcast_S_S8x6x6404x5x128 (id (V (Proc.devRef .tc main_cst_23)))) (V (Proc.devRef .tc main_v91))) : FVec F S8x6x6404x5x128 .f32) := by
  simp only [hostOps1_11, TRef.binary, TRef.ternary, TRef.unary, TRef.toBuf, TRef.ofBuf, cast_eq]; after_results_simp <;> rfl

theorem hostOps1_12_v93 : after hostOps1_12 V (Proc.devRef .tc main_v93) = convV (V (Proc.devRef .tc main_v92)) := by
  simp only [hostOps1_12, TRef.binary, TRef.ternary, TRef.unary, TRef.toBuf, TRef.ofBuf, cast_eq]; after_results_simp <;> rfl

/-! ## Segments together -/

set_option maxHeartbeats 1600000 in
theorem at2_eq : (after hostOps1_2 (after hostOps1_1 (after hostOps1 V))) (Proc.devRef .tc main_v54) = cmpf .oeq (belowV (ampV (kV V)) powV) (broadcastInDim S8x6x6404x5 ![] bcast_S_S8x6x6404x5 (constant S_ .f32 0x00000000#32 : FVec F S_ .f32)) := by
  rw [hostOps1_2_v54, hostOps1_1_v51, hostOps1_v50, hostOps1_v45, hostOps1_cst_5]
  rfl

set_option maxHeartbeats 1600000 in
theorem at2_dbl : (after hostOps1_2 (after hostOps1_1 (after hostOps1 V))) (Proc.devRef .tc main_v56) = (mulf (broadcastInDim S8x6x6404x5 ![] bcast_S_S8x6x6404x5 (constant S_ .f32 0x40000000#32)) (belowV (ampV (kV V)) powV) : FVec F S8x6x6404x5 .f32) := by
  rw [hostOps1_2_v56, hostOps1_1_v51, hostOps1_v50, hostOps1_v45, hostOps1_cst_5]
  rfl

set_option maxHeartbeats 1600000 in
theorem at3_v57 : (after hostOps1_3 (after hostOps1_2 (after hostOps1_1 (after hostOps1 V)))) (Proc.devRef .tc main_v57) = scalesV (kV V) := by
  rw [hostOps1_3_v57, at2_eq, at2_dbl, hostOps1_2_cst_9]
  rfl

set_option maxHeartbeats 1600000 in
theorem at3_v35 : (after hostOps1_3 (after hostOps1_2 (after hostOps1_1 (after hostOps1 V)))) (Proc.devRef .tc main_v35) = kV V := by
  rw [after_of_writes_sub (r := main_v35) hostOps1_3 _ hostOps1_3_writes (by decide +kernel), after_of_writes_sub (r := main_v35) hostOps1_2 _ hostOps1_2_writes (by decide +kernel), after_of_writes_sub (r := main_v35) hostOps1_1 _ hostOps1_1_writes (by decide +kernel), hostOps1_v35]

set_option maxHeartbeats 1600000 in
theorem at4_v62 : (after hostOps1_4 (after hostOps1_3 (after hostOps1_2 (after hostOps1_1 (after hostOps1 V))))) (Proc.devRef .tc main_v62) = overV (kV V) (scalesV (kV V)) := by
  rw [hostOps1_4_v62, at3_v57, at3_v35]

set_option maxHeartbeats 1600000 in
theorem at6_v64 : (after hostOps1_6 (after hostOps1_5 (after hostOps1_4 (after hostOps1_3 (after hostOps1_2 (after hostOps1_1 (after hostOps1 V))))))) (Proc.devRef .tc main_v64) = codesV (kV V) := by
  rw [hostOps1_6_v64, hostOps1_5_v63, at4_v62, hostOps1_4_cst_11, hostOps1_4_cst_12]
  rfl

set_option maxHeartbeats 1600000 in
theorem at12_v64 : (after hostOps1_12 (after hostOps1_11 (after hostOps1_10 (after hostOps1_9 (after hostOps1_8 (after hostOps1_7 (after hostOps1_6 (after hostOps1_5 (after hostOps1_4 (after hostOps1_3 (after hostOps1_2 (after hostOps1_1 (after hostOps1 V))))))))))))) (Proc.devRef .tc main_v64) = codesV (kV V) := by
  rw [after_of_writes_sub (r := main_v64) hostOps1_12 _ hostOps1_12_writes (by decide +kernel), after_of_writes_sub (r := main_v64) hostOps1_11 _ hostOps1_11_writes (by decide +kernel), after_of_writes_sub (r := main_v64) hostOps1_10 _ hostOps1_10_writes (by decide +kernel), after_of_writes_sub (r := main_v64) hostOps1_9 _ hostOps1_9_writes (by decide +kernel), after_of_writes_sub (r := main_v64) hostOps1_8 _ hostOps1_8_writes (by decide +kernel), after_of_writes_sub (r := main_v64) hostOps1_7 _ hostOps1_7_writes (by decide +kernel), at6_v64]

set_option maxHeartbeats 1600000 in
theorem at12_v57 : (after hostOps1_12 (after hostOps1_11 (after hostOps1_10 (after hostOps1_9 (after hostOps1_8 (after hostOps1_7 (after hostOps1_6 (after hostOps1_5 (after hostOps1_4 (after hostOps1_3 (after hostOps1_2 (after hostOps1_1 (after hostOps1 V))))))))))))) (Proc.devRef .tc main_v57) = scalesV (kV V) := by
  rw [after_of_writes_sub (r := main_v57) hostOps1_12 _ hostOps1_12_writes (by decide +kernel), after_of_writes_sub (r := main_v57) hostOps1_11 _ hostOps1_11_writes (by decide +kernel), after_of_writes_sub (r := main_v57) hostOps1_10 _ hostOps1_10_writes (by decide +kernel), after_of_writes_sub (r := main_v57) hostOps1_9 _ hostOps1_9_writes (by decide +kernel), after_of_writes_sub (r := main_v57) hostOps1_8 _ hostOps1_8_writes (by decide +kernel), after_of_writes_sub (r := main_v57) hostOps1_7 _ hostOps1_7_writes (by decide +kernel), after_of_writes_sub (r := main_v57) hostOps1_6 _ hostOps1_6_writes (by decide +kernel), after_of_writes_sub (r := main_v57) hostOps1_5 _ hostOps1_5_writes (by decide +kernel), after_of_writes_sub (r := main_v57) hostOps1_4 _ hostOps1_4_writes (by decide +kernel), at3_v57]

set_option maxHeartbeats 1600000 in
theorem at5_v22 : (after hostOps1_5 (after hostOps1_4 (after hostOps1_3 (after hostOps1_2 (after hostOps1_1 (after hostOps1 V)))))) (Proc.devRef .tc main_v22) = vV V := by
  rw [after_of_writes_sub (r := main_v22) hostOps1_5 _ hostOps1_5_writes (by decide +kernel), after_of_writes_sub (r := main_v22) hostOps1_4 _ hostOps1_4_writes (by decide +kernel), after_of_writes_sub (r := main_v22) hostOps1_3 _ hostOps1_3_writes (by decide +kernel), after_of_writes_sub (r := main_v22) hostOps1_2 _ hostOps1_2_writes (by decide +kernel), after_of_writes_sub (r := main_v22) hostOps1_1 _ hostOps1_1_writes (by decide +kernel), hostOps1_v22]

set_option maxHeartbeats 1600000 in
theorem at8_eq : (after hostOps1_8 (after hostOps1_7 (after hostOps1_6 (after hostOps1_5 (after hostOps1_4 (after hostOps1_3 (after hostOps1_2 (after hostOps1_1 (after hostOps1 V))))))))) (Proc.devRef .tc main_v83) = cmpf .oeq (belowV (ampV (vV V)) powV) (broadcastInDim S8x6x6404x5 ![] bcast_S_S8x6x6404x5 (constant S_ .f32 0x00000000#32 : FVec F S_ .f32)) := by
  rw [hostOps1_8_v83, hostOps1_7_v80, hostOps1_6_v79, hostOps1_6_v74, hostOps1_6_cst_17, at5_v22]
  rfl

set_option maxHeartbeats 1600000 in
theorem at8_dbl : (after hostOps1_8 (after hostOps1_7 (after hostOps1_6 (after hostOps1_5 (after hostOps1_4 (after hostOps1_3 (after hostOps1_2 (after hostOps1_1 (after hostOps1 V))))))))) (Proc.devRef .tc main_v85) = (mulf (broadcastInDim S8x6x6404x5 ![] bcast_S_S8x6x6404x5 (constant S_ .f32 0x40000000#32)) (belowV (ampV (vV V)) powV) : FVec F S8x6x6404x5 .f32) := by
  rw [hostOps1_8_v85, hostOps1_7_v80, hostOps1_6_v79, hostOps1_6_v74, hostOps1_6_cst_17, at5_v22]
  rfl

set_option maxHeartbeats 1600000 in
theorem at9_v86 : (after hostOps1_9 (after hostOps1_8 (after hostOps1_7 (after hostOps1_6 (after hostOps1_5 (after hostOps1_4 (after hostOps1_3 (after hostOps1_2 (after hostOps1_1 (after hostOps1 V)))))))))) (Proc.devRef .tc main_v86) = scalesV (vV V) := by
  rw [hostOps1_9_v86, at8_eq, at8_dbl, hostOps1_8_cst_21]
  rfl

set_option maxHeartbeats 1600000 in
theorem at9_v22 : (after hostOps1_9 (after hostOps1_8 (after hostOps1_7 (after hostOps1_6 (after hostOps1_5 (after hostOps1_4 (after hostOps1_3 (after hostOps1_2 (after hostOps1_1 (after hostOps1 V)))))))))) (Proc.devRef .tc main_v22) = vV V := by
  rw [after_of_writes_sub (r := main_v22) hostOps1_9 _ hostOps1_9_writes (by decide +kernel), after_of_writes_sub (r := main_v22) hostOps1_8 _ hostOps1_8_writes (by decide +kernel), after_of_writes_sub (r := main_v22) hostOps1_7 _ hostOps1_7_writes (by decide +kernel), after_of_writes_sub (r := main_v22) hostOps1_6 _ hostOps1_6_writes (by decide +kernel), at5_v22]

set_option maxHeartbeats 1600000 in
theorem at10_v91 : (after hostOps1_10 (after hostOps1_9 (after hostOps1_8 (after hostOps1_7 (after hostOps1_6 (after hostOps1_5 (after hostOps1_4 (after hostOps1_3 (after hostOps1_2 (after hostOps1_1 (after hostOps1 V))))))))))) (Proc.devRef .tc main_v91) = overV (vV V) (scalesV (vV V)) := by
  rw [hostOps1_10_v91, at9_v86, at9_v22]

set_option maxHeartbeats 1600000 in
theorem at12_v93 : (after hostOps1_12 (after hostOps1_11 (after hostOps1_10 (after hostOps1_9 (after hostOps1_8 (after hostOps1_7 (after hostOps1_6 (after hostOps1_5 (after hostOps1_4 (after hostOps1_3 (after hostOps1_2 (after hostOps1_1 (after hostOps1 V))))))))))))) (Proc.devRef .tc main_v93) = codesV (vV V) := by
  rw [hostOps1_12_v93, hostOps1_11_v92, at10_v91, hostOps1_10_cst_23, hostOps1_10_cst_24]
  rfl

set_option maxHeartbeats 1600000 in
theorem at12_v86 : (after hostOps1_12 (after hostOps1_11 (after hostOps1_10 (after hostOps1_9 (after hostOps1_8 (after hostOps1_7 (after hostOps1_6 (after hostOps1_5 (after hostOps1_4 (after hostOps1_3 (after hostOps1_2 (after hostOps1_1 (after hostOps1 V))))))))))))) (Proc.devRef .tc main_v86) = scalesV (vV V) := by
  rw [after_of_writes_sub (r := main_v86) hostOps1_12 _ hostOps1_12_writes (by decide +kernel), after_of_writes_sub (r := main_v86) hostOps1_11 _ hostOps1_11_writes (by decide +kernel), after_of_writes_sub (r := main_v86) hostOps1_10 _ hostOps1_10_writes (by decide +kernel), at9_v86]

/-! ## All segments -/

theorem all_v64 : after (List.flatten [hostOps1, hostOps1_1, hostOps1_2, hostOps1_3, hostOps1_4, hostOps1_5, hostOps1_6, hostOps1_7, hostOps1_8, hostOps1_9, hostOps1_10, hostOps1_11, hostOps1_12]) V (Proc.devRef .tc main_v64) = codesV (kV V) := by
  rw [List.flatten_cons, List.flatten_cons, List.flatten_cons, List.flatten_cons, List.flatten_cons, List.flatten_cons, List.flatten_cons, List.flatten_cons, List.flatten_cons, List.flatten_cons, List.flatten_cons, List.flatten_cons, List.flatten_cons, List.flatten_nil, List.append_nil, after_append, after_append, after_append, after_append, after_append, after_append, after_append, after_append, after_append, after_append, after_append, after_append, at12_v64]
theorem all_v57 : after (List.flatten [hostOps1, hostOps1_1, hostOps1_2, hostOps1_3, hostOps1_4, hostOps1_5, hostOps1_6, hostOps1_7, hostOps1_8, hostOps1_9, hostOps1_10, hostOps1_11, hostOps1_12]) V (Proc.devRef .tc main_v57) = scalesV (kV V) := by
  rw [List.flatten_cons, List.flatten_cons, List.flatten_cons, List.flatten_cons, List.flatten_cons, List.flatten_cons, List.flatten_cons, List.flatten_cons, List.flatten_cons, List.flatten_cons, List.flatten_cons, List.flatten_cons, List.flatten_cons, List.flatten_nil, List.append_nil, after_append, after_append, after_append, after_append, after_append, after_append, after_append, after_append, after_append, after_append, after_append, after_append, at12_v57]
theorem all_v93 : after (List.flatten [hostOps1, hostOps1_1, hostOps1_2, hostOps1_3, hostOps1_4, hostOps1_5, hostOps1_6, hostOps1_7, hostOps1_8, hostOps1_9, hostOps1_10, hostOps1_11, hostOps1_12]) V (Proc.devRef .tc main_v93) = codesV (vV V) := by
  rw [List.flatten_cons, List.flatten_cons, List.flatten_cons, List.flatten_cons, List.flatten_cons, List.flatten_cons, List.flatten_cons, List.flatten_cons, List.flatten_cons, List.flatten_cons, List.flatten_cons, List.flatten_cons, List.flatten_cons, List.flatten_nil, List.append_nil, after_append, after_append, after_append, after_append, after_append, after_append, after_append, after_append, after_append, after_append, after_append, after_append, at12_v93]
theorem all_v86 : after (List.flatten [hostOps1, hostOps1_1, hostOps1_2, hostOps1_3, hostOps1_4, hostOps1_5, hostOps1_6, hostOps1_7, hostOps1_8, hostOps1_9, hostOps1_10, hostOps1_11, hostOps1_12]) V (Proc.devRef .tc main_v86) = scalesV (vV V) := by
  rw [List.flatten_cons, List.flatten_cons, List.flatten_cons, List.flatten_cons, List.flatten_cons, List.flatten_cons, List.flatten_cons, List.flatten_cons, List.flatten_cons, List.flatten_cons, List.flatten_cons, List.flatten_cons, List.flatten_cons, List.flatten_nil, List.append_nil, after_append, after_append, after_append, after_append, after_append, after_append, after_append, after_append, after_append, after_append, after_append, after_append, at12_v86]

end Cert.ReferenceIdeal.Ref

end
-- ==== Proof.RefBits.lean ====
module

public import proofs.«01_k».proof.Proof.RefRun
public import proofs.«01_k».proof.Proof.Quant
public import Idealize.ShloMosaic.Lib.Pointwise
public import Idealize.ShloMosaic.Lib.IdealHost

@[expose] public section

set_option maxRecDepth 16384

noncomputable section

namespace Cert.ReferenceIdeal.Ref

open Cert.ReferenceIdeal Cert.ReferenceIdeal.Gen
open Idealize.ShloMosaic Idealize.ShloMosaic.TcCoe Idealize.SL.Sem
open Cert.Quant

/-- The dequantised activations: codes times the scale of their block of 128. -/
theorem xbV_apply (x : FVec Ideal S6x6404x4096 .bf16) (xs : FVec Ideal S6x6404x32 .f32) (b : Fin 6) (s : Fin 6404) (d : Fin 4096) :
    xbV x xs (ix3 b s d) = x (ix3 b s d) * xs (ix3 b s ⟨d.val / 128, by omega⟩) := by
  unfold xbV; pointwise

/-- The dequantised weights: codes times the scale of their block of 128. -/
theorem wV_apply (w : FVec Ideal S8x4096x5x128 .bf16) (ws : FVec Ideal S8x32x5 .f32) (l : Fin 8) (d : Fin 4096) (h : Fin 5)
    (e : Fin 128) : wV w ws (ix4 l d h e) = w (ix4 l d h e) * ws (ix3 l ⟨d.val / 128, by omega⟩ h) := by
  unfold wV; pointwise

/-- The projection: a sum over the 4096 input features. -/
theorem projV_apply (x : FVec Ideal S6x6404x4096 .bf16) (w : FVec Ideal S8x4096x5x128 .bf16) (l : Fin 8) (b : Fin 6) (s : Fin 6404)
    (h : Fin 5) (e : Fin 128) : projV x w (ix5 l b s h e) = ∑ d, w (ix4 l d h e) * x (ix3 b s d) := by
  unfold projV; pointwise

/-- The normalised keys, a row of 128 at a time. -/
theorem normV_apply (y : FVec Ideal S8x6x6404x5x128 .f32) (g : FVec Ideal S8x128 .f32) (l : Fin 8) (b : Fin 6) (s : Fin 6404)
    (h : Fin 5) (e : Fin 128) :
    normV y g (ix5 l b s h e) = rowNorm (fun x => y (ix5 l b s h x)) (fun x => g (ix2 l x)) e := by
  unfold normV rowNorm; pointwise

/-- The largest entry of a row of 128. -/
theorem max_apply (z : FVec Ideal S8x6x6404x5x128 .f32) (l : Fin 8) (b : Fin 6) (s : Fin 6404) (h : Fin 5) :
    Host.reduce FloatOps.maximumf z (constant (F := Ideal) S_ .f32 0xFF800000#32) reducesTo_S8x6x6404x5x128_S8x6x6404x5_d4 h_S_ (ix4 l b s h) =
      Finset.fold max (Ideal.ofBits .f32 4286578688#32) (fun x => z (ix5 l b s h x)) Finset.univ := by
  pointwise

/-- The largest entry of a row of 252. -/
theorem redV_apply (z : FVec Ideal S8x6x6404x5x252 .f32) (l : Fin 8) (b : Fin 6) (s : Fin 6404) (h : Fin 5) :
    redV z (ix4 l b s h) =
      Finset.fold max (Ideal.ofBits .f32 4286578688#32) (fun x => z (ix5 l b s h x)) Finset.univ := by
  unfold redV; pointwise

theorem bot_eq : Ideal.ofBits .f32 4286578688#32 = ⊥ := by simp [Ideal.ofBits, Ideal.ieee]
theorem zero_eq : Ideal.ofBits .f32 0#32 = 0 := by simp [Ideal.ofBits, Ideal.ieee]
theorem two_eq : Ideal.ofBits .f32 1073741824#32 = ((2 : ℝ) : EReal) := by
  have := T_eq 128 (by omega) (by omega)
  unfold Quant.T at this
  rw [← eq_bits 128 1073741824#32 (by omega) (by decide)] at this
  rw [this]; norm_num
theorem one_eq : Ideal.ofBits .f32 1065353216#32 = 1 := by
  have := T_eq 127 (by omega) (by omega)
  unfold Quant.T at this
  rw [← eq_bits 127 1065353216#32 (by omega) (by decide)] at this
  rw [this]; norm_num

theorem mulc_apply (z : FVec Ideal S8x6x6404x5 .f32) (l : Fin 8) (b : Fin 6) (s : Fin 6404) (h : Fin 5) :
    mulf z (broadcastInDim S8x6x6404x5 ![] bcast_S_S8x6x6404x5 (constant S_ .f32 0x3B124925#32)) (ix4 l b s h) =
      z (ix4 l b s h) * Ideal.ofBits .f32 991054117#32 := by
  pointwise

theorem absf_apply (y : FVec Ideal S8x6x6404x5x128 .f32) (i : S8x6x6404x5x128.Idx) :
    Host.absf y i = FloatOps.absf (F := Ideal) (φ := .f32) (y i) := rfl

/-- A row's largest absolute value over 448. -/
theorem ampV_apply (y : FVec Ideal S8x6x6404x5x128 .f32) (l : Fin 8) (b : Fin 6) (s : Fin 6404) (h : Fin 5) :
    ampV y (ix4 l b s h) = amp (fun x => y (ix5 l b s h x)) := by
  unfold ampV amp
  rw [mulc_apply, max_apply]
  simp only [absf_apply]

/-- The exponents counted from -126. -/
theorem toInt_exp (i : Fin 252) : (IntOp.addi (4294967170#32) (BitVec.ofNat 32 i.val)).toInt = (i.val : ℤ) - 126 := by
  unfold IntOp.addi
  rw [BitVec.toInt_eq_toNat_bmod, BitVec.toNat_add, BitVec.toNat_ofNat, BitVec.toNat_ofNat, Int.bmod_def]
  have := i.isLt
  split <;> omega

/-- The powers of two the reference lists. -/
theorem powV_apply (i : Fin 252) : powV (F := Ideal) (ix1 i) = Quant.T (i.val + 1) := by
  have h : powV (F := Ideal) (ix1 i) = Ideal.pow (Ideal.ofBits .f32 1073741824#32)
      (FloatOps.sitofp (F := Ideal) .f32 (IntOp.addi (4294967170#32) (BitVec.ofNat 32 i.val))) := by
    unfold powV; pointwise
  have hs : ∀ x : BitVec 32, FloatOps.sitofp (F := Ideal) .f32 x = (((x.toInt : ℤ) : ℝ) : EReal) := fun _ => rfl
  rw [h, hs, toInt_exp, two_eq, T_eq _ (by omega) (by omega)]
  show ((Real.rpow 2 ((((i.val : ℤ) - 126 : ℤ)) : ℝ) : ℝ) : EReal) = _
  rw [Real.rpow_eq_pow, Real.rpow_intCast]
  congr 2
  push_cast; ring

theorem leV_apply (a : FVec Ideal S8x6x6404x5 .f32) (p : FVec Ideal S252 .f32) (l : Fin 8) (b : Fin 6) (s : Fin 6404) (h : Fin 5)
    (i : Fin 252) : leV a p (ix5 l b s h i) = BitVec.ofBool (decide (p (ix1 i) ≤ a (ix4 l b s h))) := by
  unfold leV; pointwise

/-- The largest listed power of two not above a value. -/
theorem belowV_apply (a : FVec Ideal S8x6x6404x5 .f32) (p : FVec Ideal S252 .f32) (l : Fin 8) (b : Fin 6) (s : Fin 6404) (h : Fin 5) :
    belowV a p (ix4 l b s h) = Finset.fold max (Ideal.ofBits .f32 4286578688#32)
      (fun x => if p (ix1 x) ≤ a (ix4 l b s h) then p (ix1 x) else 0) Finset.univ := by
  have e : belowV a p = redV (select (leV a p) (broadcastInDim S8x6x6404x5x252 ![4] bcast_S252_S8x6x6404x5x252_4 p)
    (broadcastInDim S8x6x6404x5x252 ![] bcast_S_S8x6x6404x5x252 (id (constant S_ .f32 0x00000000#32)))) := rfl
  rw [e, redV_apply]
  congr 1
  funext x
  have h2 : select (leV a p) (broadcastInDim S8x6x6404x5x252 ![4] bcast_S252_S8x6x6404x5x252_4 p)
      (broadcastInDim S8x6x6404x5x252 ![] bcast_S_S8x6x6404x5x252 (id (constant (F := Ideal) S_ .f32 0x00000000#32))) (ix5 l b s h x) =
      Scalar.select (leV a p (ix5 l b s h x)) (p (ix1 x)) (Ideal.ofBits .f32 0#32) := by
    unfold id; pointwise
  rw [h2, leV_apply, zero_eq]
  unfold Scalar.select
  by_cases hp : p (ix1 x) ≤ a (ix4 l b s h) <;> simp [hp]

theorem below_apply (a : FVec Ideal S8x6x6404x5 .f32) (l : Fin 8) (b : Fin 6) (s : Fin 6404) (h : Fin 5) :
    belowV a powV (ix4 l b s h) = below (a (ix4 l b s h)) := by
  rw [belowV_apply, bot_eq]
  unfold below
  simp only [powV_apply]

/-- A row's scale. -/
theorem scaleV_apply (a : FVec Ideal S8x6x6404x5 .f32) (l : Fin 8) (b : Fin 6) (s : Fin 6404) (h : Fin 5) :
    scaleV a (ix4 l b s h) = if a (ix4 l b s h) = 0 then 1 else 2 * a (ix4 l b s h) := by
  have e : scaleV a (ix4 l b s h) = if a (ix4 l b s h) = 0 then Ideal.ofBits .f32 1065353216#32
      else Ideal.ofBits .f32 1073741824#32 * a (ix4 l b s h) := by
    unfold scaleV id; pointwise
  rw [e, one_eq, two_eq]; rfl

theorem scalesV_apply (y : FVec Ideal S8x6x6404x5x128 .f32) (l : Fin 8) (b : Fin 6) (s : Fin 6404) (h : Fin 5) :
    scalesV y (ix4 l b s h) = rowScale (fun x => y (ix5 l b s h x)) := by
  unfold scalesV rowScale scaleR
  rw [scaleV_apply, below_apply, ampV_apply]

/-- A row's codes. -/
theorem codesV_apply (y : FVec Ideal S8x6x6404x5x128 .f32) (l : Fin 8) (b : Fin 6) (s : Fin 6404) (h : Fin 5) (e : Fin 128) :
    codesV y (ix5 l b s h e) = rowCode (fun x => y (ix5 l b s h x)) e := by
  have h1 : ∀ z : FVec Ideal S8x6x6404x5 .f32, Host.convertf .fp8e4m3 (clipV (overV y z)) (ix5 l b s h e) =
      min (Ideal.ofBits .f32 1138753536#32) (max (Ideal.ofBits .f32 3286237184#32) (y (ix5 l b s h e) * Ideal.div 1 (z (ix4 l b s h)))) := by
    intro z
    unfold clipV overV id; pointwise
  unfold codesV rowCode
  rw [h1, scalesV_apply]

end Cert.ReferenceIdeal.Ref
end
-- ==== Proof.RefValue.lean ====
/-
  The reference's four results as functions of its arguments: the widened codes are the codes, and each host line read
  at an index gives the projection, the normalised keys, and a row's codes and scale.
-/
module

public import proofs.«01_k».proof.Proof.RefBits
public import proofs.«01_k».proof.Proof.Meaning

@[expose] public section

set_option maxRecDepth 16384

noncomputable section

namespace Cert.ReferenceIdeal.Ref

open Cert.ReferenceIdeal Cert.ReferenceIdeal.Gen
open Idealize.ShloMosaic Idealize.ShloMosaic.TcCoe Idealize.SL.Sem Idealize.ShloMosaic.StableHlo
open Cert.Quant Cert.Meaning

/-! ## The widening region -/

section Widen

variable {F : FTy → Type} [FloatOps F]
variable (m : (ℓ : Loc nD τ sig) → Buf (Elt F) ℓ)

theorem hz3 : (![0, 0, 0] : Fin 3 → ℕ) = fun _ => 0 := by decide
theorem hz4 : (![0, 0, 0, 0] : Fin 4 → ℕ) = fun _ => 0 := by decide

/-- Array 3 of the region holds the widened codes of `main_arg0`. -/
def wide3 (c : Dev nD) : FVec F S6x6404x4096 .bf16 := k0_pay1 (V m c main_arg0)

theorem flushed_3 (c : Dev nD) (t : Fin cfg0.N) :
    (dats m 0 c).flushed 3 t = ((cfg0.win 3).blk t).view.read (Elt F) (wide3 m c) := by
  show (cfg0.win 3).cut (grid0.coords t) ((dats m 0 c).after 3 t) = _
  rw [after0_3]
  unfold out0_3
  rw [View.canon_unit_zero hz3, View.ld_unit_zero hz3]
  rfl

theorem cover_3 (i : S6x6404x4096.Idx) :
    ∃ t : Fin cfg0.N, (cfg0.win 3).flush t = true ∧ i ∈ ((cfg0.win 3).blk t).view.set := by
  have hN : cfg0.N = 1 := N_0
  refine ⟨⟨0, by omega⟩, flush0_3 _, ?_⟩
  generalize (⟨0, _⟩ : Fin cfg0.N) = t
  show i ∈ ((View.whole main_v0_0).slice (win0_3.rect t)).set
  rw [View.set_slice_whole, Rect.mem_set_unit]
  intro a
  have e : ∀ a, win0_3.index t a * win0_3.size a = 0 ∧ win0_3.xsize (grid0.coords t) a = S6x6404x4096.size a := by
    rcases fin_N0 t with rfl; decide +kernel
  have h1 := (i a).isLt
  show win0_3.index t a * win0_3.size a ≤ (i a : Nat) ∧ (i a : Nat) < win0_3.index t a * win0_3.size a + win0_3.xsize (grid0.coords t) a
  rw [(e a).1, (e a).2]
  exact ⟨Nat.zero_le _, by rw [Nat.zero_add]; exact h1⟩

theorem final_3 (c : Dev nD) : (dats m 0 c).arrAt 3 cfg0.N = wide3 m c :=
  (dats m 0 c).arrAt_eq_of_cover 3 (wide3 m c) (fun t _ => flushed_3 m c t) cover_3

/-- Array 4 of the region holds the widened codes of `main_arg2`. -/
def wide4 (c : Dev nD) : FVec F S8x4096x5x128 .bf16 := k0_pay2 (V m c main_arg2)

theorem flushed_4 (c : Dev nD) (t : Fin cfg0.N) :
    (dats m 0 c).flushed 4 t = ((cfg0.win 4).blk t).view.read (Elt F) (wide4 m c) := by
  show (cfg0.win 4).cut (grid0.coords t) ((dats m 0 c).after 4 t) = _
  rw [after0_4]
  unfold out0_4
  rw [View.canon_unit_zero hz4, View.ld_unit_zero hz4]
  rfl

theorem cover_4 (i : S8x4096x5x128.Idx) :
    ∃ t : Fin cfg0.N, (cfg0.win 4).flush t = true ∧ i ∈ ((cfg0.win 4).blk t).view.set := by
  have hN : cfg0.N = 1 := N_0
  refine ⟨⟨0, by omega⟩, flush0_4 _, ?_⟩
  generalize (⟨0, _⟩ : Fin cfg0.N) = t
  show i ∈ ((View.whole main_v0_1).slice (win0_4.rect t)).set
  rw [View.set_slice_whole, Rect.mem_set_unit]
  intro a
  have e : ∀ a, win0_4.index t a * win0_4.size a = 0 ∧ win0_4.xsize (grid0.coords t) a = S8x4096x5x128.size a := by
    rcases fin_N0 t with rfl; decide +kernel
  have h1 := (i a).isLt
  show win0_4.index t a * win0_4.size a ≤ (i a : Nat) ∧ (i a : Nat) < win0_4.index t a * win0_4.size a + win0_4.xsize (grid0.coords t) a
  rw [(e a).1, (e a).2]
  exact ⟨Nat.zero_le _, by rw [Nat.zero_add]; exact h1⟩

theorem final_4 (c : Dev nD) : (dats m 0 c).arrAt 4 cfg0.N = wide4 m c :=
  (dats m 0 c).arrAt_eq_of_cover 4 (wide4 m c) (fun t _ => flushed_4 m c t) cover_4

/-- Array 5 of the region holds the widened codes of `main_arg4`. -/
def wide5 (c : Dev nD) : FVec F S8x4096x5x128 .bf16 := k0_pay3 (V m c main_arg4)

theorem flushed_5 (c : Dev nD) (t : Fin cfg0.N) :
    (dats m 0 c).flushed 5 t = ((cfg0.win 5).blk t).view.read (Elt F) (wide5 m c) := by
  show (cfg0.win 5).cut (grid0.coords t) ((dats m 0 c).after 5 t) = _
  rw [after0_5]
  unfold out0_5
  rw [View.canon_unit_zero hz4, View.ld_unit_zero hz4]
  rfl

theorem cover_5 (i : S8x4096x5x128.Idx) :
    ∃ t : Fin cfg0.N, (cfg0.win 5).flush t = true ∧ i ∈ ((cfg0.win 5).blk t).view.set := by
  have hN : cfg0.N = 1 := N_0
  refine ⟨⟨0, by omega⟩, flush0_5 _, ?_⟩
  generalize (⟨0, _⟩ : Fin cfg0.N) = t
  show i ∈ ((View.whole main_v0_2).slice (win0_5.rect t)).set
  rw [View.set_slice_whole, Rect.mem_set_unit]
  intro a
  have e : ∀ a, win0_5.index t a * win0_5.size a = 0 ∧ win0_5.xsize (grid0.coords t) a = S8x4096x5x128.size a := by
    rcases fin_N0 t with rfl; decide +kernel
  have h1 := (i a).isLt
  show win0_5.index t a * win0_5.size a ≤ (i a : Nat) ∧ (i a : Nat) < win0_5.index t a * win0_5.size a + win0_5.xsize (grid0.coords t) a
  rw [(e a).1, (e a).2]
  exact ⟨Nat.zero_le _, by rw [Nat.zero_add]; exact h1⟩

theorem final_5 (c : Dev nD) : (dats m 0 c).arrAt 5 cfg0.N = wide5 m c :=
  (dats m 0 c).arrAt_eq_of_cover 5 (wide5 m c) (fun t _ => flushed_5 m c t) cover_5

end Widen

/-! ## The four results -/

section Values

variable (m : (ℓ : Loc nD τ sig) → Buf (Elt Ideal) ℓ) (ρ : Dev nD → PrngReg)

/-- The arguments read by coordinates. -/
def X (c : Dev nD) : Fin 6 → Fin 6404 → Fin 4096 → EReal := fun b s d => (m ((c.tc : Thread nD τ).loc main_arg0) : S6x6404x4096.Idx → EReal) (ix3 b s d)
def SX (c : Dev nD) : Fin 6 → Fin 6404 → Fin 32 → EReal := fun b s j => (m ((c.tc : Thread nD τ).loc main_arg1) : S6x6404x32.Idx → EReal) (ix3 b s j)
def WK (c : Dev nD) : Fin 8 → Fin 4096 → Fin 5 → Fin 128 → EReal := fun l d h e => (m ((c.tc : Thread nD τ).loc main_arg2) : S8x4096x5x128.Idx → EReal) (ix4 l d h e)
def SK (c : Dev nD) : Fin 8 → Fin 32 → Fin 5 → EReal := fun l j h => (m ((c.tc : Thread nD τ).loc main_arg3) : S8x32x5.Idx → EReal) (ix3 l j h)
def WV (c : Dev nD) : Fin 8 → Fin 4096 → Fin 5 → Fin 128 → EReal := fun l d h e => (m ((c.tc : Thread nD τ).loc main_arg4) : S8x4096x5x128.Idx → EReal) (ix4 l d h e)
def SV (c : Dev nD) : Fin 8 → Fin 32 → Fin 5 → EReal := fun l j h => (m ((c.tc : Thread nD τ).loc main_arg5) : S8x32x5.Idx → EReal) (ix3 l j h)
def GK (c : Dev nD) : Fin 8 → Fin 128 → EReal := fun l e => (m ((c.tc : Thread nD τ).loc main_arg6) : S8x128.Idx → EReal) (ix2 l e)

/-- The keys' codes, -/
def kCodes (c : Dev nD) : S8x6x6404x5x128.Idx → EReal :=
  fun i => rowCode (keys (X m c) (SX m c) (WK m c) (SK m c) (GK m c) (i 0) (i 1) (i 2) (i 3)) (i 4)
/-- their scales, -/
def kScales (c : Dev nD) : S8x6x6404x5.Idx → EReal :=
  fun i => rowScale (keys (X m c) (SX m c) (WK m c) (SK m c) (GK m c) (i 0) (i 1) (i 2) (i 3))
/-- the values' codes, -/
def vCodes (c : Dev nD) : S8x6x6404x5x128.Idx → EReal :=
  fun i => rowCode (proj (X m c) (SX m c) (WV m c) (SV m c) (i 0) (i 1) (i 2) (i 3)) (i 4)
/-- and theirs. -/
def vScales (c : Dev nD) : S8x6x6404x5.Idx → EReal :=
  fun i => rowScale (proj (X m c) (SX m c) (WV m c) (SV m c) (i 0) (i 1) (i 2) (i 3))

/-- A row of the projection, from the codes and the scales. -/
theorem proj_eq (x : FVec Ideal S6x6404x4096 .bf16) (xs : FVec Ideal S6x6404x32 .f32) (w : FVec Ideal S8x4096x5x128 .bf16)
    (ws : FVec Ideal S8x32x5 .f32) (l : Fin 8) (b : Fin 6) (s : Fin 6404) (h : Fin 5) (e : Fin 128) :
    projV (xbV x xs) (wV w ws) (ix5 l b s h e) =
      proj (fun b s d => x (ix3 b s d)) (fun b s j => xs (ix3 b s j)) (fun l d h e => w (ix4 l d h e)) (fun l j h => ws (ix3 l j h)) l b s h e := by
  rw [projV_apply]
  unfold proj
  refine Finset.sum_congr rfl fun d _ => ?_
  rw [xbV_apply, wV_apply, mul_comm]

/-- The buffers the host lines after the region start from. -/
def W (c : Dev nD) : Valuation τ sig (Elt Ideal) :=
  Pipeline.withArrays (cfgs 0).spec c (V0 m c) (fun w => (dats m 0 c).arrAt w (cfgs 0).N)

theorem wide3_eq (c : Dev nD) : (wide3 m c : S6x6404x4096.Idx → EReal) = m ((c.tc : Thread nD τ).loc main_arg0) := rfl
theorem wide4_eq (c : Dev nD) : (wide4 m c : S8x4096x5x128.Idx → EReal) = m ((c.tc : Thread nD τ).loc main_arg2) := rfl
theorem wide5_eq (c : Dev nD) : (wide5 m c : S8x4096x5x128.Idx → EReal) = m ((c.tc : Thread nD τ).loc main_arg4) := rfl

theorem W_main_v0_0 (c : Dev nD) : W m c (Proc.devRef .tc main_v0_0) = wide3 m c :=
  (Pipeline.withArrays_arr _ launch0.win.arr_inj c _ _ 3).trans (final_3 m c)
theorem W_main_v0_1 (c : Dev nD) : W m c (Proc.devRef .tc main_v0_1) = wide4 m c :=
  (Pipeline.withArrays_arr _ launch0.win.arr_inj c _ _ 4).trans (final_4 m c)
theorem W_main_v0_2 (c : Dev nD) : W m c (Proc.devRef .tc main_v0_2) = wide5 m c :=
  (Pipeline.withArrays_arr _ launch0.win.arr_inj c _ _ 5).trans (final_5 m c)
theorem W_arg1 (c : Dev nD) : W m c (Proc.devRef .tc main_arg1) = m ((c.tc : Thread nD τ).loc main_arg1) :=
  Pipeline.withArrays_of_ne _ c (V0 m c) _ main_arg1 (by exact (by decide : ∀ w, Pipeline.arrRef spec0 w ≠ main_arg1))
theorem W_arg3 (c : Dev nD) : W m c (Proc.devRef .tc main_arg3) = m ((c.tc : Thread nD τ).loc main_arg3) :=
  Pipeline.withArrays_of_ne _ c (V0 m c) _ main_arg3 (by exact (by decide : ∀ w, Pipeline.arrRef spec0 w ≠ main_arg3))
theorem W_arg5 (c : Dev nD) : W m c (Proc.devRef .tc main_arg5) = m ((c.tc : Thread nD τ).loc main_arg5) :=
  Pipeline.withArrays_of_ne _ c (V0 m c) _ main_arg5 (by exact (by decide : ∀ w, Pipeline.arrRef spec0 w ≠ main_arg5))
theorem W_arg6 (c : Dev nD) : W m c (Proc.devRef .tc main_arg6) = m ((c.tc : Thread nD τ).loc main_arg6) :=
  Pipeline.withArrays_of_ne _ c (V0 m c) _ main_arg6 (by exact (by decide : ∀ w, Pipeline.arrRef spec0 w ≠ main_arg6))

/-- The values' rows, -/
theorem vV_row (c : Dev nD) (l : Fin 8) (b : Fin 6) (s : Fin 6404) (h : Fin 5) :
    (fun e => vV (W m c) (ix5 l b s h e)) = proj (X m c) (SX m c) (WV m c) (SV m c) l b s h := by
  unfold vV
  rw [W_main_v0_0, W_main_v0_2, W_arg1, W_arg5]
  funext e
  exact proj_eq _ _ _ _ l b s h e

/-- and the keys'. -/
theorem kV_row (c : Dev nD) (l : Fin 8) (b : Fin 6) (s : Fin 6404) (h : Fin 5) :
    (fun e => kV (W m c) (ix5 l b s h e)) = keys (X m c) (SX m c) (WK m c) (SK m c) (GK m c) l b s h := by
  unfold kV
  rw [W_main_v0_0, W_main_v0_1, W_arg1, W_arg3, W_arg6]
  funext e
  refine (normV_apply _ _ l b s h e).trans ?_
  unfold keys
  exact congrArg (fun z => rowNorm z (GK m c l) e) (funext fun x => proj_eq _ _ _ _ l b s h x)

theorem tail_kCodes (c : Dev nD) : Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12] c main_v64 = kCodes m c := by
  unfold Pipeline.afterTail₀
  refine (all_v64 (W m c)).trans ?_
  funext i
  obtain ⟨l, b, s, h, e, rfl⟩ : ∃ l b s h e, i = ix5 l b s h e := ⟨_, _, _, _, _, eq_ix5 i⟩
  refine (codesV_apply _ l b s h e).trans ?_
  exact congrArg (fun z => rowCode z e) (kV_row m c l b s h)

theorem tail_kScales (c : Dev nD) : Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12] c main_v57 = kScales m c := by
  unfold Pipeline.afterTail₀
  refine (all_v57 (W m c)).trans ?_
  funext i
  obtain ⟨l, b, s, h, rfl⟩ : ∃ l b s h, i = ix4 l b s h := ⟨_, _, _, _, eq_ix4 i⟩
  refine (scalesV_apply _ l b s h).trans ?_
  exact congrArg rowScale (kV_row m c l b s h)

theorem tail_vCodes (c : Dev nD) : Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12] c main_v93 = vCodes m c := by
  unfold Pipeline.afterTail₀
  refine (all_v93 (W m c)).trans ?_
  funext i
  obtain ⟨l, b, s, h, e, rfl⟩ : ∃ l b s h e, i = ix5 l b s h e := ⟨_, _, _, _, _, eq_ix5 i⟩
  refine (codesV_apply _ l b s h e).trans ?_
  exact congrArg (fun z => rowCode z e) (vV_row m c l b s h)

theorem tail_vScales (c : Dev nD) : Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12] c main_v86 = vScales m c := by
  unfold Pipeline.afterTail₀
  refine (all_v86 (W m c)).trans ?_
  funext i
  obtain ⟨l, b, s, h, rfl⟩ : ∃ l b s h, i = ix4 l b s h := ⟨_, _, _, _, eq_ix4 i⟩
  refine (scalesV_apply _ l b s h).trans ?_
  exact congrArg rowScale (vV_row m c l b s h)

/-- The reference terminates with the four results at what the two programs mean, and its arguments unchanged. -/
theorem run_results : θ_run defs (onTc (τ := τ) (main (F := Ideal))) ⟨m, fun _ => 0, ρ⟩ (fun r => ∀ c : Dev nD,
      r.2.mem ((c.tc : Thread nD τ).loc main_v64) = kCodes m c
      ∧ r.2.mem ((c.tc : Thread nD τ).loc main_v57) = kScales m c
      ∧ r.2.mem ((c.tc : Thread nD τ).loc main_v93) = vCodes m c
      ∧ r.2.mem ((c.tc : Thread nD τ).loc main_v86) = vScales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v64 (Pipeline.mem_restRefs_of main_v64 (by decide) (by decide))).trans (tail_kCodes m c),
     ((h c).2 main_v57 (Pipeline.mem_restRefs_of main_v57 (by decide) (by decide))).trans (tail_kScales m c),
     ((h c).2 main_v93 (Pipeline.mem_restRefs_of main_v93 (by decide) (by decide))).trans (tail_vCodes m c),
     ((h c).2 main_v86 (Pipeline.mem_restRefs_of main_v86 (by decide) (by decide))).trans (tail_vScales m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).1 1).trans (((dats m 0 c).arrAt_in 1 rfl _).trans ((A_eq m c 1).trans (V_main_arg2 m c))),
     ((h c).2 main_arg3 (Pipeline.mem_restRefs_of main_arg3 (by decide) (by decide))).trans (W_main_arg3 m (dats m) c),
     ((h c).1 2).trans (((dats m 0 c).arrAt_in 2 rfl _).trans ((A_eq m c 2).trans (V_main_arg4 m c))),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c)⟩) (run_main m ρ)

end Values

end Cert.ReferenceIdeal.Ref
end
-- ==== Proof.Equal.lean ====
/-
  The equation of the two programs: from equal arguments they name the same four results, so both runs end at them.
-/
module

public import proofs.«01_k».proof.Defs
public import proofs.«01_k».proof.Proof.IdealResults
public import proofs.«01_k».proof.Proof.RefValue

@[expose] public section

noncomputable section

namespace Cert.Equal

open Idealize.ShloMosaic Idealize.SL.Sem

/-- Kernel and reference compute the same four arrays over the extended reals. -/
theorem algebraic : @Cert.algebraic_KernelIdeal_ReferenceIdeal Cert.KernelIdeal.Gen.facts Cert.ReferenceIdeal.Gen.facts := by
  intro m g m' g' _ h
  refine ⟨fun c => Cert.KernelIdeal.Val.kCodes m c, fun c => Cert.KernelIdeal.Val.kScales m c,
    fun c => Cert.KernelIdeal.Val.vCodes m c, fun c => Cert.KernelIdeal.Val.vScales m c,
    Cert.KernelIdeal.Val.run_results m g, ?_⟩
  refine (θ_run _ _ _).mono (fun r hr c => ?_) (Cert.ReferenceIdeal.Ref.run_results m' g')
  obtain ⟨h0, h1, h2, h3, h4, h5, h6⟩ := h c
  have eX : Cert.ReferenceIdeal.Ref.X m' c = Cert.KernelIdeal.Val.X m c := by
    funext b s d; exact congrFun h0 _
  have eSX : Cert.ReferenceIdeal.Ref.SX m' c = Cert.KernelIdeal.Val.SX m c := by
    funext b s j; exact congrFun h1 _
  have eWK : Cert.ReferenceIdeal.Ref.WK m' c = Cert.KernelIdeal.Val.WK m c := by
    funext l d h e; exact congrFun h2 _
  have eSK : Cert.ReferenceIdeal.Ref.SK m' c = Cert.KernelIdeal.Val.SK m c := by
    funext l j h; exact congrFun h3 _
  have eWV : Cert.ReferenceIdeal.Ref.WV m' c = Cert.KernelIdeal.Val.WV m c := by
    funext l d h e; exact congrFun h4 _
  have eSV : Cert.ReferenceIdeal.Ref.SV m' c = Cert.KernelIdeal.Val.SV m c := by
    funext l j h; exact congrFun h5 _
  have eGK : Cert.ReferenceIdeal.Ref.GK m' c = Cert.KernelIdeal.Val.GK m c := by
    funext l e; exact congrFun h6 _
  have kc : Cert.ReferenceIdeal.Ref.kCodes m' c = Cert.KernelIdeal.Val.kCodes m c := by
    unfold Cert.ReferenceIdeal.Ref.kCodes Cert.KernelIdeal.Val.kCodes
    rw [eX, eSX, eWK, eSK, eGK]
  have ks : Cert.ReferenceIdeal.Ref.kScales m' c = Cert.KernelIdeal.Val.kScales m c := by
    unfold Cert.ReferenceIdeal.Ref.kScales Cert.KernelIdeal.Val.kScales
    rw [eX, eSX, eWK, eSK, eGK]
  have vc : Cert.ReferenceIdeal.Ref.vCodes m' c = Cert.KernelIdeal.Val.vCodes m c := by
    unfold Cert.ReferenceIdeal.Ref.vCodes Cert.KernelIdeal.Val.vCodes
    rw [eX, eSX, eWV, eSV]
  have vs : Cert.ReferenceIdeal.Ref.vScales m' c = Cert.KernelIdeal.Val.vScales m c := by
    unfold Cert.ReferenceIdeal.Ref.vScales Cert.KernelIdeal.Val.vScales
    rw [eX, eSX, eWV, eSV]
  obtain ⟨r0, r1, r2, r3, ra⟩ := hr c
  exact ⟨r0.trans kc, r1.trans ks, r2.trans vc, r3.trans vs, ra⟩

end Cert.Equal
end
-- ==== Proof.lean ====
/-
  The certificate.  Each conjunct of `Cert.Claim` is proved in a module of its own; this file puts them together.
-/
module

public import proofs.«01_k».proof.Defs
public import proofs.«01_k».proof.Proof.KernelFrame
public import proofs.«01_k».proof.Proof.IdealFrame
public import proofs.«01_k».proof.Proof.Gen.ReferenceIdeal
public import proofs.«01_k».proof.Proof.Gen.ReferenceIdeal.Frame
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim of the certificate holds. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, Cert.Equal.algebraic⟩

end Cert.Proof

end
